-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_schedule : Cert.Pre_schedule.Facts] (m : (ℓ : Loc Cert.Kernel2.nD Cert.Kernel2.τ Cert.Kernel2.sig) → Buf (Elt Bits) ℓ) : Prop :=
  ∀ c : Dev Cert.Kernel2.nD,
    (Cert.Pre_schedule.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))) = (fun _ => 1#1)

def Pre_Kernel2Ideal [hPre_schedule : Cert.Pre_schedule.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_schedule.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_schedule [hPre_schedule : Cert.Pre_schedule.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_schedule.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_schedule : Cert.Pre_schedule.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] [hPre_schedule : Cert.Pre_schedule.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_schedule [hReference2Ideal : Cert.Reference2Ideal.Facts] [hPre_schedule : Cert.Pre_schedule.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_schedule m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_schedule : Cert.Pre_schedule.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_schedule : Cert.Pre_schedule.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_schedule := hPre_schedule)
    ∧ quiescent_Kernel2Ideal (hKernel2Ideal := hKernel2Ideal) (hPre_schedule := hPre_schedule)
    ∧ quiescent_Reference2Ideal (hReference2Ideal := hReference2Ideal)
    ∧ quiescent_Reference2Ideal_pre_schedule (hReference2Ideal := hReference2Ideal) (hPre_schedule := hPre_schedule)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_schedule := hPre_schedule)
-- ==== Pre_finite.lean ====
abbrev S8x2048x4x128 : Shape := ⟨4, ![8, 2048, 4, 128]⟩
abbrev S_ : Shape := ⟨0, ![]⟩

class Facts : Prop where
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  h_S_ : 0 < S_.numel

variable [Facts]

def fn {F : FTy → Type} [FloatOps F] (main_arg0 : FVec F S8x2048x4x128 .f32) (main_arg1 : FVec F S8x2048x4x128 .f32) (main_arg2 : FVec F S8x2048x4x128 .f32) : IVec S_ 1 :=
  let main_v0 : FVec F S8x2048x4x128 .f32 := Host.absf main_arg0
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_c : IVec S_ 1 := constantI S_ 1 1#1
  let main_v3 : IVec S_ 1 := (fun x v => Host.reduce IntOp.andi x v reducesTo_S8x2048x4x128_S_d0_1_2_3 h_S_) main_v2 main_c
  let main_v4 : FVec F S8x2048x4x128 .f32 := Host.absf main_arg1
  let main_cst_0 : FVec F S_ .f32 := constant S_ .f32 0x7F800000#32
  let main_v5 : FVec F S8x2048x4x128 .f32 := broadcastInDim S8x2048x4x128 ![] bcast_S_S8x2048x4x128 main_cst_0
  let main_v6 : IVec S8x2048x4x128 1 := cmpf .olt main_v4 main_v5
  let main_c_1 : IVec S_ 1 := constantI S_ 1 1#1
  let main_v7 : IVec S_ 1 := (fun x v => Host.reduce IntOp.andi x v reducesTo_S8x2048x4x128_S_d0_1_2_3 h_S_) main_v6 main_c_1
  let main_v8 : IVec S_ 1 := andi main_v3 main_v7
  main_v8
-- ==== Pre_schedule.lean ====
abbrev S160 : Shape := ⟨1, ![160]⟩
abbrev S32 : Shape := ⟨1, ![32]⟩
abbrev S32768x2048 : Shape := ⟨2, ![32768, 2048]⟩
abbrev S2x32x2048x512 : Shape := ⟨4, ![2, 32, 2048, 512]⟩
abbrev S2x32x512x2048 : Shape := ⟨4, ![2, 32, 512, 2048]⟩
abbrev S_ : Shape := ⟨0, ![]⟩
abbrev S1 : Shape := ⟨1, ![1]⟩
abbrev S159 : Shape := ⟨1, ![159]⟩
abbrev S31 : Shape := ⟨1, ![31]⟩
abbrev S1x32 : Shape := ⟨2, ![1, 32]⟩
abbrev S160x1 : Shape := ⟨2, ![160, 1]⟩
abbrev S160x32 : Shape := ⟨2, ![160, 32]⟩

class Facts : Prop where
  bcast_S_S160 : S_.BroadcastsInDim S160 (![] : Fin 0 → Fin S160.rank)
  slices_S160_S1_0 : S160.Slices ![0] S1
  bcast_S_S1 : S_.BroadcastsInDim S1 (![] : Fin 0 → Fin S1.rank)
  slices_S160_S1_159 : S160.Slices ![159] S1
  slices_S160_S159_0 : S160.Slices ![0] S159
  slices_S160_S159_1 : S160.Slices ![1] S159
  bcast_S_S159 : S_.BroadcastsInDim S159 (![] : Fin 0 → Fin S159.rank)
  slices_S32_S31_0 : S32.Slices ![0] S31
  concatenates_S1_S31_S32_d0 : Shape.Concatenates [S1, S31] S32 0
  bcast_S32_S1x32_1 : S32.BroadcastsInDim S1x32 (![1] : Fin 1 → Fin S1x32.rank)
  bcast_S160_S160x1_0 : S160.BroadcastsInDim S160x1 (![0] : Fin 1 → Fin S160x1.rank)
  bcast_S1x32_S160x32_0_1 : S1x32.BroadcastsInDim S160x32 (![0, 1] : Fin 2 → Fin S160x32.rank)
  bcast_S160x1_S160x32_0_1 : S160x1.BroadcastsInDim S160x32 (![0, 1] : Fin 2 → Fin S160x32.rank)
  slices_S32_S31_1 : S32.Slices ![1] S31
  reducesTo_S160_S_d0 : S160.ReducesTo [0] S_
  h_S_ : 0 < S_.numel
  reducesTo_S1_S_d0 : S1.ReducesTo [0] S_
  reducesTo_S159_S_d0 : S159.ReducesTo [0] S_
  reducesTo_S160x32_S_d0_1 : S160x32.ReducesTo [0, 1] S_
  reducesTo_S31_S_d0 : S31.ReducesTo [0] S_
  slices_S32_S1_0 : S32.Slices ![0] S1

variable [Facts]

def fn_where {F : FTy → Type} [FloatOps F] (arg0 : IVec S159 1) (arg1 : IVec S159 1) (arg2 : IVec S159 1) : IVec S159 1 :=
  let v0 : IVec S159 1 := select arg0 arg1 arg2
  v0

def fn_part8 {F : FTy → Type} [FloatOps F] (main_v154 : IVec S_ 1) (main_v157 : IVec S1 1) : IVec S_ 1 :=
  let main_c_33 : IVec S_ 1 := constantI S_ 1 1#1
  let main_v158 : IVec S_ 1 := (fun x v => Host.reduce IntOp.andi x v reducesTo_S1_S_d0 h_S_) main_v157 main_c_33
  let main_v159 : IVec S_ 1 := andi main_v154 main_v158
  main_v159

def fn_part7 {F : FTy → Type} [FloatOps F] (main_arg9 : IVec S32 32) (main_v19 : IVec S160 1) (main_v38 : IVec S1 1) (main_v49 : IVec S1 1) (main_v73 : IVec S159 1) (main_v112 : IVec S159 1) (main_v139 : IVec S160x32 1) (main_v140 : IVec S31 32) : IVec S_ 1 :=
  let main_v141 : IVec S31 32 := (extractStridedSlice S31 ![1] · slices_S32_S31_1) main_arg9
  let main_v142 : IVec S31 1 := cmpi .sle main_v140 main_v141
  let main_c_26 : IVec S_ 1 := constantI S_ 1 1#1
  let main_v143 : IVec S_ 1 := (fun x v => Host.reduce IntOp.andi x v reducesTo_S160_S_d0 h_S_) main_v19 main_c_26
  let main_c_27 : IVec S_ 1 := constantI S_ 1 1#1
  let main_v144 : IVec S_ 1 := (fun x v => Host.reduce IntOp.andi x v reducesTo_S1_S_d0 h_S_) main_v38 main_c_27
  let main_v145 : IVec S_ 1 := andi main_v143 main_v144
  let main_c_28 : IVec S_ 1 := constantI S_ 1 1#1
  let main_v146 : IVec S_ 1 := (fun x v => Host.reduce IntOp.andi x v reducesTo_S1_S_d0 h_S_) main_v49 main_c_28
  let main_v147 : IVec S_ 1 := andi main_v145 main_v146
  let main_v148 : IVec S159 1 := andi main_v73 main_v112
  let main_c_29 : IVec S_ 1 := constantI S_ 1 1#1
  let main_v149 : IVec S_ 1 := (fun x v => Host.reduce IntOp.andi x v reducesTo_S159_S_d0 h_S_) main_v148 main_c_29
  let main_v150 : IVec S_ 1 := andi main_v147 main_v149
  let main_c_30 : IVec S_ 1 := constantI S_ 1 1#1
  let main_v151 : IVec S_ 1 := (fun x v => Host.reduce IntOp.andi x v reducesTo_S160x32_S_d0_1 h_S_) main_v139 main_c_30
  let main_v152 : IVec S_ 1 := andi main_v150 main_v151
  let main_c_31 : IVec S_ 1 := constantI S_ 1 1#1
  let main_v153 : IVec S_ 1 := (fun x v => Host.reduce IntOp.andi x v reducesTo_S31_S_d0 h_S_) main_v142 main_c_31
  let main_v154 : IVec S_ 1 := andi main_v152 main_v153
  let main_v155 : IVec S1 32 := (extractStridedSlice S1 ![0] · slices_S32_S1_0) main_arg9
  let main_c_32 : IVec S_ 32 := constantI S_ 32 0#32
  let main_v156 : IVec S1 32 := broadcastInDim S1 ![] bcast_S_S1 main_c_32
  let main_v157 : IVec S1 1 := cmpi .sge main_v155 main_v156
  fn_part8 (F := F) main_v154 main_v157

def fn_part6 {F : FTy → Type} [FloatOps F] (main_arg0 : IVec S160 32) (main_arg1 : IVec S160 32) (main_arg2 : IVec S160 32) (main_arg3 : IVec S160 32) (main_arg9 : IVec S32 32) (main_v19 : IVec S160 1) (main_v38 : IVec S1 1) (main_v49 : IVec S1 1) (main_v73 : IVec S159 1) (main_v112 : IVec S159 1) (main_v116 : IVec S1x32 32) (main_v117 : IVec S160 32) : IVec S_ 1 :=
  let main_v118 : IVec S160 32 := muli main_v117 main_arg0
  let main_v119 : IVec S160 32 := addi main_v118 main_arg2
  let main_v120 : IVec S160x1 32 := broadcastInDim S160x1 ![0] bcast_S160_S160x1_0 main_v119
  let main_v121 : IVec S160x32 32 := broadcastInDim S160x32 ![0, 1] bcast_S1x32_S160x32_0_1 main_v116
  let main_v122 : IVec S160x32 32 := broadcastInDim S160x32 ![0, 1] bcast_S160x1_S160x32_0_1 main_v120
  let main_v123 : IVec S160x32 1 := cmpi .sle main_v121 main_v122
  let main_c_25 : IVec S_ 32 := constantI S_ 32 256#32
  let main_v124 : IVec S160 32 := broadcastInDim S160 ![] bcast_S_S160 main_c_25
  let main_v125 : IVec S160 32 := muli main_v124 main_arg0
  let main_v126 : IVec S160 32 := addi main_v125 main_arg3
  let main_v127 : IVec S160x1 32 := broadcastInDim S160x1 ![0] bcast_S160_S160x1_0 main_v126
  let main_v128 : IVec S1x32 32 := broadcastInDim S1x32 ![1] bcast_S32_S1x32_1 main_arg9
  let main_v129 : IVec S160x32 32 := broadcastInDim S160x32 ![0, 1] bcast_S160x1_S160x32_0_1 main_v127
  let main_v130 : IVec S160x32 32 := broadcastInDim S160x32 ![0, 1] bcast_S1x32_S160x32_0_1 main_v128
  let main_v131 : IVec S160x32 1 := cmpi .sle main_v129 main_v130
  let main_v132 : IVec S160x32 1 := andi main_v123 main_v131
  let main_v133 : IVec S160x1 32 := broadcastInDim S160x1 ![0] bcast_S160_S160x1_0 main_arg1
  let main_v134 : IVec S32 32 := iotaInDim S32 32 0
  let main_v135 : IVec S1x32 32 := broadcastInDim S1x32 ![1] bcast_S32_S1x32_1 main_v134
  let main_v136 : IVec S160x32 32 := broadcastInDim S160x32 ![0, 1] bcast_S160x1_S160x32_0_1 main_v133
  let main_v137 : IVec S160x32 32 := broadcastInDim S160x32 ![0, 1] bcast_S1x32_S160x32_0_1 main_v135
  let main_v138 : IVec S160x32 1 := cmpi .ne main_v136 main_v137
  let main_v139 : IVec S160x32 1 := ori main_v138 main_v132
  let main_v140 : IVec S31 32 := (extractStridedSlice S31 ![0] · slices_S32_S31_0) main_arg9
  fn_part7 (F := F) main_arg9 main_v19 main_v38 main_v49 main_v73 main_v112 main_v139 main_v140

def fn_part5 {F : FTy → Type} [FloatOps F] (main_arg0 : IVec S160 32) (main_arg1 : IVec S160 32) (main_arg2 : IVec S160 32) (main_arg3 : IVec S160 32) (main_arg4 : IVec S160 32) (main_arg9 : IVec S32 32) (main_v19 : IVec S160 1) (main_v38 : IVec S1 1) (main_v49 : IVec S1 1) (main_v73 : IVec S159 1) (main_v90 : IVec S159 1) (main_v93 : IVec S159 1) (main_v96 : IVec S159 1) (main_v97 : IVec S159 32) : IVec S_ 1 :=
  let main_v98 : IVec S159 32 := (extractStridedSlice S159 ![0] · slices_S160_S159_0) main_arg3
  let main_v99 : IVec S159 1 := cmpi .eq main_v97 main_v98
  let main_v100 : IVec S159 1 := fn_where (F := F) main_v93 main_v96 main_v99
  let main_v101 : IVec S159 32 := (extractStridedSlice S159 ![1] · slices_S160_S159_1) main_arg4
  let main_c_21 : IVec S_ 32 := constantI S_ 32 0#32
  let main_v102 : IVec S159 32 := broadcastInDim S159 ![] bcast_S_S159 main_c_21
  let main_v103 : IVec S159 1 := cmpi .eq main_v101 main_v102
  let main_v104 : IVec S159 32 := (extractStridedSlice S159 ![1] · slices_S160_S159_1) main_arg0
  let main_v105 : IVec S159 32 := (extractStridedSlice S159 ![0] · slices_S160_S159_0) main_arg0
  let main_v106 : IVec S159 1 := cmpi .eq main_v104 main_v105
  let main_v107 : IVec S159 1 := andi main_v103 main_v106
  let main_v108 : IVec S159 1 := andi main_v107 main_v100
  let main_v109 : IVec S159 32 := (extractStridedSlice S159 ![1] · slices_S160_S159_1) main_arg4
  let main_c_22 : IVec S_ 32 := constantI S_ 32 1#32
  let main_v110 : IVec S159 32 := broadcastInDim S159 ![] bcast_S_S159 main_c_22
  let main_v111 : IVec S159 1 := cmpi .eq main_v109 main_v110
  let main_v112 : IVec S159 1 := fn_where (F := F) main_v111 main_v90 main_v108
  let main_c_23 : IVec S_ 32 := constantI S_ 32 0#32
  let main_v113 : IVec S1 32 := broadcastInDim S1 ![] bcast_S_S1 main_c_23
  let main_v114 : IVec S31 32 := (extractStridedSlice S31 ![0] · slices_S32_S31_0) main_arg9
  let main_v115 : IVec S32 32 := (fun a b => concatenate S32 0 [⟨S1, a⟩, ⟨S31, b⟩] concatenates_S1_S31_S32_d0) main_v113 main_v114
  let main_v116 : IVec S1x32 32 := broadcastInDim S1x32 ![1] bcast_S32_S1x32_1 main_v115
  let main_c_24 : IVec S_ 32 := constantI S_ 32 256#32
  let main_v117 : IVec S160 32 := broadcastInDim S160 ![] bcast_S_S160 main_c_24
  fn_part6 (F := F) main_arg0 main_arg1 main_arg2 main_arg3 main_arg9 main_v19 main_v38 main_v49 main_v73 main_v112 main_v116 main_v117

def fn_part4 {F : FTy → Type} [FloatOps F] (main_arg0 : IVec S160 32) (main_arg1 : IVec S160 32) (main_arg2 : IVec S160 32) (main_arg3 : IVec S160 32) (main_arg4 : IVec S160 32) (main_arg5 : IVec S160 32) (main_arg9 : IVec S32 32) (main_v19 : IVec S160 1) (main_v38 : IVec S1 1) (main_v49 : IVec S1 1) (main_v73 : IVec S159 1) (main_v76 : IVec S159 1) (main_v77 : IVec S159 32) : IVec S_ 1 :=
  let main_v78 : IVec S159 32 := (extractStridedSlice S159 ![0] · slices_S160_S159_0) main_arg0
  let main_c_17 : IVec S_ 32 := constantI S_ 32 1#32
  let main_v79 : IVec S159 32 := broadcastInDim S159 ![] bcast_S_S159 main_c_17
  let main_v80 : IVec S159 32 := addi main_v78 main_v79
  let main_v81 : IVec S159 1 := cmpi .eq main_v77 main_v80
  let main_v82 : IVec S159 1 := andi main_v76 main_v81
  let main_v83 : IVec S159 32 := (extractStridedSlice S159 ![1] · slices_S160_S159_1) main_arg2
  let main_c_18 : IVec S_ 32 := constantI S_ 32 0#32
  let main_v84 : IVec S159 32 := broadcastInDim S159 ![] bcast_S_S159 main_c_18
  let main_v85 : IVec S159 1 := cmpi .eq main_v83 main_v84
  let main_v86 : IVec S159 1 := andi main_v82 main_v85
  let main_v87 : IVec S159 32 := (extractStridedSlice S159 ![1] · slices_S160_S159_1) main_arg5
  let main_c_19 : IVec S_ 32 := constantI S_ 32 1#32
  let main_v88 : IVec S159 32 := broadcastInDim S159 ![] bcast_S_S159 main_c_19
  let main_v89 : IVec S159 1 := cmpi .eq main_v87 main_v88
  let main_v90 : IVec S159 1 := andi main_v86 main_v89
  let main_v91 : IVec S159 32 := (extractStridedSlice S159 ![1] · slices_S160_S159_1) main_arg5
  let main_c_20 : IVec S_ 32 := constantI S_ 32 1#32
  let main_v92 : IVec S159 32 := broadcastInDim S159 ![] bcast_S_S159 main_c_20
  let main_v93 : IVec S159 1 := cmpi .eq main_v91 main_v92
  let main_v94 : IVec S159 32 := (extractStridedSlice S159 ![1] · slices_S160_S159_1) main_arg2
  let main_v95 : IVec S159 32 := (extractStridedSlice S159 ![0] · slices_S160_S159_0) main_arg3
  let main_v96 : IVec S159 1 := cmpi .eq main_v94 main_v95
  let main_v97 : IVec S159 32 := (extractStridedSlice S159 ![1] · slices_S160_S159_1) main_arg3
  fn_part5 (F := F) main_arg0 main_arg1 main_arg2 main_arg3 main_arg4 main_arg9 main_v19 main_v38 main_v49 main_v73 main_v90 main_v93 main_v96 main_v97

def fn_part3 {F : FTy → Type} [FloatOps F] (main_arg0 : IVec S160 32) (main_arg1 : IVec S160 32) (main_arg2 : IVec S160 32) (main_arg3 : IVec S160 32) (main_arg4 : IVec S160 32) (main_arg5 : IVec S160 32) (main_arg6 : IVec S160 32) (main_arg7 : IVec S160 32) (main_arg8 : IVec S160 32) (main_arg9 : IVec S32 32) (main_v19 : IVec S160 1) (main_v38 : IVec S1 1) (main_v49 : IVec S1 1) (main_v52 : IVec S159 1) (main_v53 : IVec S159 32) (main_v54 : IVec S159 32) (main_v55 : IVec S159 32) : IVec S_ 1 :=
  let main_v56 : IVec S159 32 := subi main_v55 main_v54
  let main_v57 : IVec S159 1 := cmpi .eq main_v53 main_v56
  let main_v58 : IVec S159 1 := andi main_v52 main_v57
  let main_v59 : IVec S159 32 := (extractStridedSlice S159 ![1] · slices_S160_S159_1) main_arg1
  let main_v60 : IVec S159 32 := (extractStridedSlice S159 ![0] · slices_S160_S159_0) main_arg1
  let main_v61 : IVec S159 1 := cmpi .eq main_v59 main_v60
  let main_v62 : IVec S159 32 := (extractStridedSlice S159 ![1] · slices_S160_S159_1) main_arg7
  let main_v63 : IVec S159 32 := (extractStridedSlice S159 ![0] · slices_S160_S159_0) main_arg7
  let main_v64 : IVec S159 1 := cmpi .eq main_v62 main_v63
  let main_v65 : IVec S159 1 := andi main_v61 main_v64
  let main_v66 : IVec S159 32 := (extractStridedSlice S159 ![1] · slices_S160_S159_1) main_arg8
  let main_v67 : IVec S159 32 := (extractStridedSlice S159 ![0] · slices_S160_S159_0) main_arg8
  let main_v68 : IVec S159 1 := cmpi .eq main_v66 main_v67
  let main_v69 : IVec S159 1 := andi main_v65 main_v68
  let main_v70 : IVec S159 32 := (extractStridedSlice S159 ![1] · slices_S160_S159_1) main_arg6
  let main_c_15 : IVec S_ 32 := constantI S_ 32 1#32
  let main_v71 : IVec S159 32 := broadcastInDim S159 ![] bcast_S_S159 main_c_15
  let main_v72 : IVec S159 1 := cmpi .eq main_v70 main_v71
  let main_v73 : IVec S159 1 := fn_where (F := F) main_v72 main_v58 main_v69
  let main_v74 : IVec S159 32 := (extractStridedSlice S159 ![0] · slices_S160_S159_0) main_arg3
  let main_c_16 : IVec S_ 32 := constantI S_ 32 256#32
  let main_v75 : IVec S159 32 := broadcastInDim S159 ![] bcast_S_S159 main_c_16
  let main_v76 : IVec S159 1 := cmpi .eq main_v74 main_v75
  let main_v77 : IVec S159 32 := (extractStridedSlice S159 ![1] · slices_S160_S159_1) main_arg0
  fn_part4 (F := F) main_arg0 main_arg1 main_arg2 main_arg3 main_arg4 main_arg5 main_arg9 main_v19 main_v38 main_v49 main_v73 main_v76 main_v77

def fn_part2 {F : FTy → Type} [FloatOps F] (main_arg0 : IVec S160 32) (main_arg1 : IVec S160 32) (main_arg2 : IVec S160 32) (main_arg3 : IVec S160 32) (main_arg4 : IVec S160 32) (main_arg5 : IVec S160 32) (main_arg6 : IVec S160 32) (main_arg7 : IVec S160 32) (main_arg8 : IVec S160 32) (main_arg9 : IVec S32 32) (main_v19 : IVec S160 1) (main_v34 : IVec S1 1) (main_v35 : IVec S1 32) (main_c_10 : IVec S_ 32) : IVec S_ 1 :=
  let main_v36 : IVec S1 32 := broadcastInDim S1 ![] bcast_S_S1 main_c_10
  let main_v37 : IVec S1 1 := cmpi .eq main_v35 main_v36
  let main_v38 : IVec S1 1 := andi main_v34 main_v37
  let main_v39 : IVec S1 32 := (extractStridedSlice S1 ![159] · slices_S160_S1_159) main_arg0
  let main_c_11 : IVec S_ 32 := constantI S_ 32 127#32
  let main_v40 : IVec S1 32 := broadcastInDim S1 ![] bcast_S_S1 main_c_11
  let main_v41 : IVec S1 1 := cmpi .eq main_v39 main_v40
  let main_v42 : IVec S1 32 := (extractStridedSlice S1 ![159] · slices_S160_S1_159) main_arg3
  let main_c_12 : IVec S_ 32 := constantI S_ 32 256#32
  let main_v43 : IVec S1 32 := broadcastInDim S1 ![] bcast_S_S1 main_c_12
  let main_v44 : IVec S1 1 := cmpi .eq main_v42 main_v43
  let main_v45 : IVec S1 1 := andi main_v41 main_v44
  let main_v46 : IVec S1 32 := (extractStridedSlice S1 ![159] · slices_S160_S1_159) main_arg7
  let main_c_13 : IVec S_ 32 := constantI S_ 32 0#32
  let main_v47 : IVec S1 32 := broadcastInDim S1 ![] bcast_S_S1 main_c_13
  let main_v48 : IVec S1 1 := cmpi .slt main_v46 main_v47
  let main_v49 : IVec S1 1 := andi main_v45 main_v48
  let main_v50 : IVec S159 32 := (extractStridedSlice S159 ![0] · slices_S160_S159_0) main_arg7
  let main_v51 : IVec S159 32 := (extractStridedSlice S159 ![1] · slices_S160_S159_1) main_arg1
  let main_v52 : IVec S159 1 := cmpi .eq main_v50 main_v51
  let main_v53 : IVec S159 32 := (extractStridedSlice S159 ![1] · slices_S160_S159_1) main_arg8
  let main_v54 : IVec S159 32 := (extractStridedSlice S159 ![0] · slices_S160_S159_0) main_arg8
  let main_c_14 : IVec S_ 32 := constantI S_ 32 1#32
  let main_v55 : IVec S159 32 := broadcastInDim S159 ![] bcast_S_S159 main_c_14
  fn_part3 (F := F) main_arg0 main_arg1 main_arg2 main_arg3 main_arg4 main_arg5 main_arg6 main_arg7 main_arg8 main_arg9 main_v19 main_v38 main_v49 main_v52 main_v53 main_v54 main_v55

def fn_part1 {F : FTy → Type} [FloatOps F] (main_arg0 : IVec S160 32) (main_arg1 : IVec S160 32) (main_arg2 : IVec S160 32) (main_arg3 : IVec S160 32) (main_arg4 : IVec S160 32) (main_arg5 : IVec S160 32) (main_arg6 : IVec S160 32) (main_arg7 : IVec S160 32) (main_arg8 : IVec S160 32) (main_arg9 : IVec S32 32) (main_v13 : IVec S160 1) (main_v15 : IVec S160 1) (main_v16 : IVec S160 32) : IVec S_ 1 :=
  let main_v17 : IVec S160 1 := cmpi .eq main_arg8 main_v16
  let main_v18 : IVec S160 1 := ori main_v15 main_v17
  let main_v19 : IVec S160 1 := andi main_v13 main_v18
  let main_v20 : IVec S1 32 := (extractStridedSlice S1 ![0] · slices_S160_S1_0) main_arg0
  let main_c_6 : IVec S_ 32 := constantI S_ 32 0#32
  let main_v21 : IVec S1 32 := broadcastInDim S1 ![] bcast_S_S1 main_c_6
  let main_v22 : IVec S1 1 := cmpi .eq main_v20 main_v21
  let main_v23 : IVec S1 32 := (extractStridedSlice S1 ![0] · slices_S160_S1_0) main_arg4
  let main_c_7 : IVec S_ 32 := constantI S_ 32 1#32
  let main_v24 : IVec S1 32 := broadcastInDim S1 ![] bcast_S_S1 main_c_7
  let main_v25 : IVec S1 1 := cmpi .eq main_v23 main_v24
  let main_v26 : IVec S1 1 := andi main_v22 main_v25
  let main_v27 : IVec S1 32 := (extractStridedSlice S1 ![0] · slices_S160_S1_0) main_arg5
  let main_c_8 : IVec S_ 32 := constantI S_ 32 1#32
  let main_v28 : IVec S1 32 := broadcastInDim S1 ![] bcast_S_S1 main_c_8
  let main_v29 : IVec S1 1 := cmpi .eq main_v27 main_v28
  let main_v30 : IVec S1 1 := andi main_v26 main_v29
  let main_v31 : IVec S1 32 := (extractStridedSlice S1 ![0] · slices_S160_S1_0) main_arg2
  let main_c_9 : IVec S_ 32 := constantI S_ 32 0#32
  let main_v32 : IVec S1 32 := broadcastInDim S1 ![] bcast_S_S1 main_c_9
  let main_v33 : IVec S1 1 := cmpi .eq main_v31 main_v32
  let main_v34 : IVec S1 1 := andi main_v30 main_v33
  let main_v35 : IVec S1 32 := (extractStridedSlice S1 ![0] · slices_S160_S1_0) main_arg6
  let main_c_10 : IVec S_ 32 := constantI S_ 32 1#32
  fn_part2 (F := F) main_arg0 main_arg1 main_arg2 main_arg3 main_arg4 main_arg5 main_arg6 main_arg7 main_arg8 main_arg9 main_v19 main_v34 main_v35 main_c_10

def fn {F : FTy → Type} [FloatOps F] (main_arg0 : IVec S160 32) (main_arg1 : IVec S160 32) (main_arg2 : IVec S160 32) (main_arg3 : IVec S160 32) (main_arg4 : IVec S160 32) (main_arg5 : IVec S160 32) (main_arg6 : IVec S160 32) (main_arg7 : IVec S160 32) (main_arg8 : IVec S160 32) (main_arg9 : IVec S32 32) (main_arg10 : FVec F S32768x2048 .f32) (main_arg11 : FVec F S2x32x2048x512 .f32) (main_arg12 : FVec F S2x32x2048x512 .f32) (main_arg13 : FVec F S2x32x512x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 128#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 0#32
  let main_v5 : IVec S160 32 := broadcastInDim S160 ![] bcast_S_S160 main_c_1
  let main_v6 : IVec S160 1 := cmpi .sge main_arg1 main_v5
  let main_v7 : IVec S160 1 := andi main_v4 main_v6
  let main_c_2 : IVec S_ 32 := constantI S_ 32 32#32
  let main_v8 : IVec S160 32 := broadcastInDim S160 ![] bcast_S_S160 main_c_2
  let main_v9 : IVec S160 1 := cmpi .slt main_arg1 main_v8
  let main_v10 : IVec S160 1 := andi main_v7 main_v9
  let main_c_3 : IVec S_ 32 := constantI S_ 32 32#32
  let main_v11 : IVec S160 32 := broadcastInDim S160 ![] bcast_S_S160 main_c_3
  let main_v12 : IVec S160 1 := cmpi .slt main_arg7 main_v11
  let main_v13 : IVec S160 1 := andi main_v10 main_v12
  let main_c_4 : IVec S_ 32 := constantI S_ 32 0#32
  let main_v14 : IVec S160 32 := broadcastInDim S160 ![] bcast_S_S160 main_c_4
  let main_v15 : IVec S160 1 := cmpi .eq main_arg8 main_v14
  let main_c_5 : IVec S_ 32 := constantI S_ 32 1#32
  let main_v16 : IVec S160 32 := broadcastInDim S160 ![] bcast_S_S160 main_c_5
  fn_part1 (F := F) main_arg0 main_arg1 main_arg2 main_arg3 main_arg4 main_arg5 main_arg6 main_arg7 main_arg8 main_arg9 main_v13 main_v15 main_v16
-- ==== Kernel.lean ====
abbrev S8x2048x4x128 : Shape := ⟨4, ![8, 2048, 4, 128]⟩
abbrev S_ : Shape := ⟨0, ![]⟩
abbrev S16384x512 : Shape := ⟨2, ![16384, 512]⟩
abbrev S512x512 : Shape := ⟨2, ![512, 512]⟩
abbrev S2048x512 : Shape := ⟨2, ![2048, 512]⟩
abbrev S4x4x512x512 : Shape := ⟨4, ![4, 4, 512, 512]⟩
abbrev S4x512x128 : Shape := ⟨3, ![4, 512, 128]⟩
abbrev S4x512x256 : Shape := ⟨3, ![4, 512, 256]⟩
abbrev S512x128 : Shape := ⟨2, ![512, 128]⟩
abbrev S1x1x512x512 : Shape := ⟨4, ![1, 1, 512, 512]⟩
abbrev S1x512x128 : Shape := ⟨3, ![1, 512, 128]⟩
abbrev S512 : Shape := ⟨1, ![512]⟩
abbrev S512x1 : Shape := ⟨2, ![512, 1]⟩
abbrev S512x256 : Shape := ⟨2, ![512, 256]⟩
abbrev S1x512x256 : Shape := ⟨3, ![1, 512, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x128, .f32⟩
  | .hbm, ⟨2, _⟩ => ⟨S8x2048x4x128, .f32⟩
  | .hbm, ⟨3, _⟩ => ⟨S_, .f32⟩
  | .hbm, ⟨4, _⟩ => ⟨S8x2048x4x128, .f32⟩
  | .hbm, ⟨5, _⟩ => ⟨S8x2048x4x128, .f32⟩
  | .hbm, ⟨6, _⟩ => ⟨S16384x512, .f32⟩
  | .hbm, ⟨7, _⟩ => ⟨S16384x512, .bf16⟩
  | .hbm, ⟨8, _⟩ => ⟨S16384x512, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S4x4x512x512, .f32⟩
  | .local _ .vmem, ⟨9, _⟩ => ⟨S4x512x128, .f32⟩
  | .local _ .vmem, ⟨10, _⟩ => ⟨S4x512x256, .f32⟩
  | _, _ => ⟨S8x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  v18
def k0_off1 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v30 : Index := Scalar.indexCast v19
  let c0_8 : Index := 0#32
  ![v30.toNat, 0]
def k0_off2 (i : grid0.Coords) : Fin 4 → Nat :=
  let c0_10 : Index := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v36 : Index := Scalar.indexCast v17
  let c0_11 : Index := 0#32
  let c0_12 : Index := 0#32
  ![0, v36.toNat, 0, 0]
def k0_off3 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v53 : Index := Scalar.indexCast v19
  let c128_17 : Index := 128#32
  ![v53.toNat, 128]
def k0_off4 (i : grid0.Coords) : Fin 4 → Nat :=
  let c1 : Index := 1#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v59 : Index := Scalar.indexCast v17
  let c0_20 : Index := 0#32
  let c0_21 : Index := 0#32
  ![1, v59.toNat, 0, 0]
def k0_off5 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v76 : Index := Scalar.indexCast v19
  let c256_26 : Index := 256#32
  ![v76.toNat, 256]
def k0_off6 (i : grid0.Coords) : Fin 4 → Nat :=
  let c2 : Index := 2#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v82 : Index := Scalar.indexCast v17
  let c0_29 : Index := 0#32
  let c0_30 : Index := 0#32
  ![2, v82.toNat, 0, 0]
def k0_off7 (i : grid0.Coords) : Fin 2 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v99 : Index := Scalar.indexCast v19
  let c384_35 : Index := 384#32
  ![v99.toNat, 384]
def k0_off8 (i : grid0.Coords) : Fin 4 → Nat :=
  let c3 : Index := 3#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v105 : Index := Scalar.indexCast v17
  let c0_38 : Index := 0#32
  let c0_39 : Index := 0#32
  ![3, v105.toNat, 0, 0]
@[reducible] def k0_t1_loop (i : grid0.Coords) : Scf.Loop 32 :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_46 : BitVec 32 := 1#32
  ⟨c0_i32_44, v123, c1_i32_46⟩
def k0_mult2 (i : grid0.Coords) (k0_t1 : Fin (k0_t1_loop i).trips) : BitVec 32 :=
  let c0_i32_44 : BitVec 32 := 0#32
  let c1_i32_46 : BitVec 32 := 1#32
  let arg9 : BitVec 32 := Scf.iv c0_i32_44 c1_i32_46 k0_t1
  let c512_i32_133 : BitVec 32 := 512#32
  let v213 : BitVec 32 := Scalar.muli arg9 c512_i32_133
  v213
def k0_off9 (i : grid0.Coords) (k0_t1 : Fin (k0_t1_loop i).trips) : Fin 2 → Nat :=
  let c0_i32_44 : BitVec 32 := 0#32
  let c1_i32_46 : BitVec 32 := 1#32
  let arg9 : BitVec 32 := Scf.iv c0_i32_44 c1_i32_46 k0_t1
  let c512_i32_133 : BitVec 32 := 512#32
  let v213 : BitVec 32 := Scalar.muli arg9 c512_i32_133
  let v214 : BitVec 32 := v213
  let v215 : Index := Scalar.indexCast v214
  let c0_134 : Index := 0#32
  ![v215.toNat, 0]
def k0_off10 (i : grid0.Coords) (k0_t1 : Fin (k0_t1_loop i).trips) : Fin 4 → Nat :=
  let c0_136 : Index := 0#32
  let c0_i32_44 : BitVec 32 := 0#32
  let c1_i32_46 : BitVec 32 := 1#32
  let arg9 : BitVec 32 := Scf.iv c0_i32_44 c1_i32_46 k0_t1
  let v219 : Index := Scalar.indexCast arg9
  let c0_137 : Index := 0#32
  let c0_138 : Index := 0#32
  ![0, v219.toNat, 0, 0]
def k0_mult3 (i : grid0.Coords) (k0_t1 : Fin (k0_t1_loop i).trips) : BitVec 32 :=
  let c0_i32_44 : BitVec 32 := 0#32
  let c1_i32_46 : BitVec 32 := 1#32
  let arg9 : BitVec 32 := Scf.iv c0_i32_44 c1_i32_46 k0_t1
  let c512_i32_147 : BitVec 32 := 512#32
  let v238 : BitVec 32 := Scalar.muli arg9 c512_i32_147
  v238
def k0_off11 (i : grid0.Coords) (k0_t1 : Fin (k0_t1_loop i).trips) : Fin 2 → Nat :=
  let c0_i32_44 : BitVec 32 := 0#32
  let c1_i32_46 : BitVec 32 := 1#32
  let arg9 : BitVec 32 := Scf.iv c0_i32_44 c1_i32_46 k0_t1
  let c512_i32_147 : BitVec 32 := 512#32
  let v238 : BitVec 32 := Scalar.muli arg9 c512_i32_147
  let v239 : BitVec 32 := v238
  let v240 : Index := Scalar.indexCast v239
  let c128_148 : Index := 128#32
  ![v240.toNat, 128]
def k0_off12 (i : grid0.Coords) (k0_t1 : Fin (k0_t1_loop i).trips) : Fin 4 → Nat :=
  let c1_150 : Index := 1#32
  let c0_i32_44 : BitVec 32 := 0#32
  let c1_i32_46 : BitVec 32 := 1#32
  let arg9 : BitVec 32 := Scf.iv c0_i32_44 c1_i32_46 k0_t1
  let v244 : Index := Scalar.indexCast arg9
  let c0_151 : Index := 0#32
  let c0_152 : Index := 0#32
  ![1, v244.toNat, 0, 0]
def k0_mult4 (i : grid0.Coords) (k0_t1 : Fin (k0_t1_loop i).trips) : BitVec 32 :=
  let c0_i32_44 : BitVec 32 := 0#32
  let c1_i32_46 : BitVec 32 := 1#32
  let arg9 : BitVec 32 := Scf.iv c0_i32_44 c1_i32_46 k0_t1
  let c512_i32_161 : BitVec 32 := 512#32
  let v263 : BitVec 32 := Scalar.muli arg9 c512_i32_161
  v263
def k0_off13 (i : grid0.Coords) (k0_t1 : Fin (k0_t1_loop i).trips) : Fin 2 → Nat :=
  let c0_i32_44 : BitVec 32 := 0#32
  let c1_i32_46 : BitVec 32 := 1#32
  let arg9 : BitVec 32 := Scf.iv c0_i32_44 c1_i32_46 k0_t1
  let c512_i32_161 : BitVec 32 := 512#32
  let v263 : BitVec 32 := Scalar.muli arg9 c512_i32_161
  let v264 : BitVec 32 := v263
  let v265 : Index := Scalar.indexCast v264
  let c256_162 : Index := 256#32
  ![v265.toNat, 256]
def k0_off14 (i : grid0.Coords) (k0_t1 : Fin (k0_t1_loop i).trips) : Fin 4 → Nat :=
  let c2_164 : Index := 2#32
  let c0_i32_44 : BitVec 32 := 0#32
  let c1_i32_46 : BitVec 32 := 1#32
  let arg9 : BitVec 32 := Scf.iv c0_i32_44 c1_i32_46 k0_t1
  let v269 : Index := Scalar.indexCast arg9
  let c0_165 : Index := 0#32
  let c0_166 : Index := 0#32
  ![2, v269.toNat, 0, 0]
def k0_mult5 (i : grid0.Coords) (k0_t1 : Fin (k0_t1_loop i).trips) : BitVec 32 :=
  let c0_i32_44 : BitVec 32 := 0#32
  let c1_i32_46 : BitVec 32 := 1#32
  let arg9 : BitVec 32 := Scf.iv c0_i32_44 c1_i32_46 k0_t1
  let c512_i32_175 : BitVec 32 := 512#32
  let v288 : BitVec 32 := Scalar.muli arg9 c512_i32_175
  v288
def k0_off15 (i : grid0.Coords) (k0_t1 : Fin (k0_t1_loop i).trips) : Fin 2 → Nat :=
  let c0_i32_44 : BitVec 32 := 0#32
  let c1_i32_46 : BitVec 32 := 1#32
  let arg9 : BitVec 32 := Scf.iv c0_i32_44 c1_i32_46 k0_t1
  let c512_i32_175 : BitVec 32 := 512#32
  let v288 : BitVec 32 := Scalar.muli arg9 c512_i32_175
  let v289 : BitVec 32 := v288
  let v290 : Index := Scalar.indexCast v289
  let c384_176 : Index := 384#32
  ![v290.toNat, 384]
def k0_off16 (i : grid0.Coords) (k0_t1 : Fin (k0_t1_loop i).trips) : Fin 4 → Nat :=
  let c3_178 : Index := 3#32
  let c0_i32_44 : BitVec 32 := 0#32
  let c1_i32_46 : BitVec 32 := 1#32
  let arg9 : BitVec 32 := Scf.iv c0_i32_44 c1_i32_46 k0_t1
  let v294 : Index := Scalar.indexCast arg9
  let c0_179 : Index := 0#32
  let c0_180 : Index := 0#32
  ![3, v294.toNat, 0, 0]
@[reducible] def k0_t2_loop (i : grid0.Coords) : Scf.Loop 32 :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let v120 : BitVec 32 := Scalar.addi c0_i32_44 v119
  let c1_i32_47 : BitVec 32 := 1#32
  ⟨v123, v120, c1_i32_47⟩
def k0_mult6 (i : grid0.Coords) (k0_t2 : Fin (k0_t2_loop i).trips) : BitVec 32 :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_133 : BitVec 32 := 512#32
  let v213 : BitVec 32 := Scalar.muli arg9 c512_i32_133
  v213
def k0_off17 (i : grid0.Coords) (k0_t2 : Fin (k0_t2_loop i).trips) : Fin 2 → Nat :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_133 : BitVec 32 := 512#32
  let v213 : BitVec 32 := Scalar.muli arg9 c512_i32_133
  let v214 : BitVec 32 := v213
  let v215 : Index := Scalar.indexCast v214
  let c0_134 : Index := 0#32
  ![v215.toNat, 0]
def k0_off18 (i : grid0.Coords) (k0_t2 : Fin (k0_t2_loop i).trips) : Fin 4 → Nat :=
  let c0_136 : Index := 0#32
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let v219 : Index := Scalar.indexCast arg9
  let c0_137 : Index := 0#32
  let c0_138 : Index := 0#32
  ![0, v219.toNat, 0, 0]
def k0_mult7 (i : grid0.Coords) (k0_t2 : Fin (k0_t2_loop i).trips) : BitVec 32 :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_147 : BitVec 32 := 512#32
  let v238 : BitVec 32 := Scalar.muli arg9 c512_i32_147
  v238
def k0_off19 (i : grid0.Coords) (k0_t2 : Fin (k0_t2_loop i).trips) : Fin 2 → Nat :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_147 : BitVec 32 := 512#32
  let v238 : BitVec 32 := Scalar.muli arg9 c512_i32_147
  let v239 : BitVec 32 := v238
  let v240 : Index := Scalar.indexCast v239
  let c128_148 : Index := 128#32
  ![v240.toNat, 128]
def k0_off20 (i : grid0.Coords) (k0_t2 : Fin (k0_t2_loop i).trips) : Fin 4 → Nat :=
  let c1_150 : Index := 1#32
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let v244 : Index := Scalar.indexCast arg9
  let c0_151 : Index := 0#32
  let c0_152 : Index := 0#32
  ![1, v244.toNat, 0, 0]
def k0_mult8 (i : grid0.Coords) (k0_t2 : Fin (k0_t2_loop i).trips) : BitVec 32 :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_161 : BitVec 32 := 512#32
  let v263 : BitVec 32 := Scalar.muli arg9 c512_i32_161
  v263
def k0_off21 (i : grid0.Coords) (k0_t2 : Fin (k0_t2_loop i).trips) : Fin 2 → Nat :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_161 : BitVec 32 := 512#32
  let v263 : BitVec 32 := Scalar.muli arg9 c512_i32_161
  let v264 : BitVec 32 := v263
  let v265 : Index := Scalar.indexCast v264
  let c256_162 : Index := 256#32
  ![v265.toNat, 256]
def k0_off22 (i : grid0.Coords) (k0_t2 : Fin (k0_t2_loop i).trips) : Fin 4 → Nat :=
  let c2_164 : Index := 2#32
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let v269 : Index := Scalar.indexCast arg9
  let c0_165 : Index := 0#32
  let c0_166 : Index := 0#32
  ![2, v269.toNat, 0, 0]
def k0_mult9 (i : grid0.Coords) (k0_t2 : Fin (k0_t2_loop i).trips) : BitVec 32 :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_175 : BitVec 32 := 512#32
  let v288 : BitVec 32 := Scalar.muli arg9 c512_i32_175
  v288
def k0_off23 (i : grid0.Coords) (k0_t2 : Fin (k0_t2_loop i).trips) : Fin 2 → Nat :=
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let c512_i32_175 : BitVec 32 := 512#32
  let v288 : BitVec 32 := Scalar.muli arg9 c512_i32_175
  let v289 : BitVec 32 := v288
  let v290 : Index := Scalar.indexCast v289
  let c384_176 : Index := 384#32
  ![v290.toNat, 384]
def k0_off24 (i : grid0.Coords) (k0_t2 : Fin (k0_t2_loop i).trips) : Fin 4 → Nat :=
  let c3_178 : Index := 3#32
  let c0_i32_44 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v119 : BitVec 32 := Scalar.subi v17 c0_i32_44
  let c1_i32_45 : BitVec 32 := 1#32
  let v121 : BitVec 32 := Scalar.divsi v119 c1_i32_45
  let v122 : BitVec 32 := Scalar.muli v121 c1_i32_45
  let v123 : BitVec 32 := Scalar.addi c0_i32_44 v122
  let c1_i32_47 : BitVec 32 := 1#32
  let arg9 : BitVec 32 := Scf.iv v123 c1_i32_47 k0_t2
  let v294 : Index := Scalar.indexCast arg9
  let c0_179 : Index := 0#32
  let c0_180 : Index := 0#32
  ![3, v294.toNat, 0, 0]
@[reducible] def k0_t3_loop (i : grid0.Coords) : Scf.Loop 32 :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_97 : BitVec 32 := 1#32
  ⟨c0_i32_95, v182, c1_i32_97⟩
def k0_off25 (i : grid0.Coords) (k0_t3 : Fin (k0_t3_loop i).trips) : Fin 4 → Nat :=
  let c0_134 : Index := 0#32
  let c0_i32_95 : BitVec 32 := 0#32
  let c1_i32_97 : BitVec 32 := 1#32
  let arg9 : BitVec 32 := Scf.iv c0_i32_95 c1_i32_97 k0_t3
  let v213 : Index := Scalar.indexCast arg9
  let c0_135 : Index := 0#32
  let c0_136 : Index := 0#32
  ![0, v213.toNat, 0, 0]
def k0_mult10 (i : grid0.Coords) (k0_t3 : Fin (k0_t3_loop i).trips) : BitVec 32 :=
  let c0_i32_95 : BitVec 32 := 0#32
  let c1_i32_97 : BitVec 32 := 1#32
  let arg9 : BitVec 32 := Scf.iv c0_i32_95 c1_i32_97 k0_t3
  let c512_i32_137 : BitVec 32 := 512#32
  let v233 : BitVec 32 := Scalar.muli arg9 c512_i32_137
  v233
def k0_off26 (i : grid0.Coords) (k0_t3 : Fin (k0_t3_loop i).trips) : Fin 2 → Nat :=
  let c0_i32_95 : BitVec 32 := 0#32
  let c1_i32_97 : BitVec 32 := 1#32
  let arg9 : BitVec 32 := Scf.iv c0_i32_95 c1_i32_97 k0_t3
  let c512_i32_137 : BitVec 32 := 512#32
  let v233 : BitVec 32 := Scalar.muli arg9 c512_i32_137
  let v234 : BitVec 32 := v233
  let v235 : Index := Scalar.indexCast v234
  let c0_138 : Index := 0#32
  ![v235.toNat, 0]
def k0_off27 (i : grid0.Coords) (k0_t3 : Fin (k0_t3_loop i).trips) : Fin 4 → Nat :=
  let c1_149 : Index := 1#32
  let c0_i32_95 : BitVec 32 := 0#32
  let c1_i32_97 : BitVec 32 := 1#32
  let arg9 : BitVec 32 := Scf.iv c0_i32_95 c1_i32_97 k0_t3
  let v248 : Index := Scalar.indexCast arg9
  let c0_150 : Index := 0#32
  let c0_151 : Index := 0#32
  ![1, v248.toNat, 0, 0]
def k0_mult11 (i : grid0.Coords) (k0_t3 : Fin (k0_t3_loop i).trips) : BitVec 32 :=
  let c0_i32_95 : BitVec 32 := 0#32
  let c1_i32_97 : BitVec 32 := 1#32
  let arg9 : BitVec 32 := Scf.iv c0_i32_95 c1_i32_97 k0_t3
  let c512_i32_152 : BitVec 32 := 512#32
  let v268 : BitVec 32 := Scalar.muli arg9 c512_i32_152
  v268
def k0_off28 (i : grid0.Coords) (k0_t3 : Fin (k0_t3_loop i).trips) : Fin 2 → Nat :=
  let c0_i32_95 : BitVec 32 := 0#32
  let c1_i32_97 : BitVec 32 := 1#32
  let arg9 : BitVec 32 := Scf.iv c0_i32_95 c1_i32_97 k0_t3
  let c512_i32_152 : BitVec 32 := 512#32
  let v268 : BitVec 32 := Scalar.muli arg9 c512_i32_152
  let v269 : BitVec 32 := v268
  let v270 : Index := Scalar.indexCast v269
  let c128_153 : Index := 128#32
  ![v270.toNat, 128]
def k0_off29 (i : grid0.Coords) (k0_t3 : Fin (k0_t3_loop i).trips) : Fin 4 → Nat :=
  let c2_164 : Index := 2#32
  let c0_i32_95 : BitVec 32 := 0#32
  let c1_i32_97 : BitVec 32 := 1#32
  let arg9 : BitVec 32 := Scf.iv c0_i32_95 c1_i32_97 k0_t3
  let v283 : Index := Scalar.indexCast arg9
  let c0_165 : Index := 0#32
  let c0_166 : Index := 0#32
  ![2, v283.toNat, 0, 0]
def k0_mult12 (i : grid0.Coords) (k0_t3 : Fin (k0_t3_loop i).trips) : BitVec 32 :=
  let c0_i32_95 : BitVec 32 := 0#32
  let c1_i32_97 : BitVec 32 := 1#32
  let arg9 : BitVec 32 := Scf.iv c0_i32_95 c1_i32_97 k0_t3
  let c512_i32_167 : BitVec 32 := 512#32
  let v303 : BitVec 32 := Scalar.muli arg9 c512_i32_167
  v303
def k0_off30 (i : grid0.Coords) (k0_t3 : Fin (k0_t3_loop i).trips) : Fin 2 → Nat :=
  let c0_i32_95 : BitVec 32 := 0#32
  let c1_i32_97 : BitVec 32 := 1#32
  let arg9 : BitVec 32 := Scf.iv c0_i32_95 c1_i32_97 k0_t3
  let c512_i32_167 : BitVec 32 := 512#32
  let v303 : BitVec 32 := Scalar.muli arg9 c512_i32_167
  let v304 : BitVec 32 := v303
  let v305 : Index := Scalar.indexCast v304
  let c256_168 : Index := 256#32
  ![v305.toNat, 256]
def k0_off31 (i : grid0.Coords) (k0_t3 : Fin (k0_t3_loop i).trips) : Fin 4 → Nat :=
  let c3_179 : Index := 3#32
  let c0_i32_95 : BitVec 32 := 0#32
  let c1_i32_97 : BitVec 32 := 1#32
  let arg9 : BitVec 32 := Scf.iv c0_i32_95 c1_i32_97 k0_t3
  let v318 : Index := Scalar.indexCast arg9
  let c0_180 : Index := 0#32
  let c0_181 : Index := 0#32
  ![3, v318.toNat, 0, 0]
def k0_mult13 (i : grid0.Coords) (k0_t3 : Fin (k0_t3_loop i).trips) : BitVec 32 :=
  let c0_i32_95 : BitVec 32 := 0#32
  let c1_i32_97 : BitVec 32 := 1#32
  let arg9 : BitVec 32 := Scf.iv c0_i32_95 c1_i32_97 k0_t3
  let c512_i32_182 : BitVec 32 := 512#32
  let v338 : BitVec 32 := Scalar.muli arg9 c512_i32_182
  v338
def k0_off32 (i : grid0.Coords) (k0_t3 : Fin (k0_t3_loop i).trips) : Fin 2 → Nat :=
  let c0_i32_95 : BitVec 32 := 0#32
  let c1_i32_97 : BitVec 32 := 1#32
  let arg9 : BitVec 32 := Scf.iv c0_i32_95 c1_i32_97 k0_t3
  let c512_i32_182 : BitVec 32 := 512#32
  let v338 : BitVec 32 := Scalar.muli arg9 c512_i32_182
  let v339 : BitVec 32 := v338
  let v340 : Index := Scalar.indexCast v339
  let c384_183 : Index := 384#32
  ![v340.toNat, 384]
@[reducible] def k0_t4_loop (i : grid0.Coords) : Scf.Loop 32 :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let v179 : BitVec 32 := Scalar.addi c0_i32_95 v178
  let c1_i32_98 : BitVec 32 := 1#32
  ⟨v182, v179, c1_i32_98⟩
def k0_off33 (i : grid0.Coords) (k0_t4 : Fin (k0_t4_loop i).trips) : Fin 4 → Nat :=
  let c0_134 : Index := 0#32
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let v213 : Index := Scalar.indexCast arg9
  let c0_135 : Index := 0#32
  let c0_136 : Index := 0#32
  ![0, v213.toNat, 0, 0]
def k0_mult14 (i : grid0.Coords) (k0_t4 : Fin (k0_t4_loop i).trips) : BitVec 32 :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_137 : BitVec 32 := 512#32
  let v233 : BitVec 32 := Scalar.muli arg9 c512_i32_137
  v233
def k0_off34 (i : grid0.Coords) (k0_t4 : Fin (k0_t4_loop i).trips) : Fin 2 → Nat :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_137 : BitVec 32 := 512#32
  let v233 : BitVec 32 := Scalar.muli arg9 c512_i32_137
  let v234 : BitVec 32 := v233
  let v235 : Index := Scalar.indexCast v234
  let c0_138 : Index := 0#32
  ![v235.toNat, 0]
def k0_off35 (i : grid0.Coords) (k0_t4 : Fin (k0_t4_loop i).trips) : Fin 4 → Nat :=
  let c1_149 : Index := 1#32
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let v248 : Index := Scalar.indexCast arg9
  let c0_150 : Index := 0#32
  let c0_151 : Index := 0#32
  ![1, v248.toNat, 0, 0]
def k0_mult15 (i : grid0.Coords) (k0_t4 : Fin (k0_t4_loop i).trips) : BitVec 32 :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_152 : BitVec 32 := 512#32
  let v268 : BitVec 32 := Scalar.muli arg9 c512_i32_152
  v268
def k0_off36 (i : grid0.Coords) (k0_t4 : Fin (k0_t4_loop i).trips) : Fin 2 → Nat :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_152 : BitVec 32 := 512#32
  let v268 : BitVec 32 := Scalar.muli arg9 c512_i32_152
  let v269 : BitVec 32 := v268
  let v270 : Index := Scalar.indexCast v269
  let c128_153 : Index := 128#32
  ![v270.toNat, 128]
def k0_off37 (i : grid0.Coords) (k0_t4 : Fin (k0_t4_loop i).trips) : Fin 4 → Nat :=
  let c2_164 : Index := 2#32
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let v283 : Index := Scalar.indexCast arg9
  let c0_165 : Index := 0#32
  let c0_166 : Index := 0#32
  ![2, v283.toNat, 0, 0]
def k0_mult16 (i : grid0.Coords) (k0_t4 : Fin (k0_t4_loop i).trips) : BitVec 32 :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_167 : BitVec 32 := 512#32
  let v303 : BitVec 32 := Scalar.muli arg9 c512_i32_167
  v303
def k0_off38 (i : grid0.Coords) (k0_t4 : Fin (k0_t4_loop i).trips) : Fin 2 → Nat :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_167 : BitVec 32 := 512#32
  let v303 : BitVec 32 := Scalar.muli arg9 c512_i32_167
  let v304 : BitVec 32 := v303
  let v305 : Index := Scalar.indexCast v304
  let c256_168 : Index := 256#32
  ![v305.toNat, 256]
def k0_off39 (i : grid0.Coords) (k0_t4 : Fin (k0_t4_loop i).trips) : Fin 4 → Nat :=
  let c3_179 : Index := 3#32
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let v318 : Index := Scalar.indexCast arg9
  let c0_180 : Index := 0#32
  let c0_181 : Index := 0#32
  ![3, v318.toNat, 0, 0]
def k0_mult17 (i : grid0.Coords) (k0_t4 : Fin (k0_t4_loop i).trips) : BitVec 32 :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_182 : BitVec 32 := 512#32
  let v338 : BitVec 32 := Scalar.muli arg9 c512_i32_182
  v338
def k0_off40 (i : grid0.Coords) (k0_t4 : Fin (k0_t4_loop i).trips) : Fin 2 → Nat :=
  let c0_i32_95 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c1_i32_93 : BitVec 32 := 1#32
  let v177 : BitVec 32 := Scalar.addi v17 c1_i32_93
  let v178 : BitVec 32 := Scalar.subi v177 c0_i32_95
  let c1_i32_96 : BitVec 32 := 1#32
  let v180 : BitVec 32 := Scalar.divsi v178 c1_i32_96
  let v181 : BitVec 32 := Scalar.muli v180 c1_i32_96
  let v182 : BitVec 32 := Scalar.addi c0_i32_95 v181
  let c1_i32_98 : BitVec 32 := 1#32
  let arg9 : BitVec 32 := Scf.iv v182 c1_i32_98 k0_t4
  let c512_i32_182 : BitVec 32 := 512#32
  let v338 : BitVec 32 := Scalar.muli arg9 c512_i32_182
  let v339 : BitVec 32 := v338
  let v340 : Index := Scalar.indexCast v339
  let c384_183 : Index := 384#32
  ![v340.toNat, 384]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x4x128 : Shape := ⟨4, ![8, 2048, 4, 128]⟩
abbrev S8x4x2048x2048 : Shape := ⟨4, ![8, 4, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x512 : Shape := ⟨2, ![16384, 512]⟩

abbrev nBuf : Space → Nat
  | .hbm => 36
  | .vmem => 0
  | .smem => 0
  | _ => 0

abbrev bufTy : (tb : Table) → Fin (tcTables nBuf tb) → BufTy
  | .hbm, ⟨0, _⟩ => ⟨S8x2048x4x128, .f32⟩
  | .hbm, ⟨1, _⟩ => ⟨S8x2048x4x128, .f32⟩
  | .hbm, ⟨2, _⟩ => ⟨S8x2048x4x128, .f32⟩
  | .hbm, ⟨3, _⟩ => ⟨S8x4x2048x2048, .f32⟩
  | .hbm, ⟨4, _⟩ => ⟨S_, .f32⟩
  | .hbm, ⟨5, _⟩ => ⟨S8x4x2048x2048, .f32⟩
  | .hbm, ⟨6, _⟩ => ⟨S8x4x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S8x4x2048x2048, .i1⟩
  | .hbm, ⟨16, _⟩ => ⟨S8x4x2048x2048, .f32⟩
  | .hbm, ⟨17, _⟩ => ⟨S8x4x2048x2048, .f32⟩
  | .hbm, ⟨18, _⟩ => ⟨S_, .f32⟩
  | .hbm, ⟨19, _⟩ => ⟨S8x4x2048, .f32⟩
  | .hbm, ⟨20, _⟩ => ⟨S_, .f32⟩
  | .hbm, ⟨21, _⟩ => ⟨S8x4x2048, .f32⟩
  | .hbm, ⟨22, _⟩ => ⟨S8x4x2048, .f32⟩
  | .hbm, ⟨23, _⟩ => ⟨S8x4x2048x1, .f32⟩
  | .hbm, ⟨24, _⟩ => ⟨S8x4x2048x2048, .f32⟩
  | .hbm, ⟨25, _⟩ => ⟨S8x4x2048x2048, .f32⟩
  | .hbm, ⟨26, _⟩ => ⟨S8x4x2048x2048, .f32⟩
  | .hbm, ⟨27, _⟩ => ⟨S_, .f32⟩
  | .hbm, ⟨28, _⟩ => ⟨S8x4x2048, .f32⟩
  | .hbm, ⟨29, _⟩ => ⟨S8x4x2048x1, .f32⟩
  | .hbm, ⟨30, _⟩ => ⟨S8x4x2048x2048, .f32⟩
  | .hbm, ⟨31, _⟩ => ⟨S8x4x2048x2048, .f32⟩
  | .hbm, ⟨32, _⟩ => ⟨S8x4x128x2048, .f32⟩
  | .hbm, ⟨33, _⟩ => ⟨S8x2048x4x128, .f32⟩
  | .hbm, ⟨34, _⟩ => ⟨S16384x512, .f32⟩
  | .hbm, ⟨35, _⟩ => ⟨S16384x512, .bf16⟩
  | _, _ => ⟨S8x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S160 : Shape := ⟨1, ![160]⟩
abbrev S32 : Shape := ⟨1, ![32]⟩
abbrev S32768x2048 : Shape := ⟨2, ![32768, 2048]⟩
abbrev S2x32x2048x512 : Shape := ⟨4, ![2, 32, 2048, 512]⟩
abbrev S2x32x512x2048 : Shape := ⟨4, ![2, 32, 512, 2048]⟩
abbrev S32768x16x128 : Shape := ⟨3, ![32768, 16, 128]⟩
abbrev S_ : Shape := ⟨0, ![]⟩
abbrev S32768x1x128 : Shape := ⟨3, ![32768, 1, 128]⟩
abbrev S32768x17x128 : Shape := ⟨3, ![32768, 17, 128]⟩
abbrev S557056x128 : Shape := ⟨2, ![557056, 128]⟩
abbrev S4352x128 : Shape := ⟨2, ![4352, 128]⟩
abbrev S1 : Shape := ⟨1, ![1]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2 : Shape := ⟨1, ![2]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S256x128 : Shape := ⟨2, ![256, 128]⟩
abbrev S256x2048 : Shape := ⟨2, ![256, 2048]⟩
abbrev S256x512 : Shape := ⟨2, ![256, 512]⟩
abbrev S256x1 : Shape := ⟨2, ![256, 1]⟩

abbrev nBuf : Space → Nat
  | .hbm => 14
  | .vmem => 10
  | .smem => 9
  | _ => 0

abbrev bufTy : (tb : Table) → Fin (tcTables nBuf tb) → BufTy
  | .hbm, ⟨0, _⟩ => ⟨S32, .i32⟩
  | .hbm, ⟨1, _⟩ => ⟨S32768x2048, .f32⟩
  | .hbm, ⟨2, _⟩ => ⟨S2x32x2048x512, .f32⟩
  | .hbm, ⟨3, _⟩ => ⟨S2x32x2048x512, .f32⟩
  | .hbm, ⟨4, _⟩ => ⟨S2x32x512x2048, .f32⟩
  | .hbm, ⟨5, _⟩ => ⟨S32768x16x128, .f32⟩
  | .hbm, ⟨6, _⟩ => ⟨S_, .f32⟩
  | .hbm, ⟨7, _⟩ => ⟨S32768x1x128, .f32⟩
  | .hbm, ⟨8, _⟩ => ⟨S32768x17x128, .f32⟩
  | .hbm, ⟨9, _⟩ => ⟨S557056x128, .f32⟩
  | .hbm, ⟨10, _⟩ => ⟨S557056x128, .f32⟩
  | .hbm, ⟨11, _⟩ => ⟨S32768x17x128, .f32⟩
  | .hbm, ⟨12, _⟩ => ⟨S32768x16x128, .f32⟩
  | .hbm, ⟨13, _⟩ => ⟨S32768x2048, .f32⟩
  | .local _ .vmem, ⟨0, _⟩ => ⟨S4352x128, .f32⟩
  | .local _ .vmem, ⟨1, _⟩ => ⟨S4352x128, .f32⟩
  | .local _ .vmem, ⟨2, _⟩ => ⟨S4352x128, .f32⟩
  | .local _ .vmem, ⟨3, _⟩ => ⟨S4352x128, .f32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S160, .i32⟩
  | .local _ .smem, ⟨4, _⟩ => ⟨S160, .i32⟩
  | .local _ .smem, ⟨5, _⟩ => ⟨S160, .i32⟩
  | .local _ .smem, ⟨6, _⟩ => ⟨S160, .i32⟩
  | .local _ .smem, ⟨7, _⟩ => ⟨S160, .i32⟩
  | .local _ .smem, ⟨8, _⟩ => ⟨S160, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg9 : Ref sig .tc := ⟨.hbm, 0, rfl⟩
abbrev main_arg10 : Ref sig .tc := ⟨.hbm, 1, rfl⟩
abbrev main_arg11 : Ref sig .tc := ⟨.hbm, 2, rfl⟩
abbrev main_arg12 : Ref sig .tc := ⟨.hbm, 3, rfl⟩
abbrev main_arg13 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev main_arg5 : Ref sig .tc := ⟨.smem, 5, rfl⟩
abbrev main_arg6 : Ref sig .tc := ⟨.smem, 6, rfl⟩
abbrev main_arg7 : Ref sig .tc := ⟨.smem, 7, rfl⟩
abbrev main_arg8 : Ref sig .tc := ⟨.smem, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨9, ![main_arg0.idx, main_arg1.idx, main_arg2.idx, main_arg3.idx, main_arg4.idx, main_arg5.idx, main_arg6.idx, main_arg7.idx, main_arg8.idx], fun | 0 => main_arg0.names | 1 => main_arg1.names | 2 => main_arg2.names | 3 => main_arg3.names | 4 => main_arg4.names | 5 => main_arg5.names | 6 => main_arg6.names | 7 => main_arg7.names | 8 => main_arg8.names | ⟨_ + 9, h⟩ => absurd h (Nat.not_lt.2 (Nat.le_add_left _ _)), fun | 0 => rfl | 1 => rfl | 2 => rfl | 3 => rfl | 4 => rfl | 5 => rfl | 6 => rfl | 7 => rfl | 8 => rfl | ⟨_ + 9, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v10 : Index := Scalar.indexCast arg0
  ![v10.toNat]
def k0_cond2 (i : grid0.Coords) : BitVec 1 :=
  let arg0 : BitVec 32 := BitVec.ofNat 32 (i 0).val
  let c0_i32_2 : BitVec 32 := 0#32
  let v12 : BitVec 1 := Scalar.cmpi .eq arg0 c0_i32_2
  let v13 : BitVec 32 := Scalar.extui v12
  let c0_i32_3 : BitVec 32 := 0#32
  let v14 : BitVec 1 := Scalar.cmpi .ne v13 c0_i32_3
  v14

def k0_off3 (i : grid0.Coords) : Fin 1 → Nat :=
  let arg0 : BitVec 32 := BitVec.ofNat 32 (i 0).val
  let v61 : Index := Scalar.indexCast arg0
  ![v61.toNat]
def k0_off4 (v11 : BitVec 32) : Fin 1 → Nat :=
  ![v11.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_off5 (v11 : BitVec 32) : Fin 3 → Nat :=
  let c0_i32_33 : BitVec 32 := 0#32
  let c0_i32_34 : BitVec 32 := 0#32
  ![v11.toNat, 0, 0]
def k0_off6 (v62 : BitVec 32) : Fin 4 → Nat :=
  let c0_i32_32 : BitVec 32 := 0#32
  let c0_i32_35 : BitVec 32 := 0#32
  let c0_i32_36 : BitVec 32 := 0#32
  ![0, v62.toNat, 0, 0]

def k0_off7 (v11 : BitVec 32) : Fin 1 → Nat :=
  ![v11.toNat]
def k0_off8 (v11 : BitVec 32) : Fin 3 → Nat :=
  let c0_i32_38 : BitVec 32 := 0#32
  let c0_i32_39 : BitVec 32 := 0#32
  ![v11.toNat, 0, 0]
def k0_off9 (v11 : BitVec 32) : Fin 3 → Nat :=
  let c0_i32_43 : BitVec 32 := 0#32
  let c0_i32_44 : BitVec 32 := 0#32
  ![v11.toNat, 0, 0]
def k0_off10 (v62 : BitVec 32) : Fin 4 → Nat :=
  let c0_i32_42 : BitVec 32 := 0#32
  let c0_i32_45 : BitVec 32 := 0#32
  let c0_i32_46 : BitVec 32 := 0#32
  ![0, v62.toNat, 0, 0]

def k0_chk2 (i : grid0.Coords) (v1 : BitVec 32) (v62 : BitVec 32) : Prop :=
  (∀ (k0_h1 : k0_cond1 v1 = 1#1), ∀ (k0_h2 : k0_cond2 i = 1#1), ∀ a, (k0_off6 v62) a + S1x1x2048x512.size a ≤ S2x32x2048x512.size a) ∧
  (∀ (k0_h1 : k0_cond1 v1 = 1#1), ∀ (k0_h2 : k0_cond2 i = 1#1), ∀ a, (k0_off10 v62) a + S1x1x512x2048.size a ≤ S2x32x512x2048.size a)
theorem k0_off6_inb : ∀ (i : grid0.Coords) (v1 : BitVec 32) (v62 : BitVec 32) (k0_hw2 : k0_chk2 i v1 v62), ∀ (k0_h1 : k0_cond1 v1 = 1#1), ∀ (k0_h2 : k0_cond2 i = 1#1), ∀ a, (k0_off6 v62) a + S1x1x2048x512.size a ≤ S2x32x2048x512.size a := fun i v1 v62 k0_hw2 k0_h1 k0_h2 => k0_hw2.1 k0_h1 k0_h2
theorem k0_off10_inb : ∀ (i : grid0.Coords) (v1 : BitVec 32) (v62 : BitVec 32) (k0_hw2 : k0_chk2 i v1 v62), ∀ (k0_h1 : k0_cond1 v1 = 1#1), ∀ (k0_h2 : k0_cond2 i = 1#1), ∀ a, (k0_off10 v62) a + S1x1x512x2048.size a ≤ S2x32x512x2048.size a := fun i v1 v62 k0_hw2 k0_h1 k0_h2 => k0_hw2.2 k0_h1 k0_h2

def k0_off11 (i : grid0.Coords) : Fin 1 → Nat :=
  let arg0 : BitVec 32 := BitVec.ofNat 32 (i 0).val
  let v15 : Index := Scalar.indexCast arg0
  ![v15.toNat]
def k0_off12 (v11 : BitVec 32) : Fin 1 → Nat :=
  ![v11.toNat]
def k0_off13 (v11 : BitVec 32) : Fin 3 → Nat :=
  let c0_i32_5 : BitVec 32 := 0#32
  let c0_i32_6 : BitVec 32 := 0#32
  ![v11.toNat, 0, 0]
def k0_off14 (v16 : BitVec 32) : Fin 4 → Nat :=
  let c0_i32_4 : BitVec 32 := 0#32
  let c0_i32_7 : BitVec 32 := 0#32
  let c0_i32_8 : BitVec 32 := 0#32
  ![0, v16.toNat, 0, 0]

def k0_off15 (v11 : BitVec 32) : Fin 1 → Nat :=
  ![v11.toNat]
def k0_off16 (v11 : BitVec 32) : Fin 3 → Nat :=
  let c0_i32_10 : BitVec 32 := 0#32
  let c0_i32_11 : BitVec 32 := 0#32
  ![v11.toNat, 0, 0]
def k0_off17 (v11 : BitVec 32) : Fin 3 → Nat :=
  let c0_i32_15 : BitVec 32 := 0#32
  let c0_i32_16 : BitVec 32 := 0#32
  ![v11.toNat, 0, 0]
def k0_off18 (v16 : BitVec 32) : Fin 4 → Nat :=
  let c0_i32_14 : BitVec 32 := 0#32
  let c0_i32_17 : BitVec 32 := 0#32
  let c0_i32_18 : BitVec 32 := 0#32
  ![0, v16.toNat, 0, 0]

def k0_chk3 (v1 : BitVec 32) (v16 : BitVec 32) : Prop :=
  (∀ (k0_h1 : k0_cond1 v1 = 1#1), ∀ a, (k0_off14 v16) a + S1x1x2048x512.size a ≤ S2x32x2048x512.size a) ∧
  (∀ (k0_h1 : k0_cond1 v1 = 1#1), ∀ a, (k0_off18 v16) a + S1x1x512x2048.size a ≤ S2x32x512x2048.size a)
theorem k0_off14_inb : ∀ (v1 : BitVec 32) (v16 : BitVec 32) (k0_hw3 : k0_chk3 v1 v16), ∀ (k0_h1 : k0_cond1 v1 = 1#1), ∀ a, (k0_off14 v16) a + S1x1x2048x512.size a ≤ S2x32x2048x512.size a := fun v1 v16 k0_hw3 k0_h1 => k0_hw3.1 k0_h1
theorem k0_off18_inb : ∀ (v1 : BitVec 32) (v16 : BitVec 32) (k0_hw3 : k0_chk3 v1 v16), ∀ (k0_h1 : k0_cond1 v1 = 1#1), ∀ a, (k0_off18 v16) a + S1x1x512x2048.size a ≤ S2x32x512x2048.size a := fun v1 v16 k0_hw3 k0_h1 => k0_hw3.2 k0_h1

def k0_off19 (i : grid0.Coords) : Fin 1 → Nat :=
  let arg0 : BitVec 32 := BitVec.ofNat 32 (i 0).val
  let v35 : Index := Scalar.indexCast arg0
  ![v35.toNat]
def k0_off20 (i : grid0.Coords) : Fin 1 → Nat :=
  let arg0 : BitVec 32 := BitVec.ofNat 32 (i 0).val
  let v61 : Index := Scalar.indexCast arg0
  ![v61.toNat]
def k0_off21 (v11 : BitVec 32) : Fin 1 → Nat :=
  let c1_i32_32 : BitVec 32 := 1#32
  let v63 : BitVec 32 := Scalar.subi c1_i32_32 v11
  ![v63.toNat]
def k0_cond3 (v36 : BitVec 32) : BitVec 1 :=
  let c0_i32_19 : BitVec 32 := 0#32
  let v37 : BitVec 1 := Scalar.cmpi .sge v36 c0_i32_19
  let v38 : BitVec 32 := Scalar.extui v37
  let c0_i32_20 : BitVec 32 := 0#32
  let v39 : BitVec 1 := Scalar.cmpi .ne v38 c0_i32_20
  v39

def k0_off22 (v11 : BitVec 32) : Fin 3 → Nat :=
  let c1_i32_32 : BitVec 32 := 1#32
  let v63 : BitVec 32 := Scalar.subi c1_i32_32 v11
  let c0_i32_34 : BitVec 32 := 0#32
  let c0_i32_35 : BitVec 32 := 0#32
  ![v63.toNat, 0, 0]
def k0_off23 (v62 : BitVec 32) : Fin 4 → Nat :=
  let c0_i32_33 : BitVec 32 := 0#32
  let c0_i32_36 : BitVec 32 := 0#32
  let c0_i32_37 : BitVec 32 := 0#32
  ![0, v62.toNat, 0, 0]

def k0_off24 (v11 : BitVec 32) : Fin 1 → Nat :=
  let c1_i32_32 : BitVec 32 := 1#32
  let v63 : BitVec 32 := Scalar.subi c1_i32_32 v11
  ![v63.toNat]
def k0_off25 (v11 : BitVec 32) : Fin 3 → Nat :=
  let c1_i32_32 : BitVec 32 := 1#32
  let v63 : BitVec 32 := Scalar.subi c1_i32_32 v11
  let c0_i32_39 : BitVec 32 := 0#32
  let c0_i32_40 : BitVec 32 := 0#32
  ![v63.toNat, 0, 0]
def k0_off26 (v11 : BitVec 32) : Fin 3 → Nat :=
  let c1_i32_32 : BitVec 32 := 1#32
  let v63 : BitVec 32 := Scalar.subi c1_i32_32 v11
  let c0_i32_44 : BitVec 32 := 0#32
  let c0_i32_45 : BitVec 32 := 0#32
  ![v63.toNat, 0, 0]

def k0_chk4 (v1 : BitVec 32) (v11 : BitVec 32) (v36 : BitVec 32) : Prop :=
  (∀ (k0_h1 : k0_cond1 v1 = 1#1), ∀ (k0_h3 : k0_cond3 v36 = 1#1), ∀ a, (k0_off21 v11) a + S1.size a ≤ S2.size a) ∧
  (∀ (k0_h1 : k0_cond1 v1 = 1#1), ∀ (k0_h3 : k0_cond3 v36 = 1#1), ∀ a, (k0_off22 v11) a + S1x2048x512.size a ≤ S2x2048x512.size a) ∧
  (∀ (k0_h1 : k0_cond1 v1 = 1#1), ∀ (k0_h3 : k0_cond3 v36 = 1#1), ∀ a, (k0_off24 v11) a + S1.size a ≤ S2.size a) ∧
  (∀ (k0_h1 : k0_cond1 v1 = 1#1), ∀ (k0_h3 : k0_cond3 v36 = 1#1), ∀ a, (k0_off25 v11) a + S1x2048x512.size a ≤ S2x2048x512.size a) ∧
  (∀ (k0_h1 : k0_cond1 v1 = 1#1), ∀ (k0_h3 : k0_cond3 v36 = 1#1), ∀ a, (k0_off26 v11) a + S1x512x2048.size a ≤ S2x512x2048.size a)
theorem k0_off21_inb : ∀ (v1 : BitVec 32) (v11 : BitVec 32) (v36 : BitVec 32) (k0_hw4 : k0_chk4 v1 v11 v36), ∀ (k0_h1 : k0_cond1 v1 = 1#1), ∀ (k0_h3 : k0_cond3 v36 = 1#1), ∀ a, (k0_off21 v11) a + S1.size a ≤ S2.size a := fun v1 v11 v36 k0_hw4 k0_h1 k0_h3 => k0_hw4.1 k0_h1 k0_h3
theorem k0_off22_inb : ∀ (v1 : BitVec 32) (v11 : BitVec 32) (v36 : BitVec 32) (k0_hw4 : k0_chk4 v1 v11 v36), ∀ (k0_h1 : k0_cond1 v1 = 1#1), ∀ (k0_h3 : k0_cond3 v36 = 1#1), ∀ a, (k0_off22 v11) a + S1x2048x512.size a ≤ S2x2048x512.size a := fun v1 v11 v36 k0_hw4 k0_h1 k0_h3 => k0_hw4.2.1 k0_h1 k0_h3
theorem k0_off24_inb : ∀ (v1 : BitVec 32) (v11 : BitVec 32) (v36 : BitVec 32) (k0_hw4 : k0_chk4 v1 v11 v36), ∀ (k0_h1 : k0_cond1 v1 = 1#1), ∀ (k0_h3 : k0_cond3 v36 = 1#1), ∀ a, (k0_off24 v11) a + S1.size a ≤ S2.size a := fun v1 v11 v36 k0_hw4 k0_h1 k0_h3 => k0_hw4.2.2.1 k0_h1 k0_h3
theorem k0_off25_inb : ∀ (v1 : BitVec 32) (v11 : BitVec 32) (v36 : BitVec 32) (k0_hw4 : k0_chk4 v1 v11 v36), ∀ (k0_h1 : k0_cond1 v1 = 1#1), ∀ (k0_h3 : k0_cond3 v36 = 1#1), ∀ a, (k0_off25 v11) a + S1x2048x512.size a ≤ S2x2048x512.size a := fun v1 v11 v36 k0_hw4 k0_h1 k0_h3 => k0_hw4.2.2.2.1 k0_h1 k0_h3
theorem k0_off26_inb : ∀ (v1 : BitVec 32) (v11 : BitVec 32) (v36 : BitVec 32) (k0_hw4 : k0_chk4 v1 v11 v36), ∀ (k0_h1 : k0_cond1 v1 = 1#1), ∀ (k0_h3 : k0_cond3 v36 = 1#1), ∀ a, (k0_off26 v11) a + S1x512x2048.size a ≤ S2x512x2048.size a := fun v1 v11 v36 k0_hw4 k0_h1 k0_h3 => k0_hw4.2.2.2.2 k0_h1 k0_h3

def k0_off27 (v62 : BitVec 32) : Fin 4 → Nat :=
  let c0_i32_43 : BitVec 32 := 0#32
  let c0_i32_46 : BitVec 32 := 0#32
  let c0_i32_47 : BitVec 32 := 0#32
  ![0, v62.toNat, 0, 0]

def k0_chk5 (v1 : BitVec 32) (v36 : BitVec 32) (v62 : BitVec 32) : Prop :=
  (∀ (k0_h1 : k0_cond1 v1 = 1#1), ∀ (k0_h3 : k0_cond3 v36 = 1#1), ∀ a, (k0_off23 v62) a + S1x1x2048x512.size a ≤ S2x32x2048x512.size a) ∧
  (∀ (k0_h1 : k0_cond1 v1 = 1#1), ∀ (k0_h3 : k0_cond3 v36 = 1#1), ∀ a, (k0_off27 v62) a + S1x1x512x2048.size a ≤ S2x32x512x2048.size a)
theorem k0_off23_inb : ∀ (v1 : BitVec 32) (v36 : BitVec 32) (v62 : BitVec 32) (k0_hw5 : k0_chk5 v1 v36 v62), ∀ (k0_h1 : k0_cond1 v1 = 1#1), ∀ (k0_h3 : k0_cond3 v36 = 1#1), ∀ a, (k0_off23 v62) a + S1x1x2048x512.size a ≤ S2x32x2048x512.size a := fun v1 v36 v62 k0_hw5 k0_h1 k0_h3 => k0_hw5.1 k0_h1 k0_h3
theorem k0_off27_inb : ∀ (v1 : BitVec 32) (v36 : BitVec 32) (v62 : BitVec 32) (k0_hw5 : k0_chk5 v1 v36 v62), ∀ (k0_h1 : k0_cond1 v1 = 1#1), ∀ (k0_h3 : k0_cond3 v36 = 1#1), ∀ a, (k0_off27 v62) a + S1x1x512x2048.size a ≤ S2x32x512x2048.size a := fun v1 v36 v62 k0_hw5 k0_h1 k0_h3 => k0_hw5.2 k0_h1 k0_h3

def k0_off28 (v11 : BitVec 32) : Fin 3 → Nat :=
  let v40 : Index := Scalar.indexCast v11
  let c0 : Index := 0#32
  let c0_21 : Index := 0#32
  ![v40.toNat, 0, 0]
def k0_off29 (v11 : BitVec 32) : Fin 3 → Nat :=
  let v54 : Index := Scalar.indexCast v11
  let c0_28 : Index := 0#32
  let c0_29 : Index := 0#32
  ![v54.toNat, 0, 0]

def k0_chk1 (i : grid0.Coords) (v1 : BitVec 32) (v11 : BitVec 32) : Prop :=
  (∀ (k0_h1 : k0_cond1 v1 = 1#1), ∀ (k0_h2 : k0_cond2 i = 1#1), ∀ a, (k0_off4 v11) a + S1.size a ≤ S2.size a) ∧
  (∀ (k0_h1 : k0_cond1 v1 = 1#1), ∀ (k0_h2 : k0_cond2 i = 1#1), ∀ a, (k0_off5 v11) a + S1x2048x512.size a ≤ S2x2048x512.size a) ∧
  (∀ (k0_h1 : k0_cond1 v1 = 1#1), ∀ (k0_h2 : k0_cond2 i = 1#1), ∀ a, (k0_off7 v11) a + S1.size a ≤ S2.size a) ∧
  (∀ (k0_h1 : k0_cond1 v1 = 1#1), ∀ (k0_h2 : k0_cond2 i = 1#1), ∀ a, (k0_off8 v11) a + S1x2048x512.size a ≤ S2x2048x512.size a) ∧
  (∀ (k0_h1 : k0_cond1 v1 = 1#1), ∀ (k0_h2 : k0_cond2 i = 1#1), ∀ a, (k0_off9 v11) a + S1x512x2048.size a ≤ S2x512x2048.size a) ∧
  (∀ (k0_h1 : k0_cond1 v1 = 1#1), ∀ a, (k0_off12 v11) a + S1.size a ≤ S2.size a) ∧
  (∀ (k0_h1 : k0_cond1 v1 = 1#1), ∀ a, (k0_off13 v11) a + S1x2048x512.size a ≤ S2x2048x512.size a) ∧
  (∀ (k0_h1 : k0_cond1 v1 = 1#1), ∀ a, (k0_off15 v11) a + S1.size a ≤ S2.size a) ∧
  (∀ (k0_h1 : k0_cond1 v1 = 1#1), ∀ a, (k0_off16 v11) a + S1x2048x512.size a ≤ S2x2048x512.size a) ∧
  (∀ (k0_h1 : k0_cond1 v1 = 1#1), ∀ a, (k0_off17 v11) a + S1x512x2048.size a ≤ S2x512x2048.size a) ∧
  (∀ (k0_h1 : k0_cond1 v1 = 1#1), ∀ a, (k0_off28 v11) a + S1x2048x512.size a ≤ S2x2048x512.size a) ∧
  (∀ (k0_h1 : k0_cond1 v1 = 1#1), ∀ a, (k0_off29 v11) a + S1x512x2048.size a ≤ S2x512x2048.size a)
theorem k0_off4_inb : ∀ (i : grid0.Coords) (v1 : BitVec 32) (v11 : BitVec 32) (k0_hw1 : k0_chk1 i v1 v11), ∀ (k0_h1 : k0_cond1 v1 = 1#1), ∀ (k0_h2 : k0_cond2 i = 1#1), ∀ a, (k0_off4 v11) a + S1.size a ≤ S2.size a := fun i v1 v11 k0_hw1 k0_h1 k0_h2 => k0_hw1.1 k0_h1 k0_h2
theorem k0_off5_inb : ∀ (i : grid0.Coords) (v1 : BitVec 32) (v11 : BitVec 32) (k0_hw1 : k0_chk1 i v1 v11), ∀ (k0_h1 : k0_cond1 v1 = 1#1), ∀ (k0_h2 : k0_cond2 i = 1#1), ∀ a, (k0_off5 v11) a + S1x2048x512.size a ≤ S2x2048x512.size a := fun i v1 v11 k0_hw1 k0_h1 k0_h2 => k0_hw1.2.1 k0_h1 k0_h2
theorem k0_off7_inb : ∀ (i : grid0.Coords) (v1 : BitVec 32) (v11 : BitVec 32) (k0_hw1 : k0_chk1 i v1 v11), ∀ (k0_h1 : k0_cond1 v1 = 1#1), ∀ (k0_h2 : k0_cond2 i = 1#1), ∀ a, (k0_off7 v11) a + S1.size a ≤ S2.size a := fun i v1 v11 k0_hw1 k0_h1 k0_h2 => k0_hw1.2.2.1 k0_h1 k0_h2
theorem k0_off8_inb : ∀ (i : grid0.Coords) (v1 : BitVec 32) (v11 : BitVec 32) (k0_hw1 : k0_chk1 i v1 v11), ∀ (k0_h1 : k0_cond1 v1 = 1#1), ∀ (k0_h2 : k0_cond2 i = 1#1), ∀ a, (k0_off8 v11) a + S1x2048x512.size a ≤ S2x2048x512.size a := fun i v1 v11 k0_hw1 k0_h1 k0_h2 => k0_hw1.2.2.2.1 k0_h1 k0_h2
theorem k0_off9_inb : ∀ (i : grid0.Coords) (v1 : BitVec 32) (v11 : BitVec 32) (k0_hw1 : k0_chk1 i v1 v11), ∀ (k0_h1 : k0_cond1 v1 = 1#1), ∀ (k0_h2 : k0_cond2 i = 1#1), ∀ a, (k0_off9 v11) a + S1x512x2048.size a ≤ S2x512x2048.size a := fun i v1 v11 k0_hw1 k0_h1 k0_h2 => k0_hw1.2.2.2.2.1 k0_h1 k0_h2
theorem k0_off12_inb : ∀ (i : grid0.Coords) (v1 : BitVec 32) (v11 : BitVec 32) (k0_hw1 : k0_chk1 i v1 v11), ∀ (k0_h1 : k0_cond1 v1 = 1#1), ∀ a, (k0_off12 v11) a + S1.size a ≤ S2.size a := fun i v1 v11 k0_hw1 k0_h1 => k0_hw1.2.2.2.2.2.1 k0_h1
theorem k0_off13_inb : ∀ (i : grid0.Coords) (v1 : BitVec 32) (v11 : BitVec 32) (k0_hw1 : k0_chk1 i v1 v11), ∀ (k0_h1 : k0_cond1 v1 = 1#1), ∀ a, (k0_off13 v11) a + S1x2048x512.size a ≤ S2x2048x512.size a := fun i v1 v11 k0_hw1 k0_h1 => k0_hw1.2.2.2.2.2.2.1 k0_h1
theorem k0_off15_inb : ∀ (i : grid0.Coords) (v1 : BitVec 32) (v11 : BitVec 32) (k0_hw1 : k0_chk1 i v1 v11), ∀ (k0_h1 : k0_cond1 v1 = 1#1), ∀ a, (k0_off15 v11) a + S1.size a ≤ S2.size a := fun i v1 v11 k0_hw1 k0_h1 => k0_hw1.2.2.2.2.2.2.2.1 k0_h1
theorem k0_off16_inb : ∀ (i : grid0.Coords) (v1 : BitVec 32) (v11 : BitVec 32) (k0_hw1 : k0_chk1 i v1 v11), ∀ (k0_h1 : k0_cond1 v1 = 1#1), ∀ a, (k0_off16 v11) a + S1x2048x512.size a ≤ S2x2048x512.size a := fun i v1 v11 k0_hw1 k0_h1 => k0_hw1.2.2.2.2.2.2.2.2.1 k0_h1
theorem k0_off17_inb : ∀ (i : grid0.Coords) (v1 : BitVec 32) (v11 : BitVec 32) (k0_hw1 : k0_chk1 i v1 v11), ∀ (k0_h1 : k0_cond1 v1 = 1#1), ∀ a, (k0_off17 v11) a + S1x512x2048.size a ≤ S2x512x2048.size a := fun i v1 v11 k0_hw1 k0_h1 => k0_hw1.2.2.2.2.2.2.2.2.2.1 k0_h1
theorem k0_off28_inb : ∀ (i : grid0.Coords) (v1 : BitVec 32) (v11 : BitVec 32) (k0_hw1 : k0_chk1 i v1 v11), ∀ (k0_h1 : k0_cond1 v1 = 1#1), ∀ a, (k0_off28 v11) a + S1x2048x512.size a ≤ S2x2048x512.size a := fun i v1 v11 k0_hw1 k0_h1 => k0_hw1.2.2.2.2.2.2.2.2.2.2.1 k0_h1
theorem k0_off29_inb : ∀ (i : grid0.Coords) (v1 : BitVec 32) (v11 : BitVec 32) (k0_hw1 : k0_chk1 i v1 v11), ∀ (k0_h1 : k0_cond1 v1 = 1#1), ∀ a, (k0_off29 v11) a + S1x512x2048.size a ≤ S2x512x2048.size a := fun i v1 v11 k0_hw1 k0_h1 => k0_hw1.2.2.2.2.2.2.2.2.2.2.2 k0_h1

def k0_off30 (i : grid0.Coords) : Fin 1 → Nat :=
  let arg0 : BitVec 32 := BitVec.ofNat 32 (i 0).val
  let v5 : Index := Scalar.indexCast arg0
  ![v5.toNat]
def k0_off31 (i : grid0.Coords) : Fin 1 → Nat :=
  let arg0 : BitVec 32 := BitVec.ofNat 32 (i 0).val
  let v55 : Index := Scalar.indexCast arg0
  ![v55.toNat]
def k0_off32 (i : grid0.Coords) : Fin 1 → Nat :=
  let arg0 : BitVec 32 := BitVec.ofNat 32 (i 0).val
  let v69 : Index := Scalar.indexCast arg0
  ![v69.toNat]
def k0_cond4 (v6 : BitVec 32) : BitVec 1 :=
  let c1_i32_0 : BitVec 32 := 1#32
  let v7 : BitVec 1 := Scalar.cmpi .eq v6 c1_i32_0
  let v8 : BitVec 32 := Scalar.extui v7
  let c0_i32_1 : BitVec 32 := 0#32
  let v9 : BitVec 1 := Scalar.cmpi .ne v8 c0_i32_1
  v9

def k0_cond5 (v65 : BitVec 32) : BitVec 1 :=
  let c1_i32_26 : BitVec 32 := 1#32
  let v66 : BitVec 1 := Scalar.cmpi .eq v65 c1_i32_26
  let v67 : BitVec 32 := Scalar.extui v66
  let c0_i32_27 : BitVec 32 := 0#32
  let v68 : BitVec 1 := Scalar.cmpi .ne v67 c0_i32_27
  v68

def k0_cond6 (v70 : BitVec 32) : BitVec 1 :=
  let c0_i32_28 : BitVec 32 := 0#32
  let v71 : BitVec 1 := Scalar.cmpi .eq v70 c0_i32_28
  let v72 : BitVec 32 := Scalar.extui v71
  let c0_i32_29 : BitVec 32 := 0#32
  let v73 : BitVec 1 := Scalar.cmpi .ne v72 c0_i32_29
  v73

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S4352x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S160 : Shape := ⟨1, ![160]⟩
abbrev S32 : Shape := ⟨1, ![32]⟩
abbrev S32768x2048 : Shape := ⟨2, ![32768, 2048]⟩
abbrev S2x32x2048x512 : Shape := ⟨4, ![2, 32, 2048, 512]⟩
abbrev S2x32x512x2048 : Shape := ⟨4, ![2, 32, 512, 2048]⟩
abbrev S_ : Shape := ⟨0, ![]⟩
abbrev S1 : Shape := ⟨1, ![1]⟩
abbrev S31 : Shape := ⟨1, ![31]⟩
abbrev S32768 : Shape := ⟨1, ![32768]⟩
abbrev S32768x1 : Shape := ⟨2, ![32768, 1]⟩
abbrev S1x32 : Shape := ⟨2, ![1, 32]⟩
abbrev S32768x32 : Shape := ⟨2, ![32768, 32]⟩
abbrev S1x32x2048x512 : Shape := ⟨4, ![1, 32, 2048, 512]⟩
abbrev S32x2048x512 : Shape := ⟨3, ![32, 2048, 512]⟩
abbrev S32768x32x512 : Shape := ⟨3, ![32768, 32, 512]⟩
abbrev S32768x32x1 : Shape := ⟨3, ![32768, 32, 1]⟩
abbrev S1x32x512x2048 : Shape := ⟨4, ![1, 32, 512, 2048]⟩
abbrev S32x512x2048 : Shape := ⟨3, ![32, 512, 2048]⟩

abbrev nBuf : Space → Nat
  | .hbm => 52
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S160, .i32⟩
  | .hbm, ⟨3, _⟩ => ⟨S160, .i32⟩
  | .hbm, ⟨4, _⟩ => ⟨S160, .i32⟩
  | .hbm, ⟨5, _⟩ => ⟨S160, .i32⟩
  | .hbm, ⟨6, _⟩ => ⟨S160, .i32⟩
  | .hbm, ⟨7, _⟩ => ⟨S160, .i32⟩
  | .hbm, ⟨8, _⟩ => ⟨S160, .i32⟩
  | .hbm, ⟨9, _⟩ => ⟨S32, .i32⟩
  | .hbm, ⟨10, _⟩ => ⟨S32768x2048, .f32⟩
  | .hbm, ⟨11, _⟩ => ⟨S2x32x2048x512, .f32⟩
  | .hbm, ⟨12, _⟩ => ⟨S2x32x2048x512, .f32⟩
  | .hbm, ⟨13, _⟩ => ⟨S2x32x512x2048, .f32⟩
  | .hbm, ⟨14, _⟩ => ⟨S_, .i32⟩
  | .hbm, ⟨15, _⟩ => ⟨S1, .i32⟩
  | .hbm, ⟨16, _⟩ => ⟨S31, .i32⟩
  | .hbm, ⟨17, _⟩ => ⟨S32, .i32⟩
  | .hbm, ⟨18, _⟩ => ⟨S32768, .i32⟩
  | .hbm, ⟨19, _⟩ => ⟨S32768x1, .i32⟩
  | .hbm, ⟨20, _⟩ => ⟨S1x32, .i32⟩
  | .hbm, ⟨21, _⟩ => ⟨S32768x32, .i32⟩
  | .hbm, ⟨22, _⟩ => ⟨S32768x32, .i32⟩
  | .hbm, ⟨23, _⟩ => ⟨S32768x32, .i1⟩
  | .hbm, ⟨24, _⟩ => ⟨S1x32, .i32⟩
  | .hbm, ⟨25, _⟩ => ⟨S32768x32, .i32⟩
  | .hbm, ⟨26, _⟩ => ⟨S32768x32, .i32⟩
  | .hbm, ⟨27, _⟩ => ⟨S32768x32, .i1⟩
  | .hbm, ⟨28, _⟩ => ⟨S32768x32, .i1⟩
  | .hbm, ⟨29, _⟩ => ⟨S32768x32, .f32⟩
  | .hbm, ⟨30, _⟩ => ⟨S1x32x2048x512, .f32⟩
  | .hbm, ⟨31, _⟩ => ⟨S32x2048x512, .f32⟩
  | .hbm, ⟨32, _⟩ => ⟨S32768x32x512, .f32⟩
  | .hbm, ⟨33, _⟩ => ⟨S1x32x2048x512, .f32⟩
  | .hbm, ⟨34, _⟩ => ⟨S32x2048x512, .f32⟩
  | .hbm, ⟨35, _⟩ => ⟨S32768x32x512, .f32⟩
  | .hbm, ⟨36, _⟩ => ⟨S32768x32x512, .f32⟩
  | .hbm, ⟨37, _⟩ => ⟨S32768x32x512, .f32⟩
  | .hbm, ⟨38, _⟩ => ⟨S_, .f32⟩
  | .hbm, ⟨39, _⟩ => ⟨S32768x32x512, .f32⟩
  | .hbm, ⟨40, _⟩ => ⟨S32768x32x512, .f32⟩
  | .hbm, ⟨41, _⟩ => ⟨S_, .f32⟩
  | .hbm, ⟨42, _⟩ => ⟨S32768x32x512, .f32⟩
  | .hbm, ⟨43, _⟩ => ⟨S32768x32x512, .f32⟩
  | .hbm, ⟨44, _⟩ => ⟨S32768x32x512, .f32⟩
  | .hbm, ⟨45, _⟩ => ⟨S32768x32x512, .f32⟩
  | .hbm, ⟨46, _⟩ => ⟨S32768x32x1, .f32⟩
  | .hbm, ⟨47, _⟩ => ⟨S32768x32x512, .f32⟩
  | .hbm, ⟨48, _⟩ => ⟨S32768x32x512, .f32⟩
  | .hbm, ⟨49, _⟩ => ⟨S1x32x512x2048, .f32⟩
  | .hbm, ⟨50, _⟩ => ⟨S32x512x2048, .f32⟩
  | .hbm, ⟨51, _⟩ => ⟨S32768x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩

abbrev nD : Nat := 1
abbrev τ : Topo := Topo.v7x

variable {F : FTy → Type} [FloatOps F]
-- ==== Proof.Closed.lean ====
/- The attention kernel's one grid point in closed form, over any float operations: per head the scores' blocks, the
   running lane maximum, the row maximum, and the accumulator of the value products beside the row sums. -/
module

public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic
open VecWindow (window put)

variable {F : FTy → Type} [FloatOps F] [Named F]

/-- The query tile the grid point works on, of four. -/
def nf (i : grid0.Coords) : Fin 4 := ⟨(i 1).val, (i 1).isLt⟩

/-- Head `h`'s columns of a block of 512 query rows. -/
def qW (x2 : Vec F S512x512 .bf16) (h : Fin 4) : Vec F S512x128 .bf16 :=
  window x2 ![0, 128 * h.val] ![512, 128] (by have := h.isLt; intro a; fin_cases a <;> simp <;> omega)

/-- Head `h`'s columns of rows `512 j ..< 512 (j + 1)` of the keys or the values. -/
def kW (x3 : Vec F S2048x512 .bf16) (h j : Fin 4) : Vec F S512x128 .bf16 :=
  window x3 ![512 * j.val, 128 * h.val] ![512, 128] (by have := h.isLt; have := j.isLt; intro a; fin_cases a <;> simp <;> omega)

/-- Block `(h, j)` of the scores' scratch. -/
def w6 (x : Vec F S4x4x512x512 .f32) (h j : Fin 4) : Vec F S1x1x512x512 .f32 :=
  window x ![h.val, j.val, 0, 0] ![1, 1, 512, 512] (by have := h.isLt; have := j.isLt; intro a; fin_cases a <;> simp <;> omega)

/-- Slab `h` of the maxima's scratch. -/
def w7 (x : Vec F S4x512x128 .f32) (h : Fin 4) : Vec F S1x512x128 .f32 :=
  window x ![h.val, 0, 0] ![1, 512, 128] (by have := h.isLt; intro a; fin_cases a <;> simp <;> omega)

/-- Slab `h` of the accumulator's scratch. -/
def w8 (x : Vec F S4x512x256 .f32) (h : Fin 4) : Vec F S1x512x256 .f32 :=
  window x ![h.val, 0, 0] ![1, 512, 256] (by have := h.isLt; intro a; fin_cases a <;> simp <;> omega)

/-- Score block `j` of head `h` where every key precedes every query. -/
def SF (x2 : Vec F S512x512 .bf16) (x3 : Vec F S2048x512 .bf16) (h j : Fin 4) : Vec F S1x1x512x512 .f32 :=
  k0_pay3 (qW x2 h) (kW x3 h j)

/-- The diagonal score block of head `h`, masked. -/
def SD (i : grid0.Coords) (x2 : Vec F S512x512 .bf16) (x3 : Vec F S2048x512 .bf16) (h : Fin 4) : Vec F S1x1x512x512 .f32 :=
  k0_pay51 i (qW x2 h) (kW x3 h (nf i))

/-- Score block `j` of head `h` as the second loop reads it. -/
def SA (i : grid0.Coords) (x2 : Vec F S512x512 .bf16) (x3 : Vec F S2048x512 .bf16) (h j : Fin 4) : Vec F S1x1x512x512 .f32 :=
  if j.val < (nf i).val then SF x2 x3 h j else SD i x2 x3 h

/-- The running lane maximum of head `h`: the diagonal block's, then one block's after another. -/
def MX (i : grid0.Coords) (x2 : Vec F S512x512 .bf16) (x3 : Vec F S2048x512 .bf16) (h : Fin 4) : ℕ → Vec F S1x512x128 .f32
  | 0 => k0_pay52 (k0_pay50 i (qW x2 h) (kW x3 h (nf i)))
  | k + 1 => k0_pay4 (qW x2 h) (kW x3 h (Fin.ofNat 4 k)) (MX i x2 x3 h k)

/-- The row maximum of head `h`, on every lane. -/
def MR (i : grid0.Coords) (x2 : Vec F S512x512 .bf16) (x3 : Vec F S2048x512 .bf16) (h : Fin 4) : Vec F S1x512x128 .f32 :=
  k0_pay74 (MX i x2 x3 h (nf i).val)

/-- The ones beside the values: their products are the row sums. -/
def ONE : F .bf16 := Scalar.ofBits .bf16 0x3F80#16

/-- The accumulator of head `h` after `k` blocks of keys. -/
def ACC (i : grid0.Coords) (x2 : Vec F S512x512 .bf16) (x3 x4 : Vec F S2048x512 .bf16) (h : Fin 4) : ℕ → Vec F S1x512x256 .f32
  | 0 => k0_pay75
  | k + 1 => k0_pay20 (k0_pay83 ONE) (MR i x2 x3 h) (SA i x2 x3 h (Fin.ofNat 4 k)) (kW x4 h (Fin.ofNat 4 k)) (ACC i x2 x3 x4 h k)

/-- The left (`o = 0`) or right (`o = 128`) half of an accumulator slab. -/
def half (a : Vec F S1x512x256 .f32) (o : ℕ) (ho : o ≤ 128) : Vec F S1x512x128 .f32 :=
  window a ![0, 0, o] ![1, 512, 128] (by intro a; fin_cases a <;> simp <;> omega)

/-- Head `h`'s columns of the result: the value products over the row sums. -/
def OUTh (i : grid0.Coords) (x2 : Vec F S512x512 .bf16) (x3 x4 : Vec F S2048x512 .bf16) (h : Fin 4) : Vec F S512x128 .bf16 :=
  k0_pay86 (half (ACC i x2 x3 x4 h ((nf i).val + 1)) 0 (by omega)) (half (ACC i x2 x3 x4 h ((nf i).val + 1)) 128 (by omega))

/-- The block of the result the grid point writes: the four heads side by side. -/
def OUT (i : grid0.Coords) (x2 : Vec F S512x512 .bf16) (x3 x4 : Vec F S2048x512 .bf16) : Vec F S512x512 .bf16 :=
  fun y => OUTh i x2 x3 x4 ⟨(y 1).val / 128, by have : (y 1).val < 512 := (y 1).isLt; omega⟩
    (fun a => match a with
      | 0 => ⟨(y 0).val, (y 0).isLt⟩
      | 1 => ⟨(y 1).val % 128, Nat.mod_lt _ (by norm_num)⟩)

/-! ## Windows under four puts -/

theorem w6_put4 (x : Vec F S4x4x512x512 .f32) (k : Fin 4) (w : Fin 4 → Vec F S1x1x512x512 .f32) (h j : Fin 4) :
    w6 (put (put (put (put x ![0, k.val, 0, 0] ![1, 1, 512, 512] (w 0)) ![1, k.val, 0, 0] ![1, 1, 512, 512] (w 1)) ![2, k.val, 0, 0] ![1, 1, 512, 512] (w 2)) ![3, k.val, 0, 0] ![1, 1, 512, 512] (w 3)) h j
      = if j = k then w h else w6 x h j := by
  unfold w6
  by_cases hjk : j = k
  · subst hjk
    rw [if_pos rfl]
    fin_cases h
    · rw [VecWindow.window_put_of_disjoint _ _ _ _ _ _ _ 0 (by simp), VecWindow.window_put_of_disjoint _ _ _ _ _ _ _ 0 (by simp), VecWindow.window_put_of_disjoint _ _ _ _ _ _ _ 0 (by simp)]
      exact VecWindow.window_put_same _ _ _ _ _
    · rw [VecWindow.window_put_of_disjoint _ _ _ _ _ _ _ 0 (by simp), VecWindow.window_put_of_disjoint _ _ _ _ _ _ _ 0 (by simp)]
      exact VecWindow.window_put_same _ _ _ _ _
    · rw [VecWindow.window_put_of_disjoint _ _ _ _ _ _ _ 0 (by simp)]
      exact VecWindow.window_put_same _ _ _ _ _
    · exact VecWindow.window_put_same _ _ _ _ _
  · rw [if_neg hjk]
    have hne : j.val ≠ k.val := fun e => hjk (Fin.ext e)
    rw [VecWindow.window_put_of_disjoint _ _ _ _ _ _ _ 1 (by simp; omega), VecWindow.window_put_of_disjoint _ _ _ _ _ _ _ 1 (by simp; omega), VecWindow.window_put_of_disjoint _ _ _ _ _ _ _ 1 (by simp; omega), VecWindow.window_put_of_disjoint _ _ _ _ _ _ _ 1 (by simp; omega)]

theorem w7_put4 (x : Vec F S4x512x128 .f32) (w : Fin 4 → Vec F S1x512x128 .f32) (h : Fin 4) :
    w7 (put (put (put (put x ![0, 0, 0] ![1, 512, 128] (w 0)) ![1, 0, 0] ![1, 512, 128] (w 1)) ![2, 0, 0] ![1, 512, 128] (w 2)) ![3, 0, 0] ![1, 512, 128] (w 3)) h
      = w h := by
  unfold w7
  fin_cases h
  · rw [VecWindow.window_put_of_disjoint _ _ _ _ _ _ _ 0 (by simp), VecWindow.window_put_of_disjoint _ _ _ _ _ _ _ 0 (by simp), VecWindow.window_put_of_disjoint _ _ _ _ _ _ _ 0 (by simp)]
    exact VecWindow.window_put_same _ _ _ _ _
  · rw [VecWindow.window_put_of_disjoint _ _ _ _ _ _ _ 0 (by simp), VecWindow.window_put_of_disjoint _ _ _ _ _ _ _ 0 (by simp)]
    exact VecWindow.window_put_same _ _ _ _ _
  · rw [VecWindow.window_put_of_disjoint _ _ _ _ _ _ _ 0 (by simp)]
    exact VecWindow.window_put_same _ _ _ _ _
  · exact VecWindow.window_put_same _ _ _ _ _

theorem w8_put4 (x : Vec F S4x512x256 .f32) (w : Fin 4 → Vec F S1x512x256 .f32) (h : Fin 4) :
    w8 (put (put (put (put x ![0, 0, 0] ![1, 512, 256] (w 0)) ![1, 0, 0] ![1, 512, 256] (w 1)) ![2, 0, 0] ![1, 512, 256] (w 2)) ![3, 0, 0] ![1, 512, 256] (w 3)) h
      = w h := by
  unfold w8
  fin_cases h
  · rw [VecWindow.window_put_of_disjoint _ _ _ _ _ _ _ 0 (by simp), VecWindow.window_put_of_disjoint _ _ _ _ _ _ _ 0 (by simp), VecWindow.window_put_of_disjoint _ _ _ _ _ _ _ 0 (by simp)]
    exact VecWindow.window_put_same _ _ _ _ _
  · rw [VecWindow.window_put_of_disjoint _ _ _ _ _ _ _ 0 (by simp), VecWindow.window_put_of_disjoint _ _ _ _ _ _ _ 0 (by simp)]
    exact VecWindow.window_put_same _ _ _ _ _
  · rw [VecWindow.window_put_of_disjoint _ _ _ _ _ _ _ 0 (by simp)]
    exact VecWindow.window_put_same _ _ _ _ _
  · exact VecWindow.window_put_same _ _ _ _ _

end Cert.KernelIdeal.Hand

end
-- ==== Proof.Trips.lean ====
/- What the attention kernel's four counted loops leave in the scratch buffers, read in windows: the first loop writes the
   score blocks before the diagonal and folds the lane maxima; the second and the fourth run no trip; the third adds one
   block's value products after another. -/
module

public import proofs.«01_k».proof.Proof.Closed
public import proofs.«01_k».proof.Proof.Gen.KernelIdeal.Loops
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe
open VecWindow (window put)

variable {F : FTy → Type} [FloatOps F] [Named F]

/-! ## Trip counts and offsets -/

theorem trips1 (i : grid0.Coords) : (k0_t1_loop i).trips = (nf i).val := by
  unfold nf k0_t1_loop
  have h : (i 1).val < 4 := (i 1).isLt
  dsimp only
  generalize (i 1).val = j at h
  interval_cases j <;> rfl
theorem trips2 (i : grid0.Coords) : (k0_t2_loop i).trips = 0 := by
  unfold k0_t2_loop
  have h : (i 1).val < 4 := (i 1).isLt
  dsimp only
  generalize (i 1).val = j at h
  interval_cases j <;> rfl
theorem trips3 (i : grid0.Coords) : (k0_t3_loop i).trips = (nf i).val + 1 := by
  unfold nf k0_t3_loop
  have h : (i 1).val < 4 := (i 1).isLt
  dsimp only
  generalize (i 1).val = j at h
  interval_cases j <;> rfl
theorem trips4 (i : grid0.Coords) : (k0_t4_loop i).trips = 0 := by
  unfold k0_t4_loop
  have h : (i 1).val < 4 := (i 1).isLt
  dsimp only
  generalize (i 1).val = j at h
  interval_cases j <;> rfl

/-- The block a trip of the first loop works on. -/
def jk1 (i : grid0.Coords) (k : Fin (k0_t1_loop i).trips) : Fin 4 := ⟨k.val, by have := k.isLt; have := trips1 i; have := (nf i).isLt; omega⟩
/-- The block a trip of the third loop works on. -/
def jk3 (i : grid0.Coords) (k : Fin (k0_t3_loop i).trips) : Fin 4 := ⟨k.val, by have := k.isLt; have := trips3 i; have := (nf i).isLt; omega⟩

theorem off1_eq (i : grid0.Coords) : k0_off1 i = ![512 * (nf i).val, 0] := by
  unfold nf k0_off1
  have h : (i 1).val < 4 := (i 1).isLt
  dsimp only
  generalize (i 1).val = j at h
  interval_cases j <;> rfl

theorem off3_eq (i : grid0.Coords) : k0_off3 i = ![512 * (nf i).val, 128] := by
  unfold nf k0_off3
  have h : (i 1).val < 4 := (i 1).isLt
  dsimp only
  generalize (i 1).val = j at h
  interval_cases j <;> rfl

theorem off5_eq (i : grid0.Coords) : k0_off5 i = ![512 * (nf i).val, 256] := by
  unfold nf k0_off5
  have h : (i 1).val < 4 := (i 1).isLt
  dsimp only
  generalize (i 1).val = j at h
  interval_cases j <;> rfl

theorem off7_eq (i : grid0.Coords) : k0_off7 i = ![512 * (nf i).val, 384] := by
  unfold nf k0_off7
  have h : (i 1).val < 4 := (i 1).isLt
  dsimp only
  generalize (i 1).val = j at h
  interval_cases j <;> rfl

theorem off2_eq (i : grid0.Coords) : k0_off2 i = ![0, (nf i).val, 0, 0] := by
  unfold nf k0_off2
  have h : (i 1).val < 4 := (i 1).isLt
  dsimp only
  generalize (i 1).val = j at h
  interval_cases j <;> rfl

theorem off4_eq (i : grid0.Coords) : k0_off4 i = ![1, (nf i).val, 0, 0] := by
  unfold nf k0_off4
  have h : (i 1).val < 4 := (i 1).isLt
  dsimp only
  generalize (i 1).val = j at h
  interval_cases j <;> rfl

theorem off6_eq (i : grid0.Coords) : k0_off6 i = ![2, (nf i).val, 0, 0] := by
  unfold nf k0_off6
  have h : (i 1).val < 4 := (i 1).isLt
  dsimp only
  generalize (i 1).val = j at h
  interval_cases j <;> rfl

theorem off8_eq (i : grid0.Coords) : k0_off8 i = ![3, (nf i).val, 0, 0] := by
  unfold nf k0_off8
  have h : (i 1).val < 4 := (i 1).isLt
  dsimp only
  generalize (i 1).val = j at h
  interval_cases j <;> rfl

theorem off9_eq (i : grid0.Coords) (k : Fin (k0_t1_loop i).trips) : k0_off9 i k = ![512 * (jk1 i k).val, 0] := by
  obtain ⟨k, hk⟩ := k
  have h : k < 4 := by have := trips1 i; have := (nf i).isLt; omega
  unfold jk1 k0_off9
  dsimp only
  interval_cases k <;> rfl

theorem off10_eq (i : grid0.Coords) (k : Fin (k0_t1_loop i).trips) : k0_off10 i k = ![0, (jk1 i k).val, 0, 0] := by
  obtain ⟨k, hk⟩ := k
  have h : k < 4 := by have := trips1 i; have := (nf i).isLt; omega
  unfold jk1 k0_off10
  dsimp only
  interval_cases k <;> rfl

theorem off25_eq (i : grid0.Coords) (k : Fin (k0_t3_loop i).trips) : k0_off25 i k = ![0, (jk3 i k).val, 0, 0] := by
  obtain ⟨k, hk⟩ := k
  have h : k < 4 := by have := trips3 i; have := (nf i).isLt; omega
  unfold jk3 k0_off25
  dsimp only
  interval_cases k <;> rfl

theorem off26_eq (i : grid0.Coords) (k : Fin (k0_t3_loop i).trips) : k0_off26 i k = ![512 * (jk3 i k).val, 0] := by
  obtain ⟨k, hk⟩ := k
  have h : k < 4 := by have := trips3 i; have := (nf i).isLt; omega
  unfold jk3 k0_off26
  dsimp only
  interval_cases k <;> rfl

theorem off11_eq (i : grid0.Coords) (k : Fin (k0_t1_loop i).trips) : k0_off11 i k = ![512 * (jk1 i k).val, 128] := by
  obtain ⟨k, hk⟩ := k
  have h : k < 4 := by have := trips1 i; have := (nf i).isLt; omega
  unfold jk1 k0_off11
  dsimp only
  interval_cases k <;> rfl

theorem off12_eq (i : grid0.Coords) (k : Fin (k0_t1_loop i).trips) : k0_off12 i k = ![1, (jk1 i k).val, 0, 0] := by
  obtain ⟨k, hk⟩ := k
  have h : k < 4 := by have := trips1 i; have := (nf i).isLt; omega
  unfold jk1 k0_off12
  dsimp only
  interval_cases k <;> rfl

theorem off27_eq (i : grid0.Coords) (k : Fin (k0_t3_loop i).trips) : k0_off27 i k = ![1, (jk3 i k).val, 0, 0] := by
  obtain ⟨k, hk⟩ := k
  have h : k < 4 := by have := trips3 i; have := (nf i).isLt; omega
  unfold jk3 k0_off27
  dsimp only
  interval_cases k <;> rfl

theorem off28_eq (i : grid0.Coords) (k : Fin (k0_t3_loop i).trips) : k0_off28 i k = ![512 * (jk3 i k).val, 128] := by
  obtain ⟨k, hk⟩ := k
  have h : k < 4 := by have := trips3 i; have := (nf i).isLt; omega
  unfold jk3 k0_off28
  dsimp only
  interval_cases k <;> rfl

theorem off13_eq (i : grid0.Coords) (k : Fin (k0_t1_loop i).trips) : k0_off13 i k = ![512 * (jk1 i k).val, 256] := by
  obtain ⟨k, hk⟩ := k
  have h : k < 4 := by have := trips1 i; have := (nf i).isLt; omega
  unfold jk1 k0_off13
  dsimp only
  interval_cases k <;> rfl

theorem off14_eq (i : grid0.Coords) (k : Fin (k0_t1_loop i).trips) : k0_off14 i k = ![2, (jk1 i k).val, 0, 0] := by
  obtain ⟨k, hk⟩ := k
  have h : k < 4 := by have := trips1 i; have := (nf i).isLt; omega
  unfold jk1 k0_off14
  dsimp only
  interval_cases k <;> rfl

theorem off29_eq (i : grid0.Coords) (k : Fin (k0_t3_loop i).trips) : k0_off29 i k = ![2, (jk3 i k).val, 0, 0] := by
  obtain ⟨k, hk⟩ := k
  have h : k < 4 := by have := trips3 i; have := (nf i).isLt; omega
  unfold jk3 k0_off29
  dsimp only
  interval_cases k <;> rfl

theorem off30_eq (i : grid0.Coords) (k : Fin (k0_t3_loop i).trips) : k0_off30 i k = ![512 * (jk3 i k).val, 256] := by
  obtain ⟨k, hk⟩ := k
  have h : k < 4 := by have := trips3 i; have := (nf i).isLt; omega
  unfold jk3 k0_off30
  dsimp only
  interval_cases k <;> rfl

theorem off15_eq (i : grid0.Coords) (k : Fin (k0_t1_loop i).trips) : k0_off15 i k = ![512 * (jk1 i k).val, 384] := by
  obtain ⟨k, hk⟩ := k
  have h : k < 4 := by have := trips1 i; have := (nf i).isLt; omega
  unfold jk1 k0_off15
  dsimp only
  interval_cases k <;> rfl

theorem off16_eq (i : grid0.Coords) (k : Fin (k0_t1_loop i).trips) : k0_off16 i k = ![3, (jk1 i k).val, 0, 0] := by
  obtain ⟨k, hk⟩ := k
  have h : k < 4 := by have := trips1 i; have := (nf i).isLt; omega
  unfold jk1 k0_off16
  dsimp only
  interval_cases k <;> rfl

theorem off31_eq (i : grid0.Coords) (k : Fin (k0_t3_loop i).trips) : k0_off31 i k = ![3, (jk3 i k).val, 0, 0] := by
  obtain ⟨k, hk⟩ := k
  have h : k < 4 := by have := trips3 i; have := (nf i).isLt; omega
  unfold jk3 k0_off31
  dsimp only
  interval_cases k <;> rfl

theorem off32_eq (i : grid0.Coords) (k : Fin (k0_t3_loop i).trips) : k0_off32 i k = ![512 * (jk3 i k).val, 384] := by
  obtain ⟨k, hk⟩ := k
  have h : k < 4 := by have := trips3 i; have := (nf i).isLt; omega
  unfold jk3 k0_off32
  dsimp only
  interval_cases k <;> rfl

/-! ## Loads as windows -/

theorem kld (v : View sig .tc .vmem S2048x512 .bf16) (X : BufTy.Contents (Elt F) v.ty) {off : Fin 2 → ℕ} (inb : ∀ a, off a + S512x128.size a ≤ S2048x512.size a) {h j : Fin 4}
    (e : off = ![512 * j.val, 128 * h.val]) : v.readAt (Elt F) (Rect.unit (s := S2048x512) off S512x128.size inb).toLoadRect X = kW (v.read (Elt F) X) h j := by
  subst e; rfl

theorem sld (v : View sig .tc .vmem S4x4x512x512 .f32) (X : BufTy.Contents (Elt F) v.ty) {off : Fin 4 → ℕ} (inb : ∀ a, off a + S1x1x512x512.size a ≤ S4x4x512x512.size a) {h j : Fin 4}
    (e : off = ![h.val, j.val, 0, 0]) : v.readAt (Elt F) (Rect.unit (s := S4x4x512x512) off S1x1x512x512.size inb).toLoadRect X = w6 (v.read (Elt F) X) h j := by
  subst e; rfl

/-! ## One trip -/
section
variable (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S4x4x512x512 .f32) (harg6 : arg6.IsWhole) (arg7 : Memref sig .tc .vmem S4x512x128 .f32) (harg7 : arg7.IsWhole) (arg8 : Memref sig .tc .vmem S4x512x256 .f32) (harg8 : arg8.IsWhole)

theorem trip1_6 (v17 : BitVec 32) (v115 : FVec F S512x128 .f32) (v116 : Vec F S1x512x128 .f32) (X2 : BufTy.Contents (Elt F) arg2.view.ty) (X3 : BufTy.Contents (Elt F) arg3.view.ty) (k : Fin (k0_t1_loop i).trips)
    (f6 : BufTy.Contents (Elt F) arg6.view.ty) (f7 : BufTy.Contents (Elt F) arg7.view.ty) (h j : Fin 4) :
    w6 (arg6.view.read (Elt F) (arg6.view.writes (Elt F) f6 (tripL_k0_t1 (F := F) Variants.none c none i arg2 harg2 arg3 harg3 arg4 harg4 arg5 harg5 arg6 harg6 arg7 harg7 arg8 harg8 v17 v115 v116 X2 X3 k f6 f7).1)) h j
      = if j = jk1 i k then SF (arg2.view.read (Elt F) X2) (arg3.view.read (Elt F) X3) h (jk1 i k) else w6 (arg6.view.read (Elt F) f6) h j := by
  refine Eq.trans ?_ (w6_put4 (arg6.view.read (Elt F) f6) (jk1 i k) (fun h => SF (arg2.view.read (Elt F) X2) (arg3.view.read (Elt F) X3) h (jk1 i k)) h j)
  refine congrArg (w6 · h j) ?_
  unfold tripL_k0_t1 trip_k0_t1
  dsimp only
  rw [View.read_writes_cons_put _ _ _ _ _ (off16_eq i k), View.read_writes_cons_put _ _ _ _ _ (off14_eq i k), View.read_writes_cons_put _ _ _ _ _ (off12_eq i k), View.read_writes_cons_put _ _ _ _ _ (off10_eq i k), View.writes_nil]
  simp only [SF]
  rw [← kld arg3.view X3 (k0_off9_inb i k) (h := 0) (off9_eq i k), ← kld arg3.view X3 (k0_off11_inb i k) (h := 1) (off11_eq i k), ← kld arg3.view X3 (k0_off13_inb i k) (h := 2) (off13_eq i k), ← kld arg3.view X3 (k0_off15_inb i k) (h := 3) (off15_eq i k)]
  rfl

theorem trip1_7 (v17 : BitVec 32) (v115 : FVec F S512x128 .f32) (v116 : Vec F S1x512x128 .f32) (X2 : BufTy.Contents (Elt F) arg2.view.ty) (X3 : BufTy.Contents (Elt F) arg3.view.ty) (k : Fin (k0_t1_loop i).trips)
    (f6 : BufTy.Contents (Elt F) arg6.view.ty) (f7 : BufTy.Contents (Elt F) arg7.view.ty) (h : Fin 4) :
    w7 (arg7.view.read (Elt F) (arg7.view.writes (Elt F) f7 (tripL_k0_t1 (F := F) Variants.none c none i arg2 harg2 arg3 harg3 arg4 harg4 arg5 harg5 arg6 harg6 arg7 harg7 arg8 harg8 v17 v115 v116 X2 X3 k f6 f7).2)) h
      = k0_pay4 (qW (arg2.view.read (Elt F) X2) h) (kW (arg3.view.read (Elt F) X3) h (jk1 i k)) (w7 (arg7.view.read (Elt F) f7) h) := by
  refine Eq.trans ?_ (w7_put4 (arg7.view.read (Elt F) f7) (fun h => k0_pay4 (qW (arg2.view.read (Elt F) X2) h) (kW (arg3.view.read (Elt F) X3) h (jk1 i k)) (w7 (arg7.view.read (Elt F) f7) h)) h)
  refine congrArg (w7 · h) ?_
  unfold tripL_k0_t1 trip_k0_t1
  dsimp only
  rw [View.read_writes_cons_put _ _ _ _ _ rfl, View.read_writes_cons_put _ _ _ _ _ rfl, View.read_writes_cons_put _ _ _ _ _ rfl, View.read_writes_cons_put _ _ _ _ _ rfl, View.writes_nil]
  rw [← kld arg3.view X3 (k0_off9_inb i k) (h := 0) (off9_eq i k), ← kld arg3.view X3 (k0_off11_inb i k) (h := 1) (off11_eq i k), ← kld arg3.view X3 (k0_off13_inb i k) (h := 2) (off13_eq i k), ← kld arg3.view X3 (k0_off15_inb i k) (h := 3) (off15_eq i k)]
  rfl

theorem trip3_8 (v17 : BitVec 32) (X4 : BufTy.Contents (Elt F) arg4.view.ty) (X6 : BufTy.Contents (Elt F) arg6.view.ty) (X7 : BufTy.Contents (Elt F) arg7.view.ty) (k : Fin (k0_t3_loop i).trips)
    (f8 : BufTy.Contents (Elt F) arg8.view.ty) (h : Fin 4) :
    w8 (arg8.view.read (Elt F) (arg8.view.writes (Elt F) f8 (tripL_k0_t3 (F := F) Variants.none c none i arg2 harg2 arg3 harg3 arg4 harg4 arg5 harg5 arg6 harg6 arg7 harg7 arg8 harg8 v17 ONE X4 X6 X7 k f8))) h
      = k0_pay20 (k0_pay83 ONE) (w7 (arg7.view.read (Elt F) X7) h) (w6 (arg6.view.read (Elt F) X6) h (jk3 i k)) (kW (arg4.view.read (Elt F) X4) h (jk3 i k)) (w8 (arg8.view.read (Elt F) f8) h) := by
  refine Eq.trans ?_ (w8_put4 (arg8.view.read (Elt F) f8) (fun h => k0_pay20 (k0_pay83 ONE) (w7 (arg7.view.read (Elt F) X7) h) (w6 (arg6.view.read (Elt F) X6) h (jk3 i k)) (kW (arg4.view.read (Elt F) X4) h (jk3 i k)) (w8 (arg8.view.read (Elt F) f8) h)) h)
  refine congrArg (w8 · h) ?_
  unfold tripL_k0_t3 trip_k0_t3
  dsimp only
  rw [View.read_writes_cons_put _ _ _ _ _ rfl, View.read_writes_cons_put _ _ _ _ _ rfl, View.read_writes_cons_put _ _ _ _ _ rfl, View.read_writes_cons_put _ _ _ _ _ rfl, View.writes_nil]
  rw [← kld arg4.view X4 (k0_off26_inb i k) (h := 0) (off26_eq i k), ← kld arg4.view X4 (k0_off28_inb i k) (h := 1) (off28_eq i k), ← kld arg4.view X4 (k0_off30_inb i k) (h := 2) (off30_eq i k), ← kld arg4.view X4 (k0_off32_inb i k) (h := 3) (off32_eq i k)]
  rw [← sld arg6.view X6 (k0_off25_inb i k) (h := 0) (off25_eq i k), ← sld arg6.view X6 (k0_off27_inb i k) (h := 1) (off27_eq i k), ← sld arg6.view X6 (k0_off29_inb i k) (h := 2) (off29_eq i k), ← sld arg6.view X6 (k0_off31_inb i k) (h := 3) (off31_eq i k)]
  rfl

/-! ## The loops -/

theorem loop1 (v17 : BitVec 32) (v115 : FVec F S512x128 .f32) (v116 : Vec F S1x512x128 .f32) (X2 : BufTy.Contents (Elt F) arg2.view.ty) (X3 : BufTy.Contents (Elt F) arg3.view.ty)
    (G6 : BufTy.Contents (Elt F) arg6.view.ty) (G7 : BufTy.Contents (Elt F) arg7.view.ty)
    (h0 : ∀ h, w7 (arg7.view.read (Elt F) G7) h = MX i (arg2.view.read (Elt F) X2) (arg3.view.read (Elt F) X3) h 0) (k : ℕ) (hk : k ≤ (k0_t1_loop i).trips) :
    (∀ h j, w6 (arg6.view.read (Elt F) (arg6.view.writes (Elt F) G6 (pb_k0_t1 (F := F) Variants.none c none i arg2 harg2 arg3 harg3 arg4 harg4 arg5 harg5 arg6 harg6 arg7 harg7 arg8 harg8 v17 v115 v116 X2 X3 G6 G7 k).1)) h j
        = if j.val < k then SF (arg2.view.read (Elt F) X2) (arg3.view.read (Elt F) X3) h j else w6 (arg6.view.read (Elt F) G6) h j)
    ∧ (∀ h, w7 (arg7.view.read (Elt F) (arg7.view.writes (Elt F) G7 (pb_k0_t1 (F := F) Variants.none c none i arg2 harg2 arg3 harg3 arg4 harg4 arg5 harg5 arg6 harg6 arg7 harg7 arg8 harg8 v17 v115 v116 X2 X3 G6 G7 k).2)) h
        = MX i (arg2.view.read (Elt F) X2) (arg3.view.read (Elt F) X3) h k) := by
  induction k with
  | zero => exact ⟨fun h j => rfl, fun h => h0 h⟩
  | succ k ih =>
    obtain ⟨ih6, ih7⟩ := ih (by omega)
    have hs := pb_k0_t1_succ (F := F) Variants.none c none i arg2 harg2 arg3 harg3 arg4 harg4 arg5 harg5 arg6 harg6 arg7 harg7 arg8 harg8 v17 v115 v116 X2 X3 G6 G7 ⟨k, hk⟩
    dsimp only at hs
    have hj : jk1 i ⟨k, hk⟩ = Fin.ofNat 4 k := Fin.ext (by
      have h4 : k < 4 := (jk1 i ⟨k, hk⟩).isLt
      show k = k % 4
      omega)
    rw [hs]
    refine ⟨fun h j => ?_, fun h => ?_⟩
    · dsimp only
      rw [View.writes_append, trip1_6, ih6]
      by_cases e : j = jk1 i ⟨k, hk⟩
      · rw [if_pos e, if_pos (by rw [e]; exact Nat.lt_succ_self k), e]
      · rw [if_neg e]
        have hne : j.val ≠ k := fun e' => e (Fin.ext e')
        by_cases hlt : j.val < k
        · rw [if_pos hlt, if_pos (by omega)]
        · rw [if_neg hlt, if_neg (by omega)]
    · dsimp only
      rw [View.writes_append, trip1_7, ih7, hj]
      rfl

theorem loop3 (v17 : BitVec 32) (X4 : BufTy.Contents (Elt F) arg4.view.ty) (X6 : BufTy.Contents (Elt F) arg6.view.ty) (X7 : BufTy.Contents (Elt F) arg7.view.ty)
    (G8 : BufTy.Contents (Elt F) arg8.view.ty) (x2 : Vec F S512x512 .bf16) (x3 : Vec F S2048x512 .bf16)
    (h6 : ∀ h j : Fin 4, j.val ≤ (nf i).val → w6 (arg6.view.read (Elt F) X6) h j = SA i x2 x3 h j)
    (h7 : ∀ h, w7 (arg7.view.read (Elt F) X7) h = MR i x2 x3 h)
    (h8 : ∀ h, w8 (arg8.view.read (Elt F) G8) h = k0_pay75) (k : ℕ) (hk : k ≤ (k0_t3_loop i).trips) :
    ∀ h, w8 (arg8.view.read (Elt F) (arg8.view.writes (Elt F) G8 (pb_k0_t3 (F := F) Variants.none c none i arg2 harg2 arg3 harg3 arg4 harg4 arg5 harg5 arg6 harg6 arg7 harg7 arg8 harg8 v17 ONE X4 X6 X7 G8 k))) h
        = ACC i x2 x3 (arg4.view.read (Elt F) X4) h k := by
  induction k with
  | zero => exact fun h => h8 h
  | succ k ih =>
    have ih8 := ih (by omega)
    have hs := pb_k0_t3_succ (F := F) Variants.none c none i arg2 harg2 arg3 harg3 arg4 harg4 arg5 harg5 arg6 harg6 arg7 harg7 arg8 harg8 v17 ONE X4 X6 X7 G8 ⟨k, hk⟩
    dsimp only at hs
    have hj : jk3 i ⟨k, hk⟩ = Fin.ofNat 4 k := Fin.ext (by
      have h4 : k < 4 := (jk3 i ⟨k, hk⟩).isLt
      show k = k % 4
      omega)
    rw [hs]
    intro h
    rw [View.writes_append, trip3_8, ih8, h7, h6 h _ (by have := trips3 i; show k ≤ _; omega), hj]
    rfl

theorem loop2 (v17 : BitVec 32) (v115 : FVec F S512x128 .f32) (v116 : Vec F S1x512x128 .f32) (v123 : BitVec 32) (X2 : BufTy.Contents (Elt F) arg2.view.ty) (X3 : BufTy.Contents (Elt F) arg3.view.ty)
    (G6 : BufTy.Contents (Elt F) arg6.view.ty) (G7 : BufTy.Contents (Elt F) arg7.view.ty) :
    pb_k0_t2 (F := F) Variants.none c none i arg2 harg2 arg3 harg3 arg4 harg4 arg5 harg5 arg6 harg6 arg7 harg7 arg8 harg8 v17 v115 v116 v123 X2 X3 G6 G7 (Scf.trips (k0_t2_loop i).lb (k0_t2_loop i).ub (k0_t2_loop i).st) = ([], []) := by
  rw [show Scf.trips (k0_t2_loop i).lb (k0_t2_loop i).ub (k0_t2_loop i).st = 0 from trips2 i]
  rfl

theorem loop4 (v17 : BitVec 32) (one : F .bf16) (v182 : BitVec 32) (X4 : BufTy.Contents (Elt F) arg4.view.ty) (X6 : BufTy.Contents (Elt F) arg6.view.ty) (X7 : BufTy.Contents (Elt F) arg7.view.ty)
    (G8 : BufTy.Contents (Elt F) arg8.view.ty) :
    pb_k0_t4 (F := F) Variants.none c none i arg2 harg2 arg3 harg3 arg4 harg4 arg5 harg5 arg6 harg6 arg7 harg7 arg8 harg8 v17 one v182 X4 X6 X7 G8 (Scf.trips (k0_t4_loop i).lb (k0_t4_loop i).ub (k0_t4_loop i).st) = [] := by
  rw [show Scf.trips (k0_t4_loop i).lb (k0_t4_loop i).ub (k0_t4_loop i).st = 0 from trips4 i]
  rfl

end

end Cert.KernelIdeal.Hand

end
-- ==== Proof.Run.lean ====
/- The attention kernel's body, run once: on whole staging buffers the four counted loops go by their generated
   invariants, and the pieces the run leaves in the output's buffer are found by the run. -/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body's triple, whatever the three scratch buffers hold: the pieces of the output's buffer are the run's own
    finds, functions of what the scratch held. -/
@[irreducible] def bodyRun (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S4x4x512x512 .f32) (harg6 : arg6.IsWhole) (arg7 : Memref sig .tc .vmem S4x512x128 .f32) (harg7 : arg7.IsWhole) (arg8 : Memref sig .tc .vmem S4x512x256 .f32) (harg8 : arg8.IsWhole)
    (X2 : BufTy.Contents (Elt F) arg2.view.ty) (X3 : BufTy.Contents (Elt F) arg3.view.ty) (X4 : BufTy.Contents (Elt F) arg4.view.ty)
    (f6 : BufTy.Contents (Elt F) arg6.view.ty) (f7 : BufTy.Contents (Elt F) arg7.view.ty) (f8 : BufTy.Contents (Elt F) arg8.view.ty) :
    { L : List (View.Piece (Elt F) S512x512 .bf16) // ∀ (E : Set ℕ) (K : PUnit → sProp 𝕄) (f5 : BufTy.Contents (Elt F) arg5.view.ty),
        iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
            ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4)
                ∗ (arg5.view.loc (c : Thread nD τ) ↦[arg5.view.set]{fullShare} (arg5.view.writes (Elt F) f5 L)) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_mla_attn i arg2 harg2 arg3 harg3 arg4 harg4 arg5 harg5 arg6 harg6 arg7 harg7 arg8 harg8) K } := by
  refine ⟨?_, fun E K f5 => ?run⟩
  case run =>
    simp only [cc0_mla_attn_eq_skeleton]; unfold cc0_mla_attn_skel
    simp only [k0_part11_eq_skeleton, k0_part12_eq_skeleton, k0_part13_eq_skeleton, k0_part14_eq_skeleton, k0_part15_eq_skeleton, k0_part16_eq_skeleton]
    unfold owns
    iintro ⟨H2, H3, H4, H5, H6, H7, H8, Hk⟩
    sl_exec
    sl_step
    iapply Hk
    isplitl [H2]; · iexact H2
    isplitl [H3]; · iexact H3
    isplitl [H4]; · iexact H4
    isplitl [H5]; · iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.KernelIdeal.Hand

end
-- ==== Proof.Final.lean ====
/- The whole body in closed form: what the run's pieces leave in the output's buffer. -/
module

public import proofs.«01_k».proof.Proof.Trips
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe
open VecWindow (window put)

variable {F : FTy → Type} [FloatOps F] [Named F]

variable (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S4x4x512x512 .f32) (harg6 : arg6.IsWhole) (arg7 : Memref sig .tc .vmem S4x512x128 .f32) (harg7 : arg7.IsWhole) (arg8 : Memref sig .tc .vmem S4x512x256 .f32) (harg8 : arg8.IsWhole)

/-- The diagonal's stores into the scores' scratch. -/
def P6 (X2 : BufTy.Contents (Elt F) arg2.view.ty) (X3 : BufTy.Contents (Elt F) arg3.view.ty) : List (View.Piece (Elt F) S4x4x512x512 .f32) :=
  [⟨Rect.unit (s := S4x4x512x512) (k0_off8 i) S1x1x512x512.size (k0_off8_inb i), k0_pay63 (k0_pay48 i) (k0_pay49 i) (arg2.view.readAt (Elt F) (Rect.unit (s := S512x512) ![0, 384] S512x128.size inb_S512x512_S512x128_0_384).toLoadRect X2) (arg3.view.readAt (Elt F) (Rect.unit (s := S2048x512) (k0_off7 i) S512x128.size (k0_off7_inb i)).toLoadRect X3)⟩,
   ⟨Rect.unit (s := S4x4x512x512) (k0_off6 i) S1x1x512x512.size (k0_off6_inb i), k0_pay60 (k0_pay56 (k0_pay48 i) (k0_pay49 i)) (k0_pay57 (arg2.view.readAt (Elt F) (Rect.unit (s := S512x512) ![0, 256] S512x128.size inb_S512x512_S512x128_0_256).toLoadRect X2)) (k0_pay58 (arg3.view.readAt (Elt F) (Rect.unit (s := S2048x512) (k0_off5 i) S512x128.size (k0_off5_inb i)).toLoadRect X3))⟩,
   ⟨Rect.unit (s := S4x4x512x512) (k0_off4 i) S1x1x512x512.size (k0_off4_inb i), k0_pay54 (k0_pay48 i) (k0_pay49 i) (arg2.view.readAt (Elt F) (Rect.unit (s := S512x512) ![0, 128] S512x128.size inb_S512x512_S512x128_0_128).toLoadRect X2) (arg3.view.readAt (Elt F) (Rect.unit (s := S2048x512) (k0_off3 i) S512x128.size (k0_off3_inb i)).toLoadRect X3)⟩,
   ⟨Rect.unit (s := S4x4x512x512) (k0_off2 i) S1x1x512x512.size (k0_off2_inb i), k0_pay51 i (arg2.view.readAt (Elt F) (Rect.unit (s := S512x512) ![0, 0] S512x128.size inb_S512x512_S512x128_0_0).toLoadRect X2) (arg3.view.readAt (Elt F) (Rect.unit (s := S2048x512) (k0_off1 i) S512x128.size (k0_off1_inb i)).toLoadRect X3)⟩]

/-- The diagonal's stores into the maxima's scratch. -/
def P7 (X2 : BufTy.Contents (Elt F) arg2.view.ty) (X3 : BufTy.Contents (Elt F) arg3.view.ty) : List (View.Piece (Elt F) S4x512x128 .f32) :=
  [⟨(Rect.unit (s := S4x512x128) ![3, 0, 0] S1x512x128.size inb_S4x512x128_S1x512x128_3_0_0), k0_pay65 (k0_pay64 (k0_pay48 i) (k0_pay49 i) (arg2.view.readAt (Elt F) (Rect.unit (s := S512x512) ![0, 384] S512x128.size inb_S512x512_S512x128_0_384).toLoadRect X2) (arg3.view.readAt (Elt F) (Rect.unit (s := S2048x512) (k0_off7 i) S512x128.size (k0_off7_inb i)).toLoadRect X3))⟩,
   ⟨(Rect.unit (s := S4x512x128) ![2, 0, 0] S1x512x128.size inb_S4x512x128_S1x512x128_2_0_0), k0_pay61 (k0_pay56 (k0_pay48 i) (k0_pay49 i)) (k0_pay57 (arg2.view.readAt (Elt F) (Rect.unit (s := S512x512) ![0, 256] S512x128.size inb_S512x512_S512x128_0_256).toLoadRect X2)) (k0_pay58 (arg3.view.readAt (Elt F) (Rect.unit (s := S2048x512) (k0_off5 i) S512x128.size (k0_off5_inb i)).toLoadRect X3))⟩,
   ⟨(Rect.unit (s := S4x512x128) ![1, 0, 0] S1x512x128.size inb_S4x512x128_S1x512x128_1_0_0), k0_pay55 (k0_pay48 i) (k0_pay49 i) (arg2.view.readAt (Elt F) (Rect.unit (s := S512x512) ![0, 128] S512x128.size inb_S512x512_S512x128_0_128).toLoadRect X2) (arg3.view.readAt (Elt F) (Rect.unit (s := S2048x512) (k0_off3 i) S512x128.size (k0_off3_inb i)).toLoadRect X3)⟩,
   ⟨(Rect.unit (s := S4x512x128) ![0, 0, 0] S1x512x128.size inb_S4x512x128_S1x512x128_0_0_0), k0_pay52 (k0_pay50 i (arg2.view.readAt (Elt F) (Rect.unit (s := S512x512) ![0, 0] S512x128.size inb_S512x512_S512x128_0_0).toLoadRect X2) (arg3.view.readAt (Elt F) (Rect.unit (s := S2048x512) (k0_off1 i) S512x128.size (k0_off1_inb i)).toLoadRect X3))⟩]

/-- The stores that put a row's maximum on every lane, over the stores before. -/
def M7 (L : List (View.Piece (Elt F) S4x512x128 .f32)) : List (View.Piece (Elt F) S4x512x128 .f32) :=
  let L0 := ⟨(Rect.unit (s := S4x512x128) ![0, 0, 0] S1x512x128.size inb_S4x512x128_S1x512x128_0_0_0), k0_pay74 (arg7.view.readCov (Val := Elt F) L (Rect.unit (s := S4x512x128) ![0, 0, 0] S1x512x128.size inb_S4x512x128_S1x512x128_0_0_0).toLoadRect)⟩ :: L
  let L1 := ⟨(Rect.unit (s := S4x512x128) ![1, 0, 0] S1x512x128.size inb_S4x512x128_S1x512x128_1_0_0), k0_pay76 (arg7.view.readCov (Val := Elt F) L0 (Rect.unit (s := S4x512x128) ![1, 0, 0] S1x512x128.size inb_S4x512x128_S1x512x128_1_0_0).toLoadRect)⟩ :: L0
  let L2 := ⟨(Rect.unit (s := S4x512x128) ![2, 0, 0] S1x512x128.size inb_S4x512x128_S1x512x128_2_0_0), k0_pay79 (arg7.view.readCov (Val := Elt F) L1 (Rect.unit (s := S4x512x128) ![2, 0, 0] S1x512x128.size inb_S4x512x128_S1x512x128_2_0_0).toLoadRect)⟩ :: L1
  ⟨(Rect.unit (s := S4x512x128) ![3, 0, 0] S1x512x128.size inb_S4x512x128_S1x512x128_3_0_0), k0_pay81 (arg7.view.readCov (Val := Elt F) L2 (Rect.unit (s := S4x512x128) ![3, 0, 0] S1x512x128.size inb_S4x512x128_S1x512x128_3_0_0).toLoadRect)⟩ :: L2

/-- The zeros the accumulator begins from. -/
def Z8 : List (View.Piece (Elt F) S4x512x256 .f32) :=
  [⟨(Rect.unit (s := S4x512x256) ![3, 0, 0] S1x512x256.size inb_S4x512x256_S1x512x256_3_0_0), k0_pay82⟩, ⟨(Rect.unit (s := S4x512x256) ![2, 0, 0] S1x512x256.size inb_S4x512x256_S1x512x256_2_0_0), k0_pay80⟩, ⟨(Rect.unit (s := S4x512x256) ![1, 0, 0] S1x512x256.size inb_S4x512x256_S1x512x256_1_0_0), k0_pay78 k0_pay77⟩, ⟨(Rect.unit (s := S4x512x256) ![0, 0, 0] S1x512x256.size inb_S4x512x256_S1x512x256_0_0_0), k0_pay75⟩]

theorem diag6 (X2 : BufTy.Contents (Elt F) arg2.view.ty) (X3 : BufTy.Contents (Elt F) arg3.view.ty) (f6 : BufTy.Contents (Elt F) arg6.view.ty) (h : Fin 4) :
    w6 (arg6.view.read (Elt F) (arg6.view.writes (Elt F) f6 (P6 i arg2 arg3 X2 X3))) h (nf i) = SD i (arg2.view.read (Elt F) X2) (arg3.view.read (Elt F) X3) h := by
  refine Eq.trans ?_ ((w6_put4 (arg6.view.read (Elt F) f6) (nf i) (fun h => SD i (arg2.view.read (Elt F) X2) (arg3.view.read (Elt F) X3) h) h (nf i)).trans (if_pos rfl))
  refine congrArg (w6 · h (nf i)) ?_
  unfold P6
  rw [View.read_writes_cons_put _ _ _ _ _ (off8_eq i), View.read_writes_cons_put _ _ _ _ _ (off6_eq i), View.read_writes_cons_put _ _ _ _ _ (off4_eq i), View.read_writes_cons_put _ _ _ _ _ (off2_eq i), View.writes_nil]
  simp only [SD]
  rw [← kld arg3.view X3 (k0_off1_inb i) (h := 0) (off1_eq i), ← kld arg3.view X3 (k0_off3_inb i) (h := 1) (off3_eq i), ← kld arg3.view X3 (k0_off5_inb i) (h := 2) (off5_eq i), ← kld arg3.view X3 (k0_off7_inb i) (h := 3) (off7_eq i)]
  rfl

theorem diag7 (X2 : BufTy.Contents (Elt F) arg2.view.ty) (X3 : BufTy.Contents (Elt F) arg3.view.ty) (f7 : BufTy.Contents (Elt F) arg7.view.ty) (h : Fin 4) :
    w7 (arg7.view.read (Elt F) (arg7.view.writes (Elt F) f7 (P7 i arg2 arg3 X2 X3))) h = MX i (arg2.view.read (Elt F) X2) (arg3.view.read (Elt F) X3) h 0 := by
  refine Eq.trans ?_ (w7_put4 (arg7.view.read (Elt F) f7) (fun h => MX i (arg2.view.read (Elt F) X2) (arg3.view.read (Elt F) X3) h 0) h)
  refine congrArg (w7 · h) ?_
  unfold P7
  rw [View.read_writes_cons_put _ _ _ _ _ rfl, View.read_writes_cons_put _ _ _ _ _ rfl, View.read_writes_cons_put _ _ _ _ _ rfl, View.read_writes_cons_put _ _ _ _ _ rfl, View.writes_nil]
  simp only [MX]
  rw [← kld arg3.view X3 (k0_off1_inb i) (h := 0) (off1_eq i), ← kld arg3.view X3 (k0_off3_inb i) (h := 1) (off3_eq i), ← kld arg3.view X3 (k0_off5_inb i) (h := 2) (off5_eq i), ← kld arg3.view X3 (k0_off7_inb i) (h := 3) (off7_eq i)]
  rfl

theorem rows7 (L : List (View.Piece (Elt F) S4x512x128 .f32)) (h : Fin 4) :
    w7 (arg7.view.read (Elt F) (arg7.view.writes (Elt F) arg7.view.junk (M7 arg7 L))) h = k0_pay74 (w7 (arg7.view.read (Elt F) (arg7.view.writes (Elt F) arg7.view.junk L)) h) := by
  refine Eq.trans ?_ (w7_put4 (arg7.view.read (Elt F) (arg7.view.writes (Elt F) arg7.view.junk L)) (fun h => k0_pay74 (w7 (arg7.view.read (Elt F) (arg7.view.writes (Elt F) arg7.view.junk L)) h)) h)
  refine congrArg (w7 · h) ?_
  have e : ∀ (L : List (View.Piece (Elt F) S4x512x128 .f32)) {off : Fin 3 → ℕ} (inb : ∀ a, off a + S1x512x128.size a ≤ S4x512x128.size a) (h : Fin 4) (_ : off = ![h.val, 0, 0]),
      arg7.view.readCov (Val := Elt F) L (Rect.unit (s := S4x512x128) off S1x512x128.size inb).toLoadRect = w7 (arg7.view.read (Elt F) (arg7.view.writes (Elt F) arg7.view.junk L)) h := by
    intro L off inb h e; subst e; rfl
  have d : ∀ (x : Vec F S4x512x128 .f32) (h h' : Fin 4) (w : Vec F S1x512x128 .f32) (_ : h ≠ h'), w7 (put x ![h'.val, 0, 0] ![1, 512, 128] w) h = w7 x h := by
    intro x h h' w hne
    unfold w7
    have hv : h.val ≠ h'.val := fun e => hne (Fin.ext e)
    exact VecWindow.window_put_of_disjoint _ _ _ _ _ _ _ 0 (by simp; omega)
  unfold M7
  dsimp only
  rw [e (off := ![0, 0, 0]) _ _ 0 rfl, e (off := ![1, 0, 0]) _ _ 1 rfl, e (off := ![2, 0, 0]) _ _ 2 rfl, e (off := ![3, 0, 0]) _ _ 3 rfl]
  rw [View.read_writes_cons_put _ _ _ _ _ rfl, View.read_writes_cons_put _ _ _ _ _ rfl, View.read_writes_cons_put _ _ _ _ _ rfl, View.read_writes_cons_put _ _ _ _ _ rfl]
  have d1 := fun x w => d x 1 0 w (by decide)
  have d2 := fun x w => d x 2 1 w (by decide)
  have d2' := fun x w => d x 2 0 w (by decide)
  have d3 := fun x w => d x 3 2 w (by decide)
  have d3' := fun x w => d x 3 1 w (by decide)
  have d3'' := fun x w => d x 3 0 w (by decide)
  simp only [Fin.val_zero, Fin.val_one, Fin.val_two] at d1 d2 d2' d3 d3' d3''
  simp only [d1, d2, d2', d3, d3', d3'']
  rfl

theorem zero8 (f8 : BufTy.Contents (Elt F) arg8.view.ty) (h : Fin 4) : w8 (arg8.view.read (Elt F) (arg8.view.writes (Elt F) f8 Z8)) h = k0_pay75 := by
  refine Eq.trans ?_ (w8_put4 (arg8.view.read (Elt F) f8) (fun _ => k0_pay75) h)
  refine congrArg (w8 · h) ?_
  unfold Z8
  rw [View.read_writes_cons_put _ _ _ _ _ rfl, View.read_writes_cons_put _ _ _ _ _ rfl, View.read_writes_cons_put _ _ _ _ _ rfl, View.read_writes_cons_put _ _ _ _ _ rfl, View.writes_nil]
  rfl

/-- Everything stored in the accumulator's scratch, from the scores and the maxima the first loops left. -/
theorem final8 (v17 v123 v182 : BitVec 32) (v115 : FVec F S512x128 .f32) (v116 : Vec F S1x512x128 .f32) (X2 : BufTy.Contents (Elt F) arg2.view.ty) (X3 : BufTy.Contents (Elt F) arg3.view.ty) (X4 : BufTy.Contents (Elt F) arg4.view.ty)
    (f6 : BufTy.Contents (Elt F) arg6.view.ty)
    {pb1 : List (View.Piece (Elt F) S4x4x512x512 .f32) × List (View.Piece (Elt F) S4x512x128 .f32)} {pb2 : List (View.Piece (Elt F) S4x4x512x512 .f32) × List (View.Piece (Elt F) S4x512x128 .f32)}
    {G6 : BufTy.Contents (Elt F) arg6.view.ty} {G7 : BufTy.Contents (Elt F) arg7.view.ty} {pb3 pb4 : List (View.Piece (Elt F) S4x512x256 .f32)}
    (e1 : pb1 = pb_k0_t1 (F := F) Variants.none c none i arg2 harg2 arg3 harg3 arg4 harg4 arg5 harg5 arg6 harg6 arg7 harg7 arg8 harg8 v17 v115 v116 X2 X3 (arg6.view.writes (Elt F) f6 (P6 i arg2 arg3 X2 X3)) (arg7.view.writes (Elt F) arg7.view.junk (P7 i arg2 arg3 X2 X3)) (Scf.trips (k0_t1_loop i).lb (k0_t1_loop i).ub (k0_t1_loop i).st))
    (e2 : pb2 = pb_k0_t2 (F := F) Variants.none c none i arg2 harg2 arg3 harg3 arg4 harg4 arg5 harg5 arg6 harg6 arg7 harg7 arg8 harg8 v17 v115 v116 v123 X2 X3 (arg6.view.writes (Elt F) f6 (pb1.1 ++ P6 i arg2 arg3 X2 X3)) (arg7.view.writes (Elt F) arg7.view.junk (pb1.2 ++ P7 i arg2 arg3 X2 X3)) (Scf.trips (k0_t2_loop i).lb (k0_t2_loop i).ub (k0_t2_loop i).st))
    (e6 : G6 = arg6.view.writes (Elt F) f6 (pb2.1 ++ (pb1.1 ++ P6 i arg2 arg3 X2 X3)))
    (e7 : G7 = arg7.view.writes (Elt F) arg7.view.junk (M7 arg7 (pb2.2 ++ (pb1.2 ++ P7 i arg2 arg3 X2 X3))))
    (e3 : pb3 = pb_k0_t3 (F := F) Variants.none c none i arg2 harg2 arg3 harg3 arg4 harg4 arg5 harg5 arg6 harg6 arg7 harg7 arg8 harg8 v17 ONE X4 G6 G7 (arg8.view.writes (Elt F) arg8.view.junk Z8) (Scf.trips (k0_t3_loop i).lb (k0_t3_loop i).ub (k0_t3_loop i).st))
    (e4 : pb4 = pb_k0_t4 (F := F) Variants.none c none i arg2 harg2 arg3 harg3 arg4 harg4 arg5 harg5 arg6 harg6 arg7 harg7 arg8 harg8 v17 ONE v182 X4 G6 G7 (arg8.view.writes (Elt F) arg8.view.junk (pb3 ++ Z8)) (Scf.trips (k0_t4_loop i).lb (k0_t4_loop i).ub (k0_t4_loop i).st)) (h : Fin 4) :
    w8 (arg8.view.read (Elt F) (arg8.view.writes (Elt F) arg8.view.junk (pb4 ++ (pb3 ++ Z8)))) h
      = ACC i (arg2.view.read (Elt F) X2) (arg3.view.read (Elt F) X3) (arg4.view.read (Elt F) X4) h ((nf i).val + 1) := by
  rw [loop4] at e4
  rw [loop2] at e2
  subst e4 e2
  rw [List.nil_append] at e6 e7 ⊢
  have t1 : Scf.trips (k0_t1_loop i).lb (k0_t1_loop i).ub (k0_t1_loop i).st = (k0_t1_loop i).trips := rfl
  have t3 : Scf.trips (k0_t3_loop i).lb (k0_t3_loop i).ub (k0_t3_loop i).st = (k0_t3_loop i).trips := rfl
  rw [t1] at e1
  rw [t3] at e3
  have hl := loop1 c i arg2 harg2 arg3 harg3 arg4 harg4 arg5 harg5 arg6 harg6 arg7 harg7 arg8 harg8 v17 v115 v116 X2 X3 (arg6.view.writes (Elt F) f6 (P6 i arg2 arg3 X2 X3)) (arg7.view.writes (Elt F) arg7.view.junk (P7 i arg2 arg3 X2 X3))
    (fun h => diag7 i arg2 arg3 arg7 X2 X3 _ h) _ le_rfl
  rw [← e1, ← View.writes_append, ← View.writes_append, ← e6] at hl
  obtain ⟨hl6, hl7⟩ := hl
  have h6 : ∀ h j : Fin 4, j.val ≤ (nf i).val → w6 (arg6.view.read (Elt F) G6) h j = SA i (arg2.view.read (Elt F) X2) (arg3.view.read (Elt F) X3) h j := by
    intro h j hj
    rw [hl6, trips1]
    unfold SA
    by_cases e : j.val < (nf i).val
    · rw [if_pos e, if_pos e]
    · rw [if_neg e, if_neg e]
      obtain rfl : j = nf i := Fin.ext (by omega)
      exact diag6 i arg2 arg3 arg6 X2 X3 f6 h
  have h7 : ∀ h, w7 (arg7.view.read (Elt F) G7) h = MR i (arg2.view.read (Elt F) X2) (arg3.view.read (Elt F) X3) h := by
    intro h
    rw [e7, rows7, hl7, trips1]
    rfl
  have hz := loop3 c i arg2 harg2 arg3 harg3 arg4 harg4 arg5 harg5 arg6 harg6 arg7 harg7 arg8 harg8 v17 X4 G6 G7 (arg8.view.writes (Elt F) arg8.view.junk Z8) _ _ h6 h7 (fun h => zero8 arg8 _ h) _ le_rfl h
  rw [← e3, ← View.writes_append, trips3] at hz
  exact hz

theorem put_in {α : Type} (x : S512x512.Idx → α) (o : ℕ) (w : S512x128.Idx → α) (y : S512x512.Idx) (h : o ≤ (y 1).val ∧ (y 1).val < o + 128) :
    put x ![0, o] ![512, 128] w y = w (fun a => match a with
      | 0 => ⟨(y 0).val, (y 0).isLt⟩
      | 1 => ⟨(y 1).val - o, by show _ < 128; omega⟩) := by
  have h0 : (y 0).val < 512 := (y 0).isLt
  have hall : ∀ a, (![0, o] : Fin 2 → ℕ) a ≤ (y a).val ∧ (y a).val < (![0, o] : Fin 2 → ℕ) a + (![512, 128] : Fin 2 → ℕ) a :=
    (Fin.forall_fin_two).2 ⟨⟨Nat.zero_le _, by show _ < 0 + 512; omega⟩, h⟩
  refine (dif_pos hall).trans (congrArg w (funext fun a => Fin.ext ?_))
  fin_cases a <;> rfl

theorem put_out {α : Type} (x : S512x512.Idx → α) (o : ℕ) (w : S512x128.Idx → α) (y : S512x512.Idx) (h : ¬ (o ≤ (y 1).val ∧ (y 1).val < o + 128)) :
    put x ![0, o] ![512, 128] w y = x y := dif_neg fun hall => h (hall 1)

theorem OUT_at (x2 : Vec F S512x512 .bf16) (x3 x4 : Vec F S2048x512 .bf16) (y : S512x512.Idx) (h : Fin 4) (o : ℕ) (ho : o = 128 * h.val) (hy : o ≤ (y 1).val ∧ (y 1).val < o + 128) :
    OUTh i x2 x3 x4 h (fun a => match a with
      | 0 => ⟨(y 0).val, (y 0).isLt⟩
      | 1 => ⟨(y 1).val - o, by show _ < 128; omega⟩) = OUT i x2 x3 x4 y := by
  unfold OUT
  have e : (⟨(y 1).val / 128, by have : (y 1).val < 512 := (y 1).isLt; omega⟩ : Fin 4) = h := Fin.ext (by show (y 1).val / 128 = _; omega)
  rw [e]
  refine congrArg (OUTh i x2 x3 x4 h) (funext fun a => Fin.ext ?_)
  fin_cases a
  · rfl
  · show (y 1).val - o = (y 1).val % 128
    omega

/-- The four column blocks side by side are the whole. -/
theorem read4 (f5 : BufTy.Contents (Elt F) arg5.view.ty) (x2 : Vec F S512x512 .bf16) (x3 x4 : Vec F S2048x512 .bf16) {w0 w1 w2 w3 : FVec F S512x128 .bf16}
    (h0 : w0 = OUTh i x2 x3 x4 0) (h1 : w1 = OUTh i x2 x3 x4 1) (h2 : w2 = OUTh i x2 x3 x4 2) (h3 : w3 = OUTh i x2 x3 x4 3) :
    arg5.view.read (Elt F) (arg5.view.writes (Elt F) f5 [⟨Rect.unit (s := S512x512) ![0, 384] S512x128.size inb_S512x512_S512x128_0_384, w3⟩, ⟨Rect.unit (s := S512x512) ![0, 256] S512x128.size inb_S512x512_S512x128_0_256, w2⟩,
      ⟨Rect.unit (s := S512x512) ![0, 128] S512x128.size inb_S512x512_S512x128_0_128, w1⟩, ⟨Rect.unit (s := S512x512) ![0, 0] S512x128.size inb_S512x512_S512x128_0_0, w0⟩]) = OUT i x2 x3 x4 := by
  subst h0 h1 h2 h3
  rw [View.read_writes_cons_put _ _ _ _ _ rfl, View.read_writes_cons_put _ _ _ _ _ rfl, View.read_writes_cons_put _ _ _ _ _ rfl, View.read_writes_cons_put _ _ _ _ _ rfl, View.writes_nil]
  funext y
  have hy0 : (y 0).val < 512 := (y 0).isLt
  have hy1 : (y 1).val < 512 := (y 1).isLt
  by_cases c3 : 384 ≤ (y 1).val ∧ (y 1).val < 384 + 128
  · exact (put_in _ 384 _ y c3).trans (OUT_at i x2 x3 x4 y 3 384 rfl c3)
  refine (put_out _ 384 _ y c3).trans ?_
  by_cases c2 : 256 ≤ (y 1).val ∧ (y 1).val < 256 + 128
  · exact (put_in _ 256 _ y c2).trans (OUT_at i x2 x3 x4 y 2 256 rfl c2)
  refine (put_out _ 256 _ y c2).trans ?_
  by_cases c1 : 128 ≤ (y 1).val ∧ (y 1).val < 128 + 128
  · exact (put_in _ 128 _ y c1).trans (OUT_at i x2 x3 x4 y 1 128 rfl c1)
  refine (put_out _ 128 _ y c1).trans ?_
  have c0 : 0 ≤ (y 1).val ∧ (y 1).val < 0 + 128 := by omega
  exact (put_in _ 0 _ y c0).trans (OUT_at i x2 x3 x4 y 0 0 rfl c0)

theorem bodyOut (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) (f7 : BufTy.Contents (Elt F) arg7.view.ty) (f8 : BufTy.Contents (Elt F) arg8.view.ty) :
    arg5.view.read (Elt F) (arg5.view.writes (Elt F) f5 (bodyRun (F := F) c i arg2 harg2 arg3 harg3 arg4 harg4 arg5 harg5 arg6 harg6 arg7 harg7 arg8 harg8 X2 X3 X4 f6 f7 f8).1)
      = OUT i (arg2.view.read (Elt F) X2) (arg3.view.read (Elt F) X3) (arg4.view.read (Elt F) X4) := by
  have key := final8 c i arg2 harg2 arg3 harg3 arg4 harg4 arg5 harg5 arg6 harg6 arg7 harg7 arg8 harg8 (bodyRun.sl.v17 i) (bodyRun.sl.v123 i) (bodyRun.sl.v182 i) (bodyRun.sl.r_5 i arg2 arg3 X2 X3) (bodyRun.sl.v116 arg7 f7) X2 X3 X4 f6 rfl rfl rfl rfl rfl rfl
  have cut : ∀ (L : List (View.Piece (Elt F) S4x512x256 .f32)) (h : Fin 4) (o : ℕ) (ho : o ≤ 128) (inb : ∀ a, (![h.val, 0, o] : Fin 3 → ℕ) a + S1x512x128.size a ≤ S4x512x256.size a),
      arg8.view.readCov (Val := Elt F) L (Rect.unit (s := S4x512x256) ![h.val, 0, o] S1x512x128.size inb).toLoadRect = half (w8 (arg8.view.read (Elt F) (arg8.view.writes (Elt F) arg8.view.junk L)) h) o ho := by
    intro L h o ho inb
    funext z
    refine congrArg (arg8.view.read (Elt F) (arg8.view.writes (Elt F) arg8.view.junk L)) (funext fun a => Fin.ext ?_)
    fin_cases a
    · show h.val + 1 * (z 0).val = h.val + 1 * (0 + 1 * (z 0).val); omega
    · show 0 + 1 * (z 1).val = 0 + 1 * (0 + 1 * (z 1).val); omega
    · show o + 1 * (z 2).val = 0 + 1 * (o + 1 * (z 2).val); omega
  unfold bodyRun
  refine read4 i arg5 f5 _ _ _ ?_ ?_ ?_ ?_
  · exact congrArg₂ k0_pay86 ((cut _ 0 0 (by norm_num) _).trans (congrArg (half · 0 _) (key 0))) ((cut _ 0 128 (by norm_num) _).trans (congrArg (half · 128 _) (key 0)))
  · exact congrArg₂ k0_pay86 ((cut _ 1 0 (by norm_num) _).trans (congrArg (half · 0 _) (key 1))) ((cut _ 1 128 (by norm_num) _).trans (congrArg (half · 128 _) (key 1)))
  · exact congrArg₂ k0_pay86 ((cut _ 2 0 (by norm_num) _).trans (congrArg (half · 0 _) (key 2))) ((cut _ 2 128 (by norm_num) _).trans (congrArg (half · 128 _) (key 2)))
  · exact congrArg₂ k0_pay86 ((cut _ 3 0 (by norm_num) _).trans (congrArg (half · 0 _) (key 3))) ((cut _ 3 128 (by norm_num) _).trans (congrArg (half · 128 _) (key 3)))

end Cert.KernelIdeal.Hand

end
-- ==== Proof.Launch.lean ====
/- The attention kernel's launch, at the idealised program: what every block of the result holds, and the frame. -/
module

public import proofs.«01_k».proof.Proof.Final
public import Idealize.ShloMosaic.Lib.Pipeline.FrameBody
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The staging buffers and the scratch -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev scM6 : Memref sig .tc .vmem S4x4x512x512 .f32 := Memref.whole cc0_scratch0
abbrev scM7 : Memref sig .tc .vmem S4x512x128 .f32 := Memref.whole cc0_scratch1
abbrev scM8 : Memref sig .tc .vmem S4x512x256 .f32 := Memref.whole cc0_scratch2

/-- The launch's invariant with the three scratch buffers as memrefs owned at some contents. -/
theorem PhiA0_eq (c : Dev nD) :
    (Pipeline.ΦA spec0 c : sProp 𝕄)
      = iprop(iprop((∃ d, owns (c : Thread nD τ) scM6 fullShare d) ∗ (∃ d, owns (c : Thread nD τ) scM7 fullShare d) ∗ (∃ d, owns (c : Thread nD τ) scM8 fullShare d)) ∗ (∃ r, prngReg c r)) := by
  unfold Pipeline.ΦA; rw [scopedRest0_eq]; simp only [scM6, scM7, scM8, owns_whole]; try rfl

set_option maxHeartbeats 1000000 in
/-- The body's triple on owned memrefs. -/
theorem kernelRun (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S4x4x512x512 .f32) (harg6 : arg6.IsWhole) (arg7 : Memref sig .tc .vmem S4x512x128 .f32) (harg7 : arg7.IsWhole) (arg8 : Memref sig .tc .vmem S4x512x256 .f32) (harg8 : arg8.IsWhole)
    (x2 : Vec F S512x512 .bf16) (x3 x4 : Vec F S2048x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ owns (c : Thread nD τ) arg5 fullShare (OUT i x2 x3 x4) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_mla_attn i arg2 harg2 arg3 harg3 arg4 harg4 arg5 harg5 arg6 harg6 arg7 harg7 arg8 harg8) K := by
  have hw := fun X2 X3 X4 f6 f7 f8 => (bodyRun (F := F) c i arg2 harg2 arg3 harg3 arg4 harg4 arg5 harg5 arg6 harg6 arg7 harg7 arg8 harg8 X2 X3 X4 f6 f7 f8).2 E K
  have hv := fun X2 X3 X4 f5 f6 f7 f8 => bodyOut (F := F) c i arg2 harg2 arg3 harg3 arg4 harg4 arg5 harg5 arg6 harg6 arg7 harg7 arg8 harg8 X2 X3 X4 f5 f6 f7 f8
  unfold owns at hw ⊢
  iintro ⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  iapply (hw f2 f3 f4 f6 f7 f8 f5)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro
    rw [hv, h2, h3, h4]
  isplitl [H6]; · iexact H6
  isplitl [H7]; · iexact H7
  iexact H8

variable (m : (ℓ : Loc nD τ sig) → Buf (Elt F) ℓ) (ρ : Dev nD → PrngReg)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = OUT (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS6, HS7, HS8⟩, Hg⟩, Ho, ⟨%d0, H0⟩, ⟨%d1, H1⟩, ⟨%d2, H2⟩, ⟨%d3, H3⟩⟩
  iapply (kernelRun c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS6]; · iexact HS6
  isplitl [HS7]; · iexact HS7
  isplitl [HS8]; · iexact HS8
  iintro ⟨H0, H1, H2, H3, HS6, HS7, HS8⟩
  isplitl [HS6 HS7 HS8 Hg]
  · isplitl [HS6 HS7 HS8]
    · isplitl [HS6]; · iexact HS6
      isplitl [HS7]; · iexact HS7
      iexact HS8
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every core's arrays as the pipeline leaves them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (fun c => A_eq m c) ((θ_run defs _ _).mono (fun _ h => h.1) (run_main_quiescent m ρ))

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.BitsLaunch.lean ====
/- The attention kernel's launch, at the program as printed: the frame, the result's contents forgotten. -/
module

public import proofs.«01_k».proof.Proof.BitsRun
public import Idealize.ShloMosaic.Lib.Pipeline.FrameBody
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging buffers and the scratch -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev scM6 : Memref sig .tc .vmem S4x4x512x512 .f32 := Memref.whole cc0_scratch0
abbrev scM7 : Memref sig .tc .vmem S4x512x128 .f32 := Memref.whole cc0_scratch1
abbrev scM8 : Memref sig .tc .vmem S4x512x256 .f32 := Memref.whole cc0_scratch2

/-- The launch's invariant with the three scratch buffers as memrefs owned at some contents. -/
theorem PhiA0_eq (c : Dev nD) :
    (Pipeline.ΦA spec0 c : sProp 𝕄)
      = iprop(iprop((∃ d, owns (c : Thread nD τ) scM6 fullShare d) ∗ (∃ d, owns (c : Thread nD τ) scM7 fullShare d) ∗ (∃ d, owns (c : Thread nD τ) scM8 fullShare d)) ∗ (∃ r, prngReg c r)) := by
  unfold Pipeline.ΦA; rw [scopedRest0_eq]; simp only [scM6, scM7, scM8, owns_whole]; try rfl

set_option maxHeartbeats 1000000 in
/-- The body's triple on owned memrefs. -/
theorem kernelRun (c : Dev nD) (i : grid0.Coords) (arg2 : Memref sig .tc .vmem S512x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x512 .bf16) (harg5 : arg5.IsWhole) (arg6 : Memref sig .tc .vmem S4x4x512x512 .f32) (harg6 : arg6.IsWhole) (arg7 : Memref sig .tc .vmem S4x512x128 .f32) (harg7 : arg7.IsWhole) (arg8 : Memref sig .tc .vmem S4x512x256 .f32) (harg8 : arg8.IsWhole)
    (x2 : Vec F S512x512 .bf16) (x3 x4 : Vec F S2048x512 .bf16) (E : Set ℕ) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_mla_attn i arg2 harg2 arg3 harg3 arg4 harg4 arg5 harg5 arg6 harg6 arg7 harg7 arg8 harg8) K := by
  have hw := fun X2 X3 X4 f6 f7 f8 => (bodyRun (F := F) c i arg2 harg2 arg3 harg3 arg4 harg4 arg5 harg5 arg6 harg6 arg7 harg7 arg8 harg8 X2 X3 X4 f6 f7 f8).2 E K
  unfold owns at hw ⊢
  iintro ⟨⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, Hk⟩
  iapply (hw f2 f3 f4 f6 f7 f8 f5)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _, _; isplitr; swap; · iexact H5
    ipureintro; rfl
  isplitl [H6]; · iexact H6
  isplitl [H7]; · iexact H7
  iexact H8

variable (m : (ℓ : Loc nD τ sig) → Buf (Elt F) ℓ) (ρ : Dev nD → PrngReg)

/-- The window whose contents the frame forgets: the result's. -/
def forgets0 : Fin 4 → Bool := fun w => w.val == 3

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS6, HS7, HS8⟩, Hg⟩, Ho, ⟨%d0, H0⟩, ⟨%d1, H1⟩, ⟨%d2, H2⟩, ⟨%d3, H3⟩⟩
  iapply (kernelRun c (grid0.coords t) _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS6]; · iexact HS6
  isplitl [HS7]; · iexact HS7
  isplitl [HS8]; · iexact HS8
  iintro ⟨H0, H1, H2, H3, HS6, HS7, HS8⟩
  isplitl [HS6 HS7 HS8 Hg]
  · isplitl [HS6 HS7 HS8]
    · isplitl [HS6]; · iexact HS6
      isplitl [HS7]; · iexact HS7
      iexact HS8
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every core's arguments as they were, and every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_main_quiescent m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.Algebra.lean ====
/- The mathematics of one row of attention over the extended reals: dividing the weighted sum once, at the end, is
   weighing by the divided weights; and the scale factor moves between a query and its score. -/
module

public import Idealize.ShloMosaic.PureOps.Ideal
public import Idealize.ShloMosaic.PureOps.Ideal.Laws

@[expose] public section

noncomputable section

namespace Cert.Attn

open Idealize.ShloMosaic

/-- The signed comparison of two small words is the comparison of their numbers. -/
theorem sle_ofNat (a b : ℕ) (ha : a < 2 ^ 31) (hb : b < 2 ^ 31) :
    IntOp.cmpi .sle (BitVec.ofNat 32 a) (BitVec.ofNat 32 b) = if a ≤ b then 1#1 else 0#1 := by
  have hx : (BitVec.ofNat 32 a).toInt = (a : Int) := by
    rw [BitVec.toInt_eq_toNat_of_lt] <;> rw [BitVec.toNat_ofNat, Nat.mod_eq_of_lt (by omega)]
    omega
  have hy : (BitVec.ofNat 32 b).toInt = (b : Int) := by
    rw [BitVec.toInt_eq_toNat_of_lt] <;> rw [BitVec.toNat_ofNat, Nat.mod_eq_of_lt (by omega)]
    omega
  show BitVec.ofBool (BitVec.sle _ _) = _
  rw [BitVec.sle_eq_decide, hx, hy]
  by_cases h : a ≤ b
  · have h' : (a : Int) ≤ b := by exact_mod_cast h
    simp [h, h']
  · have h' : ¬ (a : Int) ≤ b := by exact_mod_cast h
    simp [h, h']

/-- The exponential is never negative. -/
theorem exp_nonneg (x : EReal) : 0 ≤ Ideal.exp x := by
  induction x with
  | bot => simp
  | top => simp
  | coe r => rw [Ideal.exp_coe]; exact_mod_cast (Real.exp_pos r).le

/-- The exponential of a real number is positive. -/
theorem exp_pos_of_real (r : ℝ) : 0 < Ideal.exp (r : EReal) := by
  rw [Ideal.exp_coe]; exact_mod_cast Real.exp_pos r

/-- The running maximum from `⊥` is the supremum. -/
theorem fold_max_bot {ι : Type*} (s : Finset ι) (f : ι → EReal) : s.fold max ⊥ f = s.sup f := rfl

/-- A nonnegative factor below `⊤` moves into a sum. -/
theorem sum_mul_of_nonneg {ι : Type*} (s : Finset ι) (f : ι → EReal) (x : EReal) (h0 : 0 ≤ x) (ht : x ≠ ⊤) :
    (∑ c ∈ s, f c) * x = ∑ c ∈ s, f c * x := by
  classical
  induction s using Finset.induction_on with
  | empty => simp
  | insert a s ha ih =>
    rw [Finset.sum_insert ha, Finset.sum_insert ha, EReal.right_distrib_of_nonneg_of_ne_top h0 ht, ih]

/-- One row: the sum of the weighted values over the sum of the weights is the sum of the values under the divided
    weights, where at least one score is real and none is `⊤`. -/
theorem softmax_row {n : ℕ} (a v : Fin n → EReal) (r : Fin n) (hr : a r ≠ ⊥) (ht : ∀ c, a c ≠ ⊤) :
    Ideal.div (∑ c, Ideal.exp (a c - Finset.univ.sup a) * v c) (∑ c, Ideal.exp (a c - Finset.univ.sup a))
      = ∑ c, v c * Ideal.div (Ideal.exp (a c - Finset.univ.sup a)) (0 + ∑ c, Ideal.exp (a c - Finset.univ.sup a)) := by
  have hMt : Finset.univ.sup a ≠ ⊤ := by
    refine ne_of_lt ((Finset.sup_lt_iff bot_lt_top).2 fun c _ => lt_top_iff_ne_top.2 (ht c))
  have hMb : Finset.univ.sup a ≠ ⊥ := by
    have h : a r ≤ Finset.univ.sup a := Finset.le_sup (Finset.mem_univ r)
    exact fun e => hr (le_bot_iff.1 (e ▸ h))
  generalize hM : Finset.univ.sup a = M at *
  have hpos : 0 < Ideal.exp (a r - M) := by
    have := ht r
    lift a r to ℝ using ⟨this, hr⟩ with ar
    lift M to ℝ using ⟨hMt, hMb⟩ with m
    rw [← EReal.coe_sub]
    exact exp_pos_of_real _
  have hL : 0 < ∑ c, Ideal.exp (a c - M) :=
    lt_of_lt_of_le hpos (Finset.single_le_sum (f := fun c => Ideal.exp (a c - M)) (fun c _ => exp_nonneg _) (Finset.mem_univ r))
  rw [zero_add]
  generalize (∑ c, Ideal.exp (a c - M)) = L at *
  have hL0 : L ≠ 0 := hL.ne'
  simp only [Ideal.div, if_neg hL0]
  have hi0 : 0 ≤ L⁻¹ := EReal.inv_nonneg_of_nonneg hL.le
  have hit : L⁻¹ ≠ ⊤ := by
    induction L with
    | bot => simp
    | top => simp
    | coe x => rw [← EReal.coe_inv]; exact EReal.coe_ne_top _
  rw [sum_mul_of_nonneg _ _ _ hi0 hit]
  refine Finset.sum_congr rfl fun c _ => ?_
  rw [mul_comm (Ideal.exp _) (v c), mul_assoc]

/-- A finite sum of real numbers, read in the extended reals. -/
theorem coe_sum {ι : Type*} (s : Finset ι) (f : ι → ℝ) : ∑ c ∈ s, (f c : EReal) = ((∑ c ∈ s, f c : ℝ) : EReal) := by
  classical
  induction s using Finset.induction_on with
  | empty => simp
  | insert a s ha ih => rw [Finset.sum_insert ha, Finset.sum_insert ha, ih, ← EReal.coe_add]

/-- A product of finite rows is finite, and a finite scale moves from the first row to the product. -/
theorem dot_scale {n : ℕ} (q k : Fin n → EReal) (c : ℝ) (hq : ∀ d, q d ≠ ⊤ ∧ q d ≠ ⊥) (hk : ∀ d, k d ≠ ⊤ ∧ k d ≠ ⊥) :
    (∑ d, (q d * (c : EReal)) * k d = (∑ d, q d * k d) * (c : EReal)) ∧ (∑ d, (q d * (c : EReal)) * k d ≠ ⊤) ∧ (∑ d, (q d * (c : EReal)) * k d ≠ ⊥) := by
  choose q' hq' using fun d => (⟨(q d).toReal, (EReal.coe_toReal (hq d).1 (hq d).2).symm⟩ : ∃ x : ℝ, q d = x)
  choose k' hk' using fun d => (⟨(k d).toReal, (EReal.coe_toReal (hk d).1 (hk d).2).symm⟩ : ∃ x : ℝ, k d = x)
  have e1 : ∑ d, (q d * (c : EReal)) * k d = ((∑ d, (q' d * c) * k' d : ℝ) : EReal) := by
    rw [← coe_sum]
    refine Finset.sum_congr rfl fun d _ => ?_
    rw [hq' d, hk' d, ← EReal.coe_mul, ← EReal.coe_mul]
  have e2 : ∑ d, q d * k d = ((∑ d, q' d * k' d : ℝ) : EReal) := by
    rw [← coe_sum]
    refine Finset.sum_congr rfl fun d _ => ?_
    rw [hq' d, hk' d, ← EReal.coe_mul]
  refine ⟨?_, ?_, ?_⟩
  · rw [e1, e2, ← EReal.coe_mul, Finset.sum_mul]
    congr 1
    refine Finset.sum_congr rfl fun d _ => ?_
    ring
  · rw [e1]; exact EReal.coe_ne_top _
  · rw [e1]; exact EReal.coe_ne_bot _

end Cert.Attn

end
-- ==== Proof.IdealBody.lean ====
/- The kernel's grid point over the extended reals, read entry by entry: an output entry is the sum of the values under
   the exponentials of the scores less their maximum, over the sum of those exponentials. -/
module

public import proofs.«01_k».proof.Proof.Closed
public import Idealize.ShloMosaic.Lib.Pointwise
public import Idealize.ShloMosaic.PureOps.Ideal.Laws
public import Idealize.ShloMosaic.Lib.IdealHost
public import proofs.«01_k».proof.Proof.Algebra

@[expose] public section

set_option maxRecDepth 16384

noncomputable section

namespace Cert.KernelIdeal.Hand

open Cert.KernelIdeal Cert.KernelIdeal.Gen
open Idealize.ShloMosaic
open VecWindow (window put)

/-! ## The payloads at an entry -/

theorem pay2_apply (q k : Vec Ideal S512x128 .bf16) (y : S512x512.Idx) :
    (k0_pay2 (F := Ideal) q k y : EReal) = ∑ d : Fin 128, q (ix2 (y 0) d) * k (ix2 (y 1) d) := by
  pointwise [k0_pay2]

theorem pay3_apply (q k : Vec Ideal S512x128 .bf16) (y : S1x1x512x512.Idx) :
    (k0_pay3 (F := Ideal) q k y : EReal) = k0_pay2 q k (ix2 (y 2) (y 3)) := by
  pointwise [k0_pay3]

theorem pay4_apply (q k : Vec Ideal S512x128 .bf16) (m : Vec Ideal S1x512x128 .f32) (y : S1x512x128.Idx) :
    (k0_pay4 (F := Ideal) q k m y : EReal) = max (m y) (k0_pay52 (F := Ideal) (k0_pay2 q k) y) := by
  pointwise [k0_pay4, k0_pay52]

theorem pay52_apply (s : FVec Ideal S512x512 .f32) (y : S1x512x128.Idx) :
    (k0_pay52 (F := Ideal) s y : EReal)
      = max (max (max (s (ix2 (y 1) ⟨(y 2).val, by have : (y 2).val < 128 := (y 2).isLt; omega⟩))
          (s (ix2 (y 1) ⟨128 + (y 2).val, by have : (y 2).val < 128 := (y 2).isLt; omega⟩)))
          (s (ix2 (y 1) ⟨256 + (y 2).val, by have : (y 2).val < 128 := (y 2).isLt; omega⟩)))
          (s (ix2 (y 1) ⟨384 + (y 2).val, by have : (y 2).val < 128 := (y 2).isLt; omega⟩)) := by
  pointwise [k0_pay52]

theorem mask_bot : (Named.named (F := Ideal) (φ := .f32) κ "mask" 0xF149F2CA#32 : EReal) = ⊥ :=
  IdealRules.named_const.ideal_named_scalar _ _ _ _ rfl

theorem pay49_apply (i : grid0.Coords) (y : S512x512.Idx) :
    k0_pay49 i y = BitVec.ofNat 32 (512 * (i 1).val + (y 1).val) := by
  have h1 : (i 1).val < 4 := (i 1).isLt
  pointwise [k0_pay49]
  generalize (i 1).val = n at *
  have hy : (y 1).val < 512 := (y 1).isLt
  generalize (y 1).val = w at *
  interval_cases n <;> (show (_ : BitVec 32) + BitVec.ofNat 32 w = _) <;> rw [BitVec.ofNat_add] <;> congr 1

theorem pay48_apply (i : grid0.Coords) (y : S512x512.Idx) :
    k0_pay48 i y = BitVec.ofNat 32 (512 * (i 1).val + (y 0).val) := by
  have h1 : (i 1).val < 4 := (i 1).isLt
  pointwise [k0_pay48]
  generalize (i 1).val = n at *
  have hy : (y 0).val < 512 := (y 0).isLt
  generalize (y 0).val = w at *
  interval_cases n <;> (show (_ : BitVec 32) + BitVec.ofNat 32 w = _) <;> rw [BitVec.ofNat_add] <;> congr 1

theorem ofBits_negInf : Ideal.ofBits .f32 0xFF800000#32 = ⊥ := by simp [Ideal.ofBits, Ideal.ieee]

theorem pay74_apply (m : Vec Ideal S1x512x128 .f32) (y : S1x512x128.Idx) :
    (k0_pay74 (F := Ideal) m y : EReal) = Finset.univ.sup fun l : Fin 128 => (m (ix3 0 (y 1) l) : EReal) := by
  pointwise [k0_pay74]
  rw [ofBits_negInf]
  rfl

theorem pay86_apply (l r : Vec Ideal S1x512x128 .f32) (y : S512x128.Idx) :
    (k0_pay86 (F := Ideal) l r y : EReal) = Ideal.div (l (ix3 0 (y 0) (y 1))) (r (ix3 0 (y 0) (y 1))) := by
  pointwise [k0_pay86]

theorem pay51_apply (i : grid0.Coords) (q k : Vec Ideal S512x128 .bf16) (y : S1x1x512x512.Idx) :
    (k0_pay51 (F := Ideal) i q k y : EReal) = k0_pay50 i q k (ix2 (y 2) (y 3)) := by
  pointwise [k0_pay51]

theorem pay75_apply (y : S1x512x256.Idx) : (k0_pay75 (F := Ideal) y : EReal) = 0 := by
  pointwise [k0_pay75]

theorem ONE_eq : (ONE (F := Ideal) : EReal) = 1 := by
  exact Idealize.ShloMosaic.Ideal.ofBits_one_bf16

/-! ## The scores -/

/-- The column of head `h`'s entry `d`. -/
def hcol (h : Fin 4) (d : Fin 128) : Fin 512 := ⟨128 * h.val + d.val, by have := h.isLt; have := d.isLt; omega⟩

/-- The score of query row `rr` against key row `n`, head `h`. -/
def sc (x2 : Vec Ideal S512x512 .bf16) (x3 : Vec Ideal S2048x512 .bf16) (h : Fin 4) (rr : Fin 512) (n : Fin 2048) : EReal :=
  ∑ d : Fin 128, (x2 (ix2 rr (hcol h d)) : EReal) * x3 (ix2 n (hcol h d))

/-- The masked score: `⊥` where the key is later than the query. -/
def am (i : grid0.Coords) (x2 : Vec Ideal S512x512 .bf16) (x3 : Vec Ideal S2048x512 .bf16) (h : Fin 4) (rr : Fin 512) (n : Fin 2048) : EReal :=
  if n.val ≤ 512 * (nf i).val + rr.val then sc x2 x3 h rr n else ⊥

/-- Row `cc` of key block `j`. -/
def krow (j : Fin 4) (cc : Fin 512) : Fin 2048 := ⟨512 * j.val + cc.val, by have := j.isLt; have := cc.isLt; omega⟩

theorem qW_apply (x2 : Vec Ideal S512x512 .bf16) (h : Fin 4) (rr : Fin 512) (d : Fin 128) :
    qW x2 h (ix2 rr d) = x2 (ix2 rr (hcol h d)) := by
  unfold qW window
  congr 1
  funext a
  apply Fin.ext
  fin_cases a
  · show 0 + 1 * rr.val = rr.val; omega
  · show 128 * h.val + 1 * d.val = 128 * h.val + d.val; omega

theorem kW_apply (x3 : Vec Ideal S2048x512 .bf16) (h j : Fin 4) (cc : Fin 512) (d : Fin 128) :
    kW x3 h j (ix2 cc d) = x3 (ix2 (krow j cc) (hcol h d)) := by
  unfold kW window
  congr 1
  funext a
  apply Fin.ext
  fin_cases a
  · show 512 * j.val + 1 * cc.val = 512 * j.val + cc.val; omega
  · show 128 * h.val + 1 * d.val = 128 * h.val + d.val; omega

theorem score_apply (x2 : Vec Ideal S512x512 .bf16) (x3 : Vec Ideal S2048x512 .bf16) (h j : Fin 4) (rr cc : Fin 512) :
    (k0_pay2 (F := Ideal) (qW x2 h) (kW x3 h j) (ix2 rr cc) : EReal) = sc x2 x3 h rr (krow j cc) := by
  rw [pay2_apply]
  unfold sc
  refine Finset.sum_congr rfl fun d _ => ?_
  show (qW x2 h (ix2 rr d) : EReal) * kW x3 h j (ix2 cc d) = _
  rw [qW_apply, kW_apply]

theorem pay50_apply (i : grid0.Coords) (q k : Vec Ideal S512x128 .bf16) (rr cc : Fin 512) :
    (k0_pay50 (F := Ideal) i q k (ix2 rr cc) : EReal) = if cc.val ≤ rr.val then (k0_pay2 (F := Ideal) q k (ix2 rr cc) : EReal) else ⊥ := by
  have h1 : (i 1).val < 4 := (i 1).isLt
  have hr := rr.isLt
  have hc := cc.isLt
  rw [pay2_apply]
  pointwise [k0_pay50]
  rw [pay48_apply, pay49_apply, mask_bot]
  unfold Scalar.select
  rw [Cert.Attn.sle_ofNat _ _ (by show 512 * (i 1).val + cc.val < _; omega) (by show 512 * (i 1).val + rr.val < _; omega)]
  show (if (if 512 * (i 1).val + cc.val ≤ 512 * (i 1).val + rr.val then 1#1 else 0#1) = 1 then _ else _) = _
  by_cases h : cc.val ≤ rr.val
  · rw [if_pos h, if_pos (by omega : 512 * (i 1).val + cc.val ≤ 512 * (i 1).val + rr.val), if_pos (by decide)]
  · rw [if_neg h, if_neg (by omega : ¬ 512 * (i 1).val + cc.val ≤ 512 * (i 1).val + rr.val), if_neg (by decide)]

theorem SF_apply (i : grid0.Coords) (x2 : Vec Ideal S512x512 .bf16) (x3 : Vec Ideal S2048x512 .bf16) (h j : Fin 4) (hj : j.val < (nf i).val) (rr cc : Fin 512) :
    (SF x2 x3 h j (ix4 0 0 rr cc) : EReal) = am i x2 x3 h rr (krow j cc) := by
  unfold SF am
  rw [pay3_apply, if_pos (by have := rr.isLt; have := cc.isLt; show 512 * j.val + cc.val ≤ _; omega)]
  exact score_apply x2 x3 h j rr cc

theorem diag_apply (i : grid0.Coords) (x2 : Vec Ideal S512x512 .bf16) (x3 : Vec Ideal S2048x512 .bf16) (h : Fin 4) (rr cc : Fin 512) :
    (k0_pay50 (F := Ideal) i (qW x2 h) (kW x3 h (nf i)) (ix2 rr cc) : EReal) = am i x2 x3 h rr (krow (nf i) cc) := by
  unfold am
  rw [pay50_apply, score_apply]
  have e : ((krow (nf i) cc).val ≤ 512 * (nf i).val + rr.val) = (cc.val ≤ rr.val) := by
    apply propext; show 512 * (nf i).val + cc.val ≤ _ ↔ _; omega
  simp only [e]

theorem SD_apply (i : grid0.Coords) (x2 : Vec Ideal S512x512 .bf16) (x3 : Vec Ideal S2048x512 .bf16) (h : Fin 4) (rr cc : Fin 512) :
    (SD i x2 x3 h (ix4 0 0 rr cc) : EReal) = am i x2 x3 h rr (krow (nf i) cc) := by
  unfold SD
  rw [pay51_apply]
  exact diag_apply i x2 x3 h rr cc

theorem SA_apply (i : grid0.Coords) (x2 : Vec Ideal S512x512 .bf16) (x3 : Vec Ideal S2048x512 .bf16) (h j : Fin 4) (hj : j.val ≤ (nf i).val) (rr cc : Fin 512) :
    (SA i x2 x3 h j (ix4 0 0 rr cc) : EReal) = am i x2 x3 h rr (krow j cc) := by
  unfold SA
  by_cases hlt : j.val < (nf i).val
  · rw [if_pos hlt, SF_apply i x2 x3 h j hlt]
  · rw [if_neg hlt, SD_apply]
    have : j = nf i := Fin.ext (by omega)
    rw [this]

/-! ## The row maximum -/

/-- Lane `l` of the `t`-th of a row's four lane groups. -/
def lane (t : Fin 4) (l : Fin 128) : Fin 512 := ⟨128 * t.val + l.val, by have := t.isLt; have := l.isLt; omega⟩

theorem pay52_le (s : FVec Ideal S512x512 .f32) (rr : Fin 512) (l : Fin 128) (z : EReal) :
    (k0_pay52 (F := Ideal) s (ix3 0 rr l) : EReal) ≤ z ↔ ∀ t : Fin 4, (s (ix2 rr (lane t l)) : EReal) ≤ z := by
  rw [pay52_apply]
  have e0 : lane 0 l = ⟨l.val, by have := l.isLt; omega⟩ := Fin.ext (by show 128 * 0 + l.val = l.val; omega)
  simp only [max_le_iff, Fin.forall_fin_succ]
  show ((s (ix2 rr _) ≤ z ∧ s (ix2 rr (lane 1 l)) ≤ z) ∧ s (ix2 rr (lane 2 l)) ≤ z) ∧ s (ix2 rr (lane 3 l)) ≤ z ↔ s (ix2 rr (lane 0 l)) ≤ z ∧ s (ix2 rr (lane 1 l)) ≤ z ∧ s (ix2 rr (lane 2 l)) ≤ z ∧ s (ix2 rr (lane 3 l)) ≤ z ∧ _
  rw [e0]
  constructor
  · rintro ⟨⟨⟨a, b⟩, c⟩, d⟩
    exact ⟨a, b, c, d, fun q => q.elim0⟩
  · rintro ⟨a, b, c, d, _⟩
    exact ⟨⟨⟨a, b⟩, c⟩, d⟩

theorem MX_le (i : grid0.Coords) (x2 : Vec Ideal S512x512 .bf16) (x3 : Vec Ideal S2048x512 .bf16) (h : Fin 4) (rr : Fin 512) (l : Fin 128) (z : EReal) (k : ℕ) (hk : k ≤ (nf i).val) :
    (MX i x2 x3 h k (ix3 0 rr l) : EReal) ≤ z
      ↔ (∀ t : Fin 4, am i x2 x3 h rr (krow (nf i) (lane t l)) ≤ z) ∧ ∀ j : Fin 4, j.val < k → ∀ t : Fin 4, am i x2 x3 h rr (krow j (lane t l)) ≤ z := by
  induction k with
  | zero =>
    unfold MX
    rw [pay52_le]
    simp only [diag_apply]
    exact ⟨fun h => ⟨h, fun j hj => absurd hj (by omega)⟩, fun h => h.1⟩
  | succ k ih =>
    unfold MX
    have hn := (nf i).isLt
    rw [pay4_apply, max_le_iff, ih (by omega), pay52_le]
    have e : ∀ t : Fin 4, (k0_pay2 (F := Ideal) (qW x2 h) (kW x3 h (Fin.ofNat 4 k)) (ix2 rr (lane t l)) : EReal) = am i x2 x3 h rr (krow (Fin.ofNat 4 k) (lane t l)) := fun t => by
      rw [score_apply]
      unfold am
      rw [if_pos]
      have := (lane t l).isLt
      show 512 * (k % 4) + (lane t l).val ≤ _
      rw [Nat.mod_eq_of_lt (by omega)]
      omega
    simp only [e]
    have hv : (Fin.ofNat 4 k).val = k := Nat.mod_eq_of_lt (by omega)
    constructor
    · rintro ⟨⟨a, b⟩, c⟩
      refine ⟨a, fun j hj t => ?_⟩
      by_cases hjk : j.val < k
      · exact b j hjk t
      · have : j = Fin.ofNat 4 k := Fin.ext (by rw [hv]; omega)
        rw [this]; exact c t
    · rintro ⟨a, b⟩
      exact ⟨⟨a, fun j hj t => b j (by omega) t⟩, fun t => b _ (by rw [hv]; omega) t⟩

theorem MR_apply (i : grid0.Coords) (x2 : Vec Ideal S512x512 .bf16) (x3 : Vec Ideal S2048x512 .bf16) (h : Fin 4) (rr : Fin 512) (l : Fin 128) :
    (MR i x2 x3 h (ix3 0 rr l) : EReal) = Finset.univ.sup (am i x2 x3 h rr) := by
  unfold MR
  rw [pay74_apply]
  refine eq_of_forall_ge_iff fun z => ?_
  simp only [Finset.sup_le_iff, Finset.mem_univ, true_implies]
  constructor
  · intro H n
    have hn := n.isLt
    have H' := (MX_le i x2 x3 h rr ⟨n.val % 128, Nat.mod_lt _ (by norm_num)⟩ z _ le_rfl).1 (H _)
    by_cases hlt : n.val / 512 < (nf i).val
    · have := H'.2 ⟨n.val / 512, by omega⟩ hlt ⟨n.val % 512 / 128, by omega⟩
      have e : krow ⟨n.val / 512, by omega⟩ (lane ⟨n.val % 512 / 128, by omega⟩ ⟨n.val % 128, Nat.mod_lt _ (by norm_num)⟩) = n := by
        apply Fin.ext
        show 512 * (n.val / 512) + (128 * (n.val % 512 / 128) + n.val % 128) = n.val
        omega
      rwa [e] at this
    · by_cases heq : n.val / 512 = (nf i).val
      · have := H'.1 ⟨n.val % 512 / 128, by omega⟩
        have e : krow (nf i) (lane ⟨n.val % 512 / 128, by omega⟩ ⟨n.val % 128, Nat.mod_lt _ (by norm_num)⟩) = n := by
          apply Fin.ext
          show 512 * (nf i).val + (128 * (n.val % 512 / 128) + n.val % 128) = n.val
          omega
        rwa [e] at this
      · unfold am
        rw [if_neg (by have := rr.isLt; omega)]
        exact bot_le
  · intro H l
    exact (MX_le i x2 x3 h rr l z _ le_rfl).2 ⟨fun t => H _, fun j _ t => H _⟩

/-! ## The accumulator -/

theorem pay20_apply (o : FVec Ideal S512x128 .bf16) (m : Vec Ideal S1x512x128 .f32) (s : Vec Ideal S1x1x512x512 .f32) (v : Vec Ideal S512x128 .bf16) (a : Vec Ideal S1x512x256 .f32)
    (M : EReal) (rr : Fin 512) (hm : ∀ l : Fin 128, (m (ix3 0 rr l) : EReal) = M) (w : Fin 256) :
    (k0_pay20 (F := Ideal) o m s v a (ix3 0 rr w) : EReal)
      = a (ix3 0 rr w) + ∑ x : Fin 512, Ideal.exp ((s (ix4 0 0 rr x) : EReal) - M) *
          (if h : w.val < 128 then (v (ix2 x ⟨w.val, h⟩) : EReal) else o (ix2 x ⟨w.val - 128, by have := w.isLt; omega⟩)) := by
  pointwise [k0_pay20]
  refine congrArg (a (ix3 0 rr w) + ·) (Finset.sum_congr rfl fun x _ => ?_)
  refine congrArg (· * _) ?_
  simp only [hm]
  have hx := x.isLt
  by_cases h1 : x.val < 128
  · rw [dif_pos h1]
  · rw [dif_neg h1]
    by_cases h2 : x.val - 128 < 128
    · rw [dif_pos h2]
      have e : (⟨128 + (x.val - 128), by omega⟩ : Fin 512) = x := Fin.ext (by show 128 + (x.val - 128) = x.val; omega)
      rw [e]
    · rw [dif_neg h2]
      by_cases h3 : x.val - 128 - 128 < 128
      · rw [dif_pos h3]
        have e : (⟨256 + (x.val - 128 - 128), by omega⟩ : Fin 512) = x := Fin.ext (by show 256 + (x.val - 128 - 128) = x.val; omega)
        rw [e]
      · rw [dif_neg h3]
        have e : (⟨384 + (x.val - 128 - 128 - 128), by omega⟩ : Fin 512) = x := Fin.ext (by show 384 + (x.val - 128 - 128 - 128) = x.val; omega)
        rw [e]

/-- What a column of the accumulator weighs: a value's column on the left half, one on the right. -/
def wt (x4 : Vec Ideal S2048x512 .bf16) (h : Fin 4) (w : Fin 256) (n : Fin 2048) : EReal :=
  if hw : w.val < 128 then (x4 (ix2 n (hcol h ⟨w.val, hw⟩)) : EReal) else 1

/-- One key's contribution to a column of the accumulator. -/
def term (i : grid0.Coords) (x2 : Vec Ideal S512x512 .bf16) (x3 x4 : Vec Ideal S2048x512 .bf16) (h : Fin 4) (rr : Fin 512) (w : Fin 256) (n : Fin 2048) : EReal :=
  Ideal.exp (am i x2 x3 h rr n - Finset.univ.sup (am i x2 x3 h rr)) * wt x4 h w n

theorem ACC_apply (i : grid0.Coords) (x2 : Vec Ideal S512x512 .bf16) (x3 x4 : Vec Ideal S2048x512 .bf16) (h : Fin 4) (rr : Fin 512) (w : Fin 256) (k : ℕ) (hk : k ≤ (nf i).val + 1) :
    (ACC i x2 x3 x4 h k (ix3 0 rr w) : EReal) = ∑ n ∈ Finset.range (512 * k), term i x2 x3 x4 h rr w (Fin.ofNat 2048 n) := by
  induction k with
  | zero => unfold ACC; rw [pay75_apply]; simp
  | succ k ih =>
    unfold ACC
    have hn := (nf i).isLt
    rw [pay20_apply _ _ _ _ _ _ rr (fun l => MR_apply i x2 x3 h rr l) w, ih (by omega), Nat.mul_succ, Finset.sum_range_add]
    refine congrArg _ ?_
    rw [← Fin.sum_univ_eq_sum_range (fun x => term i x2 x3 x4 h rr w (Fin.ofNat 2048 (512 * k + x)))]
    refine Finset.sum_congr rfl fun x _ => ?_
    have hv : (Fin.ofNat 4 k).val = k := Nat.mod_eq_of_lt (by omega)
    have e : krow (Fin.ofNat 4 k) x = Fin.ofNat 2048 (512 * k + x.val) := by
      apply Fin.ext
      have := x.isLt
      show 512 * (Fin.ofNat 4 k).val + x.val = (512 * k + x.val) % 2048
      rw [hv, Nat.mod_eq_of_lt (by omega)]
    rw [SA_apply i x2 x3 h (Fin.ofNat 4 k) (by rw [hv]; omega), e]
    unfold term wt
    refine congrArg _ ?_
    by_cases hw : w.val < 128
    · rw [dif_pos hw, dif_pos hw, kW_apply, e]
    · rw [dif_neg hw, dif_neg hw]
      exact ONE_eq

/-- The accumulator after the last block is the sum over every key: the keys after it count nothing. -/
theorem ACC_final (i : grid0.Coords) (x2 : Vec Ideal S512x512 .bf16) (x3 x4 : Vec Ideal S2048x512 .bf16) (h : Fin 4) (rr : Fin 512) (w : Fin 256) :
    (ACC i x2 x3 x4 h ((nf i).val + 1) (ix3 0 rr w) : EReal) = ∑ n : Fin 2048, term i x2 x3 x4 h rr w n := by
  rw [ACC_apply i x2 x3 x4 h rr w _ le_rfl]
  have hn := (nf i).isLt
  have e : ∑ n : Fin 2048, term i x2 x3 x4 h rr w n = ∑ n ∈ Finset.range 2048, term i x2 x3 x4 h rr w (Fin.ofNat 2048 n) := by
    rw [← Fin.sum_univ_eq_sum_range (fun n => term i x2 x3 x4 h rr w (Fin.ofNat 2048 n))]
    refine Finset.sum_congr rfl fun n _ => ?_
    refine congrArg _ (Fin.ext ?_)
    exact (Nat.mod_eq_of_lt n.isLt).symm
  rw [e]
  refine Finset.sum_subset (fun n hn' => ?_) fun n hn' hnot => ?_
  · rw [Finset.mem_range] at *; omega
  · rw [Finset.mem_range] at *
    unfold term am
    rw [if_neg, EReal.bot_sub, Ideal.exp_bot, zero_mul]
    have := rr.isLt
    show ¬ n % 2048 ≤ _
    rw [Nat.mod_eq_of_lt hn']
    omega

theorem half_left (a : Vec Ideal S1x512x256 .f32) (rr : Fin 512) (w : Fin 128) :
    half a 0 (by omega) (ix3 0 rr w) = a (ix3 0 rr ⟨w.val, by have := w.isLt; omega⟩) := by
  unfold half window
  congr 1
  funext b
  apply Fin.ext
  fin_cases b
  · rfl
  · show 0 + 1 * rr.val = rr.val; omega
  · show 0 + 1 * w.val = w.val; omega

theorem half_right (a : Vec Ideal S1x512x256 .f32) (rr : Fin 512) (w : Fin 128) :
    half a 128 (by omega) (ix3 0 rr w) = a (ix3 0 rr ⟨128 + w.val, by have := w.isLt; omega⟩) := by
  unfold half window
  congr 1
  funext b
  apply Fin.ext
  fin_cases b
  · rfl
  · show 0 + 1 * rr.val = rr.val; omega
  · show 128 + 1 * w.val = 128 + w.val; omega

/-- An entry of the block the grid point writes. -/
theorem OUT_apply (i : grid0.Coords) (x2 : Vec Ideal S512x512 .bf16) (x3 x4 : Vec Ideal S2048x512 .bf16) (rr : Fin 512) (h : Fin 4) (w : Fin 128) :
    (OUT i x2 x3 x4 (ix2 rr (hcol h w)) : EReal)
      = Ideal.div (∑ n : Fin 2048, Ideal.exp (am i x2 x3 h rr n - Finset.univ.sup (am i x2 x3 h rr)) * (x4 (ix2 n (hcol h w)) : EReal))
          (∑ n : Fin 2048, Ideal.exp (am i x2 x3 h rr n - Finset.univ.sup (am i x2 x3 h rr))) := by
  have hh : (⟨(hcol h w).val / 128, by have := (hcol h w).isLt; omega⟩ : Fin 4) = h := Fin.ext (by
    show (128 * h.val + w.val) / 128 = h.val; have := w.isLt; omega)
  have hw : (⟨(hcol h w).val % 128, Nat.mod_lt _ (by norm_num)⟩ : Fin 128) = w := Fin.ext (by
    show (128 * h.val + w.val) % 128 = w.val; have := w.isLt; omega)
  have e : OUT i x2 x3 x4 (ix2 rr (hcol h w)) = OUTh i x2 x3 x4 h (ix2 rr w) := by
    show OUTh i x2 x3 x4 ⟨(hcol h w).val / 128, _⟩ _ = _
    rw [hh]
    refine congrArg _ ?_
    funext b
    fin_cases b
    · rfl
    · exact hw
  rw [e]
  unfold OUTh
  rw [pay86_apply]
  show Ideal.div (half (F := Ideal) _ 0 _ (ix3 0 rr w) : EReal) (half (F := Ideal) _ 128 _ (ix3 0 rr w) : EReal) = _
  rw [half_left, half_right, ACC_final, ACC_final]
  congr 1
  · refine Finset.sum_congr rfl fun n _ => ?_
    unfold term wt
    rw [dif_pos w.isLt]
  · refine Finset.sum_congr rfl fun n _ => ?_
    unfold term wt
    rw [dif_neg (by show ¬ 128 + w.val < 128; omega), mul_one]

end Cert.KernelIdeal.Hand

end
-- ==== Proof.RefValue.lean ====
/- The plain attention over the extended reals, read entry by entry. -/
module

public import proofs.«01_k».proof.Proof.Gen.ReferenceIdeal.Read
public import proofs.«01_k».proof.Proof.Algebra
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic

/-- A query, key or value array at the problem's sizes. -/
abbrev Arr := (⟨S8x2048x4x128, .f32⟩ : BufTy).Contents (Elt Ideal)

/-- The scale both programs state. -/
def scale : EReal := Ideal.ofBits .f32 0x3DB504F3#32

/-- The masked, scaled score of query `s` against key `n`. -/
def rsc (x0 x1 : Arr) (b : Fin 8) (h : Fin 4) (s n : Fin 2048) : EReal :=
  if n.val ≤ s.val then (∑ d : Fin 128, (x0 (ix4 b s h d) : EReal) * x1 (ix4 b n h d)) * scale else ⊥

theorem negInf : Ideal.ofBits .f32 0xFF800000#32 = ⊥ := by simp [Ideal.ofBits, Ideal.ieee]

theorem mask_apply (b : Fin 8) (h : Fin 4) (s n : Fin 2048) :
    val_main_call0_v1 (F := Ideal) (ix4 b h s n) = if n.val ≤ s.val then 1#1 else 0#1 := by
  pointwise [val_main_call0_v1, val_main_v8, val_main_v7, val_main_v6, val_main_v5, val_main_v4, val_main_v3]
  exact Cert.Attn.sle_ofNat _ _ (by have := n.isLt; omega) (by have := s.isLt; omega)

theorem score_apply (x0 x1 : Arr) (b : Fin 8) (h : Fin 4) (s n : Fin 2048) :
    (val_main_v9 (F := Ideal) x0 x1 (ix4 b h s n) : EReal) = rsc x0 x1 b h s n := by
  have e : (val_main_call0_v2 (F := Ideal) (ix4 b h s n) : EReal) = ⊥ := by
    pointwise [val_main_call0_v2, val_main_call0_v0, val_main_cst_0]
    exact negInf
  pointwise [val_main_v9, val_main_v2, val_main_v0, val_main_v1, val_main_cst]
  rw [mask_apply, e]
  unfold rsc Scalar.select scale
  by_cases hn : n.val ≤ s.val
  · rw [if_pos hn, if_pos hn, if_pos (by decide)]
  · rw [if_neg hn, if_neg hn, if_neg (by decide)]

theorem init_apply (j : S_.Idx) : (val_main_cst_1 (F := Ideal) j : EReal) = ⊥ := by
  unfold val_main_cst_1
  pointwise
  exact negInf

theorem top_fold (x0 x1 : Arr) (b : Fin 8) (h : Fin 4) (s : Fin 2048) :
    (val_main_v10 (F := Ideal) x0 x1 (ix3 b h s) : EReal) = Finset.univ.fold max (val_main_cst_1 (F := Ideal) (Shape.Idx.first h_S_)) (fun n : Fin 2048 => (val_main_v9 (F := Ideal) x0 x1 (ix4 b h s n) : EReal)) := by
  pointwise [val_main_v10]

theorem sup_of_fold (x0 x1 : Arr) (b : Fin 8) (h : Fin 4) (s : Fin 2048) (u : EReal)
    (hu : u = Finset.univ.fold max (val_main_cst_1 (F := Ideal) (Shape.Idx.first h_S_)) (fun n : Fin 2048 => (val_main_v9 (F := Ideal) x0 x1 (ix4 b h s n) : EReal))) :
    u = Finset.univ.sup (rsc x0 x1 b h s) := by
  rw [hu, init_apply, Cert.Attn.fold_max_bot]
  exact congrArg _ (funext fun n => score_apply x0 x1 b h s n)

theorem top_apply (x0 x1 : Arr) (b : Fin 8) (h : Fin 4) (s : Fin 2048) :
    (val_main_v10 (F := Ideal) x0 x1 (ix3 b h s) : EReal) = Finset.univ.sup (rsc x0 x1 b h s) :=
  sup_of_fold x0 x1 b h s _ (top_fold x0 x1 b h s)

theorem floor_apply (b : Fin 8) (h : Fin 4) (s : Fin 2048) : (val_main_v11 (F := Ideal) (ix3 b h s) : EReal) = ⊥ := by
  pointwise [val_main_v11, val_main_cst_2]
  exact negInf

theorem rowmax_apply (x0 x1 : Arr) (b : Fin 8) (h : Fin 4) (s : Fin 2048) :
    (val_main_v12 (F := Ideal) x0 x1 (ix3 b h s) : EReal) = Finset.univ.sup (rsc x0 x1 b h s) := by
  rw [val_main_v12_apply]
  refine (congrArg₂ (max : EReal → EReal → EReal) (floor_apply b h s) (top_apply x0 x1 b h s)).trans ?_
  exact max_eq_right bot_le

theorem spread_apply (x0 x1 : Arr) (b : Fin 8) (h : Fin 4) (s n : Fin 2048) :
    (val_main_v14 (F := Ideal) x0 x1 (ix4 b h s n) : EReal) = val_main_v12 (F := Ideal) x0 x1 (ix3 b h s) := by
  pointwise [val_main_v14, val_main_v13]

theorem max_apply (x0 x1 : Arr) (b : Fin 8) (h : Fin 4) (s n : Fin 2048) :
    (val_main_v14 (F := Ideal) x0 x1 (ix4 b h s n) : EReal) = Finset.univ.sup (rsc x0 x1 b h s) :=
  (spread_apply x0 x1 b h s n).trans (rowmax_apply x0 x1 b h s)

theorem exp_apply (x0 x1 : Arr) (b : Fin 8) (h : Fin 4) (s n : Fin 2048) :
    (val_main_v16 (F := Ideal) x0 x1 (ix4 b h s n) : EReal) = Ideal.exp (rsc x0 x1 b h s n - Finset.univ.sup (rsc x0 x1 b h s)) := by
  pointwise [val_main_v16, val_main_v15]
  rw [score_apply, max_apply]

theorem weight_apply (x0 x1 : Arr) (b : Fin 8) (h : Fin 4) (s n : Fin 2048) :
    (val_main_v20 (F := Ideal) x0 x1 (ix4 b h s n) : EReal)
      = Ideal.div (Ideal.exp (rsc x0 x1 b h s n - Finset.univ.sup (rsc x0 x1 b h s)))
          (0 + ∑ n : Fin 2048, Ideal.exp (rsc x0 x1 b h s n - Finset.univ.sup (rsc x0 x1 b h s))) := by
  pointwise [val_main_v20, val_main_v19, val_main_v18, val_main_v17, val_main_cst_3]
  simp only [exp_apply]

/-- An entry of the plain attention's result. -/
theorem out_apply (x0 x1 x2 : Arr) (b : Fin 8) (s : Fin 2048) (h : Fin 4) (d : Fin 128) (y : S16384x512.Idx)
    (h0 : (y 0).val = 2048 * b.val + s.val) (h1 : (y 1).val = 128 * h.val + d.val) :
    (val_main_v24 (F := Ideal) x0 x1 x2 y : EReal)
      = ∑ n : Fin 2048, (x2 (ix4 b n h d) : EReal) * Ideal.div (Ideal.exp (rsc x0 x1 b h s n - Finset.univ.sup (rsc x0 x1 b h s)))
          (0 + ∑ n : Fin 2048, Ideal.exp (rsc x0 x1 b h s n - Finset.univ.sup (rsc x0 x1 b h s))) := by
  have := s.isLt; have := d.isLt; have := b.isLt; have := h.isLt
  pointwise [val_main_v24, val_main_v23, val_main_v22, val_main_v21]
  have eb : (⟨(y 0).val / 2048, by omega⟩ : Fin 8) = b := Fin.ext (by show (y 0).val / 2048 = _; omega)
  have es : (⟨(y 0).val % 2048, by omega⟩ : Fin 2048) = s := Fin.ext (by show (y 0).val % 2048 = _; omega)
  have eh : (⟨(y 1).val / 128, by omega⟩ : Fin 4) = h := Fin.ext (by show (y 1).val / 128 = _; omega)
  have ed : (⟨(y 1).val % 128, by omega⟩ : Fin 128) = d := Fin.ext (by show (y 1).val % 128 = _; omega)
  rw [eb, es, eh, ed]
  simp only [weight_apply, zero_add]

end Cert.ReferenceIdeal.Hand

end
-- ==== Proof.Value.lean ====
/- The result array of the attention kernel over the extended reals, entry by entry, in the arguments as launched. -/
module

public import proofs.«01_k».proof.Proof.Launch
public import proofs.«01_k».proof.Proof.IdealBody
public import proofs.«01_k».proof.Proof.RefValue
public import Idealize.ShloMosaic.Lib.Pipeline.ValueKit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

open Cert.ReferenceIdeal.Hand (Arr scale rsc)

/-- The queries, the keys and the values as launched. -/
abbrev q0 : Arr := m ((c : Thread nD τ).loc main_arg0)
abbrev k0 : Arr := m ((c : Thread nD τ).loc main_arg1)
abbrev v0 : Arr := m ((c : Thread nD τ).loc main_arg2)

/-- Row `s` of batch `b` in an array of all the batches' rows. -/
def grow (b : Fin 8) (s : Fin 2048) : Fin 16384 := ⟨2048 * b.val + s.val, by have := b.isLt; have := s.isLt; omega⟩

theorem split_idx (b : Fin 8) (s : Fin 2048) (h : Fin 4) (d : Fin 128) (e0 e1 e2 e3) :
    (ix4 (⟨(grow b s).val / 2048, e0⟩ : Fin 8) (⟨(grow b s).val % 2048, e1⟩ : Fin 2048) (⟨(hcol h d).val / 128, e2⟩ : Fin 4) (⟨(hcol h d).val % 128, e3⟩ : Fin 128) : Cert.ReferenceIdeal.S8x2048x4x128.Idx) = ix4 b s h d := by
  have := s.isLt; have := d.isLt
  have eb : (⟨(grow b s).val / 2048, e0⟩ : Fin 8) = b := Fin.ext (by show (2048 * b.val + s.val) / 2048 = _; omega)
  have es : (⟨(grow b s).val % 2048, e1⟩ : Fin 2048) = s := Fin.ext (by show (2048 * b.val + s.val) % 2048 = _; omega)
  have eh : (⟨(hcol h d).val / 128, e2⟩ : Fin 4) = h := Fin.ext (by show (128 * h.val + d.val) / 128 = _; omega)
  have ed : (⟨(hcol h d).val % 128, e3⟩ : Fin 128) = d := Fin.ext (by show (128 * h.val + d.val) % 128 = _; omega)
  rw [eb, es, eh, ed]

theorem V_q (b : Fin 8) (s : Fin 2048) (h : Fin 4) (d : Fin 128) :
    (V m c main_v3 (ix2 (grow b s) (hcol h d)) : EReal) = (q0 m c (ix4 b s h d) : EReal) * scale := by
  rw [← split_idx b s h d (by have := (grow b s).isLt; omega) (by omega) (by have := (hcol h d).isLt; omega) (by omega)]
  unfold V
  after_results
  pointwise
  rfl

theorem V_k (b : Fin 8) (s : Fin 2048) (h : Fin 4) (d : Fin 128) :
    (V m c main_v5 (ix2 (grow b s) (hcol h d)) : EReal) = k0 m c (ix4 b s h d) := by
  rw [← split_idx b s h d (by have := (grow b s).isLt; omega) (by omega) (by have := (hcol h d).isLt; omega) (by omega)]
  unfold V
  after_results
  pointwise

theorem V_v (b : Fin 8) (s : Fin 2048) (h : Fin 4) (d : Fin 128) :
    (V m c main_v7 (ix2 (grow b s) (hcol h d)) : EReal) = v0 m c (ix4 b s h d) := by
  rw [← split_idx b s h d (by have := (grow b s).isLt; omega) (by omega) (by have := (hcol h d).isLt; omega) (by omega)]
  unfold V
  after_results
  pointwise

theorem indices : ∀ t : Fin cfg0.N, win0_0.index t = ![t.val, 0] ∧ win0_1.index t = ![t.val / 4, 0] ∧ win0_2.index t = ![t.val / 4, 0] ∧ win0_3.index t = ![t.val, 0] := by
  decide +kernel

theorem tile_of : ∀ t : Fin cfg0.N, (nf (grid0.coords t)).val = t.val % 4 := by decide +kernel

/-- The batch a grid point works on, -/
def bat (t : Fin cfg0.N) : Fin 8 := ⟨t.val / 4, by have : t.val < 32 := t.isLt; omega⟩
/-- and the query that row `rr` of its block is. -/
def qry (t : Fin cfg0.N) (rr : Fin 512) : Fin 2048 := ⟨512 * (t.val % 4) + rr.val, by have := rr.isLt; omega⟩

theorem iblk_q (t : Fin cfg0.N) (rr : Fin 512) (h : Fin 4) (d : Fin 128) :
    (iblk m c 0 t (ix2 rr (hcol h d)) : EReal) = (q0 m c (ix4 (bat t) (qry t rr) h d) : EReal) * scale := by
  rw [← V_q]
  have e : (grow (bat t) (qry t rr)).val = t.val * 512 + rr.val := by
    show 2048 * (t.val / 4) + (512 * (t.val % 4) + rr.val) = _; omega
  generalize grow (bat t) (qry t rr) = g at *
  generalize hcol h d = w at *
  blk_ext [iblk, V, (indices t).1]

theorem iblk_k (t : Fin cfg0.N) (n : Fin 2048) (h : Fin 4) (d : Fin 128) :
    (iblk m c 1 t (ix2 n (hcol h d)) : EReal) = k0 m c (ix4 (bat t) n h d) := by
  rw [← V_k]
  have e : (grow (bat t) n).val = t.val / 4 * 2048 + n.val := by
    show 2048 * (t.val / 4) + n.val = _; omega
  generalize grow (bat t) n = g at *
  generalize hcol h d = w at *
  blk_ext [iblk, V, (indices t).2.1]

theorem iblk_v (t : Fin cfg0.N) (n : Fin 2048) (h : Fin 4) (d : Fin 128) :
    (iblk m c 2 t (ix2 n (hcol h d)) : EReal) = v0 m c (ix4 (bat t) n h d) := by
  rw [← V_v]
  have e : (grow (bat t) n).val = t.val / 4 * 2048 + n.val := by
    show 2048 * (t.val / 4) + n.val = _; omega
  generalize grow (bat t) n = g at *
  generalize hcol h d = w at *
  blk_ext [iblk, V, (indices t).2.2.1]

theorem scale_real : ∃ r : ℝ, scale = (r : EReal) := by
  unfold scale
  simp [Ideal.ofBits, Ideal.ieee]
  exact ⟨_, (EReal.coe_mul _ _).symm⟩

/-- Every query's and every key's entry is a real number. -/
def FinArgs : Prop := (∀ x, (q0 m c x : EReal) ≠ ⊤ ∧ (q0 m c x : EReal) ≠ ⊥) ∧ (∀ x, (k0 m c x : EReal) ≠ ⊤ ∧ (k0 m c x : EReal) ≠ ⊥)

/-- The kernel's masked scores are the plain attention's, and each is real or masked. -/
theorem am_eq (hf : FinArgs m c) (t : Fin cfg0.N) (rr : Fin 512) (h : Fin 4) (n : Fin 2048) :
    am (grid0.coords t) (iblk m c 0 t) (iblk m c 1 t) h rr n = rsc (q0 m c) (k0 m c) (bat t) h (qry t rr) n
      ∧ rsc (q0 m c) (k0 m c) (bat t) h (qry t rr) n ≠ ⊤ ∧ (n = qry t rr → rsc (q0 m c) (k0 m c) (bat t) h (qry t rr) n ≠ ⊥) := by
  obtain ⟨r, hr⟩ := scale_real
  have D := Cert.Attn.dot_scale (fun d : Fin 128 => (q0 m c (ix4 (bat t) (qry t rr) h d) : EReal)) (fun d => (k0 m c (ix4 (bat t) n h d) : EReal)) r (fun d => hf.1 _) (fun d => hf.2 _)
  have e : sc (iblk m c 0 t) (iblk m c 1 t) h rr n = ∑ d : Fin 128, ((q0 m c (ix4 (bat t) (qry t rr) h d) : EReal) * (r : EReal)) * (k0 m c (ix4 (bat t) n h d) : EReal) := by
    unfold sc
    refine Finset.sum_congr rfl fun d _ => ?_
    rw [iblk_q, iblk_k, hr]
  have ec : (n.val ≤ 512 * (nf (grid0.coords t)).val + rr.val) = (n.val ≤ (qry t rr).val) := by rw [tile_of]; rfl
  unfold am rsc
  rw [e, D.1, hr]
  simp only [ec]
  refine ⟨trivial, ?_, ?_⟩
  · split_ifs
    · rw [← D.1]; exact D.2.1
    · exact bot_ne_top
  · rintro rfl
    rw [if_pos le_rfl, ← D.1]
    exact D.2.2

/-- The block a grid point writes is the plain attention's. -/
theorem block_eq (hf : FinArgs m c) (t : Fin cfg0.N) (rr : Fin 512) (h : Fin 4) (w : Fin 128) (y : S16384x512.Idx)
    (h0 : (y 0).val = t.val * 512 + rr.val) (h1 : (y 1).val = 128 * h.val + w.val) :
    (OUT (grid0.coords t) (iblk m c 0 t) (iblk m c 1 t) (iblk m c 2 t) (ix2 rr (hcol h w)) : EReal)
      = Cert.ReferenceIdeal.Read.val_main_v24 (F := Ideal) (q0 m c) (k0 m c) (v0 m c) y := by
  rw [Cert.ReferenceIdeal.Hand.out_apply (q0 m c) (k0 m c) (v0 m c) (bat t) (qry t rr) h w y
    (by rw [h0]; show _ = 2048 * (t.val / 4) + (512 * (t.val % 4) + rr.val); omega) h1, OUT_apply]
  have ea : am (grid0.coords t) (iblk m c 0 t) (iblk m c 1 t) h rr = rsc (q0 m c) (k0 m c) (bat t) h (qry t rr) :=
    funext fun n => (am_eq m c hf t rr h n).1
  rw [ea]
  simp only [iblk_v]
  exact Cert.Attn.softmax_row _ (fun n => (v0 m c (ix4 (bat t) n h w) : EReal)) (qry t rr) ((am_eq m c hf t rr h _).2.2 rfl) (fun n => (am_eq m c hf t rr h n).2.1)

/-- The result array after the run is the plain attention's. -/
theorem array_eq (hf : FinArgs m c) : (dats m 0 c).arrAt 3 cfg0.N = (Cert.ReferenceIdeal.Read.val_main_v24 (F := Ideal) (q0 m c) (k0 m c) (v0 m c) : (⟨S16384x512, .bf16⟩ : BufTy).Contents (Elt Ideal)) := by
  refine (dats m 0 c).arrAt_eq_of_covers 3 _ (by decide +kernel) fun t hf' y => ?_
  blk_simp
  rw [after0_3]
  have hy0 : (y 0).val < 512 := (y 0).isLt
  have hy1 : (y 1).val < 512 := (y 1).isLt
  have ey : y = ix2 (⟨(y 0).val, hy0⟩ : Fin 512) (hcol ⟨(y 1).val / 128, by omega⟩ ⟨(y 1).val % 128, by omega⟩) := by
    funext a
    apply Fin.ext
    fin_cases a
    · rfl
    · show (y 1).val = 128 * ((y 1).val / 128) + (y 1).val % 128; omega
  have H := block_eq m c hf t ⟨(y 0).val, hy0⟩ ⟨(y 1).val / 128, by omega⟩ ⟨(y 1).val % 128, by omega⟩ ((win0_3.blk t).view.emb y)
    (by blk_simp [(indices t).2.2.2]) (by blk_simp [(indices t).2.2.2]; exact (Nat.div_add_mod (y 1).val 128).symm)
  rw [← ey] at H
  exact H

end Cert.KernelIdeal.Hand

end
-- ==== Proof.ExpertsDma.lean ====
/- The experts kernel's weight copies. A slot of the three weight buffers is named by its word, an expert by its word; the
   three copies of one expert into one slot go on the slot's semaphore as one batch, which the three waits drain. -/
module

public import proofs.«01_k».proof.Proof.Gen.Kernel2Ideal.Skeleton
public import proofs.«01_k».proof.Proof.Gen.Kernel2Ideal.Launch
public import Idealize.ShloMosaic.Lib.Pipeline.FrameBody
public import Idealize.ShloMosaic.Lib.Batch
public import Idealize.ShloMosaic.Lib.Tactic

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
local notation "EC" => countersEmb (U := Pipeline.UD sig nD τ)

/-! ## Slots, experts, views -/

theorem inb_sem (w : BitVec 32) (h : w.toNat < 2) : ∀ a, (k0_off4 w) a + S1.size a ≤ S2.size a := by
  intro a; fin_cases a; show w.toNat + 1 ≤ 2; omega
theorem inb_slot (w : BitVec 32) (h : w.toNat < 2) : ∀ a, (k0_off5 w) a + S1x2048x512.size a ≤ S2x2048x512.size a := by
  intro a; fin_cases a
  · show w.toNat + 1 ≤ 2; omega
  · show 0 + 2048 ≤ 2048; omega
  · show 0 + 512 ≤ 512; omega
theorem inb_slotD (w : BitVec 32) (h : w.toNat < 2) : ∀ a, (k0_off9 w) a + S1x512x2048.size a ≤ S2x512x2048.size a := by
  intro a; fin_cases a
  · show w.toNat + 1 ≤ 2; omega
  · show 0 + 512 ≤ 512; omega
  · show 0 + 2048 ≤ 2048; omega
theorem inb_exp (e : BitVec 32) (h : e.toNat < 32) : ∀ a, (k0_off6 e) a + S1x1x2048x512.size a ≤ S2x32x2048x512.size a := by
  intro a; fin_cases a
  · show 0 + 1 ≤ 2; omega
  · show e.toNat + 1 ≤ 32; omega
  · show 0 + 2048 ≤ 2048; omega
  · show 0 + 512 ≤ 512; omega
theorem inb_expD (e : BitVec 32) (h : e.toNat < 32) : ∀ a, (k0_off10 e) a + S1x1x512x2048.size a ≤ S2x32x512x2048.size a := by
  intro a; fin_cases a
  · show 0 + 1 ≤ 2; omega
  · show e.toNat + 1 ≤ 32; omega
  · show 0 + 512 ≤ 512; omega
  · show 0 + 2048 ≤ 2048; omega

/-- A slot's semaphore. -/
abbrev slotSem (w : BitVec 32) (h : w.toNat < 2) : DmaSem sig :=
  ((cc0_scratch6.slice (Rect.unit (s := S2) (k0_off4 w) S1.size (inb_sem w h))).squeeze S_ squeezes_S1_S_).sem

/-- A slot of each weight buffer, and an expert's slice of each weight array. -/
abbrev dstG (w : BitVec 32) (h : w.toNat < 2) : Memref sig .tc .vmem S2048x512 .f32 :=
  ((Memref.whole cc0_scratch0).slice (Rect.unit (s := S2x2048x512) (k0_off5 w) S1x2048x512.size (inb_slot w h)) (fun _ => rfl)).squeeze S2048x512 squeezes_S1x2048x512_S2048x512
abbrev dstU (w : BitVec 32) (h : w.toNat < 2) : Memref sig .tc .vmem S2048x512 .f32 :=
  ((Memref.whole cc0_scratch1).slice (Rect.unit (s := S2x2048x512) (k0_off5 w) S1x2048x512.size (inb_slot w h)) (fun _ => rfl)).squeeze S2048x512 squeezes_S1x2048x512_S2048x512
abbrev dstD (w : BitVec 32) (h : w.toNat < 2) : Memref sig .tc .vmem S512x2048 .f32 :=
  ((Memref.whole cc0_scratch2).slice (Rect.unit (s := S2x512x2048) (k0_off9 w) S1x512x2048.size (inb_slotD w h)) (fun _ => rfl)).squeeze S512x2048 squeezes_S1x512x2048_S512x2048
abbrev srcG (e : BitVec 32) (h : e.toNat < 32) : Memref sig .tc .hbm S2048x512 .f32 :=
  ((Memref.whole main_arg11).slice (Rect.unit (s := S2x32x2048x512) (k0_off6 e) S1x1x2048x512.size (inb_exp e h)) (fun _ => rfl)).squeeze S2048x512 squeezes_S1x1x2048x512_S2048x512
abbrev srcU (e : BitVec 32) (h : e.toNat < 32) : Memref sig .tc .hbm S2048x512 .f32 :=
  ((Memref.whole main_arg12).slice (Rect.unit (s := S2x32x2048x512) (k0_off6 e) S1x1x2048x512.size (inb_exp e h)) (fun _ => rfl)).squeeze S2048x512 squeezes_S1x1x2048x512_S2048x512
abbrev srcD (e : BitVec 32) (h : e.toNat < 32) : Memref sig .tc .hbm S512x2048 .f32 :=
  ((Memref.whole main_arg13).slice (Rect.unit (s := S2x32x512x2048) (k0_off10 e) S1x1x512x2048.size (inb_expD e h)) (fun _ => rfl)).squeeze S512x2048 squeezes_S1x1x512x2048_S512x2048

/-! ## The three copies of one expert into one slot -/

/-- What a slot's buffer holds once the expert's slice has landed on it. -/
abbrev landG (c : Dev nD) (w : BitVec 32) (hw : w.toNat < 2) (e : BitVec 32) (he : e.toNat < 32)
    (g : Buf (Elt F) ((srcG e he).view.loc (c : Thread nD τ))) (f : Buf (Elt F) ((dstG w hw).view.loc (c : Thread nD τ))) :
    Buf (Elt F) ((dstG w hw).view.loc (c : Thread nD τ)) :=
  (dstG w hw).view.write (Elt F) f (ReadAs.same.apply ((srcG e he).view.read (Elt F) g)) Finset.univ
abbrev landU (c : Dev nD) (w : BitVec 32) (hw : w.toNat < 2) (e : BitVec 32) (he : e.toNat < 32)
    (g : Buf (Elt F) ((srcU e he).view.loc (c : Thread nD τ))) (f : Buf (Elt F) ((dstU w hw).view.loc (c : Thread nD τ))) :
    Buf (Elt F) ((dstU w hw).view.loc (c : Thread nD τ)) :=
  (dstU w hw).view.write (Elt F) f (ReadAs.same.apply ((srcU e he).view.read (Elt F) g)) Finset.univ
abbrev landD (c : Dev nD) (w : BitVec 32) (hw : w.toNat < 2) (e : BitVec 32) (he : e.toNat < 32)
    (g : Buf (Elt F) ((srcD e he).view.loc (c : Thread nD τ))) (f : Buf (Elt F) ((dstD w hw).view.loc (c : Thread nD τ))) :
    Buf (Elt F) ((dstD w hw).view.loc (c : Thread nD τ)) :=
  (dstD w hw).view.write (Elt F) f (ReadAs.same.apply ((srcD e he).view.read (Elt F) g)) Finset.univ

variable (c : Dev nD)
  (gG : Buf (Elt F) ((c : Thread nD τ).loc main_arg11)) (gU : Buf (Elt F) ((c : Thread nD τ).loc main_arg12)) (gD : Buf (Elt F) ((c : Thread nD τ).loc main_arg13))

/-- The three deliveries: the slot landed and the slice back. -/
def deliv (w : BitVec 32) (hw : w.toNat < 2) (e : BitVec 32) (he : e.toNat < 32)
    (fG : Buf (Elt F) ((c : Thread nD τ).loc cc0_scratch0)) (fU : Buf (Elt F) ((c : Thread nD τ).loc cc0_scratch1)) (fD : Buf (Elt F) ((c : Thread nD τ).loc cc0_scratch2)) :
    Fin 3 → sProp 𝕄
  | ⟨0, _⟩ => iprop(((dstG w hw).view.loc (c : Thread nD τ) ↦[(dstG w hw).view.set]{fullShare} landG c w hw e he gG fG) ∗ ((srcG e he).view.loc (c : Thread nD τ) ↦[(srcG e he).view.set]{fullShare} gG))
  | ⟨1, _⟩ => iprop(((dstU w hw).view.loc (c : Thread nD τ) ↦[(dstU w hw).view.set]{fullShare} landU c w hw e he gU fU) ∗ ((srcU e he).view.loc (c : Thread nD τ) ↦[(srcU e he).view.set]{fullShare} gU))
  | ⟨2, _⟩ => iprop(((dstD w hw).view.loc (c : Thread nD τ) ↦[(dstD w hw).view.set]{fullShare} landD c w hw e he gD fD) ∗ ((srcD e he).view.loc (c : Thread nD τ) ↦[(srcD e he).view.set]{fullShare} gD))

instance deliv_storable (w : BitVec 32) (hw : w.toNat < 2) (e : BitVec 32) (he : e.toNat < 32)
    (fG : Buf (Elt F) ((c : Thread nD τ).loc cc0_scratch0)) (fU : Buf (Elt F) ((c : Thread nD τ).loc cc0_scratch1)) (fD : Buf (Elt F) ((c : Thread nD τ).loc cc0_scratch2)) :
    ∀ t, Storable (upEmb : UEmb _ 𝕄) (deliv c gG gU gD w hw e he fG fU fD t)
  | ⟨0, _⟩ => by unfold deliv; infer_instance
  | ⟨1, _⟩ => by unfold deliv; infer_instance
  | ⟨2, _⟩ => by unfold deliv; infer_instance

/-- One copy's credit. -/
abbrev amt : ℕ := (dstG 0#32 (by decide)).view.amount (SemLoc.dma (sig := sig) (slotSem 0#32 (by decide)))

theorem amtG (w : BitVec 32) (hw : w.toNat < 2) : (dstG w hw).view.amount (SemLoc.dma (sig := sig) (slotSem w hw)) = amt := rfl
theorem amtU (w : BitVec 32) (hw : w.toNat < 2) : (dstU w hw).view.amount (SemLoc.dma (sig := sig) (slotSem w hw)) = amt := rfl
theorem amtD (w : BitVec 32) (hw : w.toNat < 2) : (dstD w hw).view.amount (SemLoc.dma (sig := sig) (slotSem w hw)) = amt :=
  show (dstD 0#32 (by decide)).view.amount (SemLoc.dma (sig := sig) (slotSem 0#32 (by decide))) = amt from by decide +kernel
theorem credG (w : BitVec 32) (hw : w.toNat < 2) : (dstG w hw).view.dmaCredit = amt := rfl
theorem credU (w : BitVec 32) (hw : w.toNat < 2) : (dstU w hw).view.dmaCredit = amt := rfl
theorem credD (w : BitVec 32) (hw : w.toNat < 2) : (dstD w hw).view.dmaCredit = amt :=
  show (dstD 0#32 (by decide)).view.dmaCredit = amt from by decide +kernel
theorem amt_pos : 0 < amt := by decide +kernel

/-- The weight arrays whole, at their contents. -/
def weights : sProp 𝕄 :=
  iprop(((c : Thread nD τ).loc main_arg11 ↦{fullShare} gG) ∗ ((c : Thread nD τ).loc main_arg12 ↦{fullShare} gU) ∗ ((c : Thread nD τ).loc main_arg13 ↦{fullShare} gD))

/-- A slot at rest: its three buffers at some contents, its counter at zero. -/
def slotRest (w : BitVec 32) (hw : w.toNat < 2) : sProp 𝕄 :=
  iprop(semVal ((c : Thread nD τ), SemLoc.dma (slotSem w hw)) 0
    ∗ (∃ f : Buf (Elt F) ((c : Thread nD τ).loc cc0_scratch0), (dstG w hw).view.loc (c : Thread nD τ) ↦[(dstG w hw).view.set]{fullShare} f)
    ∗ (∃ f : Buf (Elt F) ((c : Thread nD τ).loc cc0_scratch1), (dstU w hw).view.loc (c : Thread nD τ) ↦[(dstU w hw).view.set]{fullShare} f)
    ∗ (∃ f : Buf (Elt F) ((c : Thread nD τ).loc cc0_scratch2), (dstD w hw).view.loc (c : Thread nD τ) ↦[(dstD w hw).view.set]{fullShare} f))

/-- A slot with an expert's three copies in flight: the batch, and the rest of the weight arrays beside it. -/
def flying (w : BitVec 32) (hw : w.toNat < 2) (e : BitVec 32) (he : e.toNat < 32) : sProp 𝕄 :=
  iprop((∃ fG : Buf (Elt F) ((c : Thread nD τ).loc cc0_scratch0), ∃ fU : Buf (Elt F) ((c : Thread nD τ).loc cc0_scratch1), ∃ fD : Buf (Elt F) ((c : Thread nD τ).loc cc0_scratch2),
      Transfers.Batch EC (c : Thread nD τ) (.dma (slotSem w hw)) () amt (deliv c gG gU gD w hw e he fG fU fD) 3 0)
    ∗ ((srcG e he).view.loc (c : Thread nD τ) ↦[Finset.univ \ (srcG e he).view.set]{fullShare} gG)
    ∗ ((srcU e he).view.loc (c : Thread nD τ) ↦[Finset.univ \ (srcU e he).view.set]{fullShare} gU)
    ∗ ((srcD e he).view.loc (c : Thread nD τ) ↦[Finset.univ \ (srcD e he).view.set]{fullShare} gD))

/-- A slot at which an expert's slices have landed. -/
def landed (w : BitVec 32) (hw : w.toNat < 2) (e : BitVec 32) (he : e.toNat < 32) : sProp 𝕄 :=
  iprop(semVal ((c : Thread nD τ), SemLoc.dma (slotSem w hw)) 0
    ∗ (∃ f : Buf (Elt F) ((c : Thread nD τ).loc cc0_scratch0), (dstG w hw).view.loc (c : Thread nD τ) ↦[(dstG w hw).view.set]{fullShare} landG c w hw e he gG f)
    ∗ (∃ f : Buf (Elt F) ((c : Thread nD τ).loc cc0_scratch1), (dstU w hw).view.loc (c : Thread nD τ) ↦[(dstU w hw).view.set]{fullShare} landU c w hw e he gU f)
    ∗ (∃ f : Buf (Elt F) ((c : Thread nD τ).loc cc0_scratch2), (dstD w hw).view.loc (c : Thread nD τ) ↦[(dstD w hw).view.set]{fullShare} landD c w hw e he gD f))

/-- The three copies started. -/
def issue (w : BitVec 32) (hw : w.toNat < 2) (e : BitVec 32) (he : e.toNat < 32) : Prog (TpuEff nD τ sig (Elt F) Λ₀ .tc) PUnit := do
  Prog.lift (.enqueueDma (srcG e he) (.here (dstG w hw)) (.dma (slotSem w hw)) ((View.wordExact_bits rfl).reshape _ _) ((View.wordExact_bits rfl).reshape _ _) ⟨Or.inl rfl, trivial⟩)
  Prog.lift (.enqueueDma (srcU e he) (.here (dstU w hw)) (.dma (slotSem w hw)) ((View.wordExact_bits rfl).reshape _ _) ((View.wordExact_bits rfl).reshape _ _) ⟨Or.inl rfl, trivial⟩)
  Prog.lift (.enqueueDma (srcD e he) (.here (dstD w hw)) (.dma (slotSem w hw)) ((View.wordExact_bits rfl).reshape _ _) ((View.wordExact_bits rfl).reshape _ _) ⟨Or.inl rfl, trivial⟩)
  pure ⟨⟩

theorem issue_wp (w : BitVec 32) (hw : w.toNat < 2) (e : BitVec 32) (he : e.toNat < 32) :
    iprop(slotRest (F := F) c w hw ∗ weights c gG gU gD)
      ⊢ wp frame (wpE (defs₀ (F := F)) Variants.none (c : Thread nD τ) none) Set.univ (issue w hw e he) (fun _ => flying c gG gU gD w hw e he) := by
  unfold slotRest weights
  iintro ⟨⟨Hs, ⟨%fG, HG⟩, ⟨%fU, HU⟩, ⟨%fD, HD⟩⟩, WG, WU, WD⟩
  ihave WG := (pointsTo_split_subset (Finset.subset_univ (srcG e he).view.set)).1 $$ WG
  icases WG with ⟨SG, RG⟩
  ihave WU := (pointsTo_split_subset (Finset.subset_univ (srcU e he).view.set)).1 $$ WU
  icases WU with ⟨SU, RU⟩
  ihave WD := (pointsTo_split_subset (Finset.subset_univ (srcD e he).view.set)).1 $$ WD
  icases WD with ⟨SD, RD⟩
  unfold issue
  imod (Transfers.batch_alloc' (Lvl := ℕ) EC (c : Thread nD τ) () amt (deliv c gG gU gD w hw e he fG fU fD) (sm := .dma (slotSem w hw)) (E := Set.univ)) $$ Hs with HB
  iapply (Transfers.wp_dmaBatch EC Variants.none (c : Thread nD τ) none (src := srcG e he) (dst := dstG w hw) () amt (amtG w hw) subset_rfl
    (D := deliv c gG gU gD w hw e he fG fU fD) (j := 0) (u := 0) (by decide) (Nat.zero_le _) (by unfold deliv; exact .rfl)) $$ [SG HG HB]
  · isplitl [SG]; · iexact SG
    isplitl [HG]; · iexact HG
    iexact HB
  iintro HB
  iapply (Transfers.wp_dmaBatch EC Variants.none (c : Thread nD τ) none (src := srcU e he) (dst := dstU w hw) () amt (amtU w hw) subset_rfl
    (D := deliv c gG gU gD w hw e he fG fU fD) (j := 1) (u := 0) (by decide) (Nat.zero_le _) (by unfold deliv; exact .rfl)) $$ [SU HU HB]
  · isplitl [SU]; · iexact SU
    isplitl [HU]; · iexact HU
    iexact HB
  iintro HB
  iapply (Transfers.wp_dmaBatch EC Variants.none (c : Thread nD τ) none (src := srcD e he) (dst := dstD w hw) () amt (amtD w hw) subset_rfl
    (D := deliv c gG gU gD w hw e he fG fU fD) (j := 2) (u := 0) (by decide) (Nat.zero_le _) (by unfold deliv; exact .rfl)) $$ [SD HD HB]
  · isplitl [SD]; · iexact SD
    isplitl [HD]; · iexact HD
    iexact HB
  iintro HB
  iapply le_wp_ret
  unfold flying
  isplitl [HB]
  · iexists fG, fU, fD; iexact HB
  isplitl [RG]; · iexact RG
  isplitl [RU]; · iexact RU
  iexact RD

/-- The deliveries one by one. -/
theorem deliv_split (w : BitVec 32) (hw : w.toNat < 2) (e : BitVec 32) (he : e.toNat < 32)
    (fG : Buf (Elt F) ((c : Thread nD τ).loc cc0_scratch0)) (fU : Buf (Elt F) ((c : Thread nD τ).loc cc0_scratch1)) (fD : Buf (Elt F) ((c : Thread nD τ).loc cc0_scratch2)) :
    bigSep Finset.univ (deliv c gG gU gD w hw e he fG fU fD) ⊢
      iprop((((dstG w hw).view.loc (c : Thread nD τ) ↦[(dstG w hw).view.set]{fullShare} landG c w hw e he gG fG) ∗ ((srcG e he).view.loc (c : Thread nD τ) ↦[(srcG e he).view.set]{fullShare} gG))
        ∗ (((dstU w hw).view.loc (c : Thread nD τ) ↦[(dstU w hw).view.set]{fullShare} landU c w hw e he gU fU) ∗ ((srcU e he).view.loc (c : Thread nD τ) ↦[(srcU e he).view.set]{fullShare} gU))
        ∗ (((dstD w hw).view.loc (c : Thread nD τ) ↦[(dstD w hw).view.set]{fullShare} landD c w hw e he gD fD) ∗ ((srcD e he).view.loc (c : Thread nD τ) ↦[(srcD e he).view.set]{fullShare} gD))) := by
  rw [Idealize.SL.BI.bigSep_univ_eq_bigSepL [0, 1, 2] (by decide) (by decide) _]
  exact .rfl

/-- The three waits. -/
def collect (w : BitVec 32) (hw : w.toNat < 2) (e : BitVec 32) (he : e.toNat < 32) : Prog (TpuEff nD τ sig (Elt F) Λ₀ .tc) PUnit := do
  Prog.lift (.waitDma2 (slotSem w hw) (srcG e he) (dstG w hw) ((View.wordExact_bits rfl).reshape _ _) ((View.wordExact_bits rfl).reshape _ _))
  Prog.lift (.waitDma2 (slotSem w hw) (srcU e he) (dstU w hw) ((View.wordExact_bits rfl).reshape _ _) ((View.wordExact_bits rfl).reshape _ _))
  Prog.lift (.waitDma2 (slotSem w hw) (srcD e he) (dstD w hw) ((View.wordExact_bits rfl).reshape _ _) ((View.wordExact_bits rfl).reshape _ _))

theorem collect_wp (w : BitVec 32) (hw : w.toNat < 2) (e : BitVec 32) (he : e.toNat < 32) {α : Type}
    (K : PUnit → Prog (TpuEff nD τ sig (Elt F) Λ₀ .tc) α) (Q : α → sProp 𝕄) (W : Waits sig Unit) :
    iprop(flying c gG gU gD w hw e he ∗ owes (c : Thread nD τ) 0 W
        ∗ ((landed c gG gU gD w hw e he ∗ weights c gG gU gD ∗ ∃ W', owes (c : Thread nD τ) 0 W')
            -∗ wp frame (wpE (defs₀ (F := F)) Variants.none (c : Thread nD τ) none) Set.univ (K ⟨⟩) Q))
      ⊢ wp frame (wpE (defs₀ (F := F)) Variants.none (c : Thread nD τ) none) Set.univ (collect w hw e he >>= K) Q := by
  unfold flying
  iintro ⟨⟨⟨%fG, %fU, %fD, HB⟩, RG, RU, RD⟩, HW, Hk⟩
  unfold collect
  iapply (Transfers.wp_waitBatch EC Variants.none (c : Thread nD τ) none () (credG w hw) (D := deliv c gG gU gD w hw e he fG fU fD) (u := 0) (by have := amt_pos; omega)) $$ [HB HW]
  · isplitl [HB]; · iexact HB
    iexact HW
  iintro ⟨HB, HW⟩
  iapply (Transfers.wp_waitBatch EC Variants.none (c : Thread nD τ) none () (credU w hw) (D := deliv c gG gU gD w hw e he fG fU fD) (u := 0 + amt) (by have := amt_pos; omega)) $$ [HB HW]
  · isplitl [HB]; · iexact HB
    iexact HW
  iintro ⟨HB, HW⟩
  iapply (Transfers.wp_waitBatchLast EC Variants.none (c : Thread nD τ) none () (credD w hw) amt_pos (D := deliv c gG gU gD w hw e he fG fU fD) (u := 0 + amt + amt) (by omega)) $$ [HB HW]
  · isplitl [HB]; · iexact HB
    iexact HW
  iintro ⟨HD, Hs, HW⟩
  ihave HD := (deliv_split c gG gU gD w hw e he fG fU fD) $$ HD
  icases HD with ⟨⟨DG, SG⟩, ⟨DU, SU⟩, ⟨DD, SD⟩⟩
  iapply Hk
  isplitl [Hs DG DU DD]
  · unfold landed
    isplitl [Hs]; · iexact Hs
    isplitl [DG]; · iexists fG; iexact DG
    isplitl [DU]; · iexists fU; iexact DU
    iexists fD; iexact DD
  isplitl [SG RG SU RU SD RD]
  · unfold weights
    isplitl [SG RG]
    · iapply (pointsTo_split_subset (Finset.subset_univ (srcG e he).view.set)).2
      isplitl [SG]; · iexact SG
      iexact RG
    isplitl [SU RU]
    · iapply (pointsTo_split_subset (Finset.subset_univ (srcU e he).view.set)).2
      isplitl [SU]; · iexact SU
      iexact RU
    iapply (pointsTo_split_subset (Finset.subset_univ (srcD e he).view.set)).2
    isplitl [SD]; · iexact SD
    iexact RD
  iexists _; iexact HW

end Cert.Kernel2Ideal.Hand

end
-- ==== Proof.ExpertsWords.lean ====
/- The experts kernel's weight step: at a visit that changes expert, the expert's slices are waited for (at the first visit,
   started first), the next expert's are started into the other slot, and the landed slices are rounded into the three
   weight buffers the products read. -/
module

public import proofs.«01_k».proof.Proof.ExpertsDma
public import Idealize.ShloMosaic.Lib.WordCmp
public import Idealize.ShloMosaic.Lib.Writes

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The tables' words -/

/-- A visit's place in a table. -/
abbrev vIdx (i : grid0.Coords) : S160.Idx := fun a => ⟨(i 0).val, by fin_cases a; exact (i 0).isLt⟩

/-- A table's contents, and the nine tables. -/
abbrev Tbl (F : FTy → Type) := (⟨S160, .i32⟩ : BufTy).Contents (Elt F)

variable (tb : Fin 9 → Tbl F)

/-- Table 0: tile; and a visit's word of it. -/
def tVt : Tbl F := tb 0
def wVt (i : grid0.Coords) : BitVec 32 := tVt tb (vIdx i)
/-- Table 1: expert; and a visit's word of it. -/
def tVe : Tbl F := tb 1
def wVe (i : grid0.Coords) : BitVec 32 := tVe tb (vIdx i)
/-- Table 2: first row; and a visit's word of it. -/
def tLo : Tbl F := tb 2
def wLo (i : grid0.Coords) : BitVec 32 := tLo tb (vIdx i)
/-- Table 3: end of rows; and a visit's word of it. -/
def tHi : Tbl F := tb 3
def wHi (i : grid0.Coords) : BitVec 32 := tHi tb (vIdx i)
/-- Table 4: first visit of the tile; and a visit's word of it. -/
def tFirst : Tbl F := tb 4
def wFirst (i : grid0.Coords) : BitVec 32 := tFirst tb (vIdx i)
/-- Table 5: visit is of rows; and a visit's word of it. -/
def tValid : Tbl F := tb 5
def wValid (i : grid0.Coords) : BitVec 32 := tValid tb (vIdx i)
/-- Table 6: expert changes; and a visit's word of it. -/
def tNew : Tbl F := tb 6
def wNew (i : grid0.Coords) : BitVec 32 := tNew tb (vIdx i)
/-- Table 7: next expert; and a visit's word of it. -/
def tNext : Tbl F := tb 7
def wNext (i : grid0.Coords) : BitVec 32 := tNext tb (vIdx i)
/-- Table 8: slot; and a visit's word of it. -/
def tSlot : Tbl F := tb 8
def wSlot (i : grid0.Coords) : BitVec 32 := tSlot tb (vIdx i)

theorem idx_word (i : grid0.Coords) (h : ∀ a, (k0_off1 i) a + S1.size a ≤ S160.size a) (x : S1.Idx) :
    (Rect.unit (s := S160) (k0_off1 i) S1.size h).emb x = vIdx i := by
  funext a
  apply Fin.ext
  have h0 : (BitVec.ofNat 32 (i 0).val).toNat = (i 0).val := by
    rw [BitVec.toNat_ofNat]; have := (i 0).isLt; exact Nat.mod_eq_of_lt (Nat.lt_trans this (by decide))
  have hx : (x a).val = 0 := by have := (x a).isLt; fin_cases a; simpa using this
  fin_cases a
  show (BitVec.ofNat 32 (i 0).val).toNat + 1 * (x 0).val = (i 0).val
  rw [h0]; have : (x 0).val = 0 := hx; omega

theorem seq_wp {α β : Type} (c : Dev nD) (A : Prog (TpuEff nD τ sig (Elt F) Λ₀ .tc) α) (K : α → Prog (TpuEff nD τ sig (Elt F) Λ₀ .tc) β) (Q : β → sProp 𝕄) (mid : α → sProp 𝕄) :
    wp frame (wpE (defs₀ (F := F)) Variants.none (c : Thread nD τ) none) Set.univ A mid
      ⊢ iprop((∀ a, mid a -∗ wp frame (wpE (defs₀ (F := F)) Variants.none (c : Thread nD τ) none) Set.univ (K a) Q)
        -∗ wp frame (wpE (defs₀ (F := F)) Variants.none (c : Thread nD τ) none) Set.univ (A >>= K) Q) := by
  rw [wp_bind]
  exact wp_wand _ _ _

theorem assume_wp {α : Type} (c : Dev nD) {P : Prop} {d : Decidable P} (h : P) (K : PLift P → Prog (TpuEff nD τ sig (Elt F) Λ₀ .tc) α) (Q : α → sProp 𝕄) :
    wp frame (wpE (defs₀ (F := F)) Variants.none (c : Thread nD τ) none) Set.univ (K ⟨h⟩) Q
      ⊢ wp frame (wpE (defs₀ (F := F)) Variants.none (c : Thread nD τ) none) Set.univ (Prog.lift (TpuEff.assume P d) >>= K) Q :=
  wp_assume Variants.none (c : Thread nD τ) none Set.univ h

theorem smem_gen {α : Type} (c : Dev nD) (m : Memref sig .tc .smem S160 .i32) (r : Rect S160) (h1 : r.shape.numel = 1) (hp) (q : PosShare TreeShare) (f : Buf (Elt F) ((m.access r).loc (c : Thread nD τ))) (K : Elt F .i32 → Prog (TpuEff nD τ sig (Elt F) Λ₀ .tc) α) (Q : α → sProp 𝕄)
    (a : Elt F .i32) (ha : (m.access r).read (Elt F) f (Shape.Idx.first (h1.symm ▸ Nat.one_pos)) = a) :
    ((m.access r).loc (c : Thread nD τ) ↦{q} f)
      ⊢ iprop((((m.access r).loc (c : Thread nD τ) ↦{q} f) -∗ wp frame (wpE (defs₀ (F := F)) Variants.none (c : Thread nD τ) none) Set.univ (K a) Q)
        -∗ wp frame (wpE (defs₀ (F := F)) Variants.none (c : Thread nD τ) none) Set.univ (smemLoad m r h1 hp >>= K) Q) := by
  subst ha
  exact wp_load_rect Variants.none (c : Thread nD τ) none Set.univ (k := fun g => K (g (Shape.Idx.first (h1.symm ▸ Nat.one_pos)))) (Finset.subset_univ _)

theorem smemVt {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg0 ↦{q} (f : Buf (Elt F) ((c : Thread nD τ).loc main_arg0)))
      ⊢ iprop((((c : Thread nD τ).loc main_arg0 ↦{q} (f : Buf (Elt F) ((c : Thread nD τ).loc main_arg0))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg0) (Rect.unit (s := S160) (k0_off1 i) S1.size h) h1 hp >>= K) Q) := by
  exact smem_gen c (Memref.whole main_arg0) (Rect.unit (s := S160) (k0_off1 i) S1.size h) h1 hp q f K Q (f (vIdx i)) (congrArg f (idx_word i h _))

theorem smemVe {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg1 ↦{q} (f : Buf (Elt F) ((c : Thread nD τ).loc main_arg1)))
      ⊢ iprop((((c : Thread nD τ).loc main_arg1 ↦{q} (f : Buf (Elt F) ((c : Thread nD τ).loc main_arg1))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg1) (Rect.unit (s := S160) (k0_off1 i) S1.size h) h1 hp >>= K) Q) := by
  exact smem_gen c (Memref.whole main_arg1) (Rect.unit (s := S160) (k0_off1 i) S1.size h) h1 hp q f K Q (f (vIdx i)) (congrArg f (idx_word i h _))

theorem smemLo {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg2 ↦{q} (f : Buf (Elt F) ((c : Thread nD τ).loc main_arg2)))
      ⊢ iprop((((c : Thread nD τ).loc main_arg2 ↦{q} (f : Buf (Elt F) ((c : Thread nD τ).loc main_arg2))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg2) (Rect.unit (s := S160) (k0_off1 i) S1.size h) h1 hp >>= K) Q) := by
  exact smem_gen c (Memref.whole main_arg2) (Rect.unit (s := S160) (k0_off1 i) S1.size h) h1 hp q f K Q (f (vIdx i)) (congrArg f (idx_word i h _))

theorem smemHi {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg3 ↦{q} (f : Buf (Elt F) ((c : Thread nD τ).loc main_arg3)))
      ⊢ iprop((((c : Thread nD τ).loc main_arg3 ↦{q} (f : Buf (Elt F) ((c : Thread nD τ).loc main_arg3))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg3) (Rect.unit (s := S160) (k0_off1 i) S1.size h) h1 hp >>= K) Q) := by
  exact smem_gen c (Memref.whole main_arg3) (Rect.unit (s := S160) (k0_off1 i) S1.size h) h1 hp q f K Q (f (vIdx i)) (congrArg f (idx_word i h _))

theorem smemFirst {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg4 ↦{q} (f : Buf (Elt F) ((c : Thread nD τ).loc main_arg4)))
      ⊢ iprop((((c : Thread nD τ).loc main_arg4 ↦{q} (f : Buf (Elt F) ((c : Thread nD τ).loc main_arg4))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg4) (Rect.unit (s := S160) (k0_off1 i) S1.size h) h1 hp >>= K) Q) := by
  exact smem_gen c (Memref.whole main_arg4) (Rect.unit (s := S160) (k0_off1 i) S1.size h) h1 hp q f K Q (f (vIdx i)) (congrArg f (idx_word i h _))

theorem smemValid {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg5 ↦{q} (f : Buf (Elt F) ((c : Thread nD τ).loc main_arg5)))
      ⊢ iprop((((c : Thread nD τ).loc main_arg5 ↦{q} (f : Buf (Elt F) ((c : Thread nD τ).loc main_arg5))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg5) (Rect.unit (s := S160) (k0_off1 i) S1.size h) h1 hp >>= K) Q) := by
  exact smem_gen c (Memref.whole main_arg5) (Rect.unit (s := S160) (k0_off1 i) S1.size h) h1 hp q f K Q (f (vIdx i)) (congrArg f (idx_word i h _))

theorem smemNew {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg6 ↦{q} (f : Buf (Elt F) ((c : Thread nD τ).loc main_arg6)))
      ⊢ iprop((((c : Thread nD τ).loc main_arg6 ↦{q} (f : Buf (Elt F) ((c : Thread nD τ).loc main_arg6))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg6) (Rect.unit (s := S160) (k0_off1 i) S1.size h) h1 hp >>= K) Q) := by
  exact smem_gen c (Memref.whole main_arg6) (Rect.unit (s := S160) (k0_off1 i) S1.size h) h1 hp q f K Q (f (vIdx i)) (congrArg f (idx_word i h _))

theorem smemNext {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg7 ↦{q} (f : Buf (Elt F) ((c : Thread nD τ).loc main_arg7)))
      ⊢ iprop((((c : Thread nD τ).loc main_arg7 ↦{q} (f : Buf (Elt F) ((c : Thread nD τ).loc main_arg7))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg7) (Rect.unit (s := S160) (k0_off1 i) S1.size h) h1 hp >>= K) Q) := by
  exact smem_gen c (Memref.whole main_arg7) (Rect.unit (s := S160) (k0_off1 i) S1.size h) h1 hp q f K Q (f (vIdx i)) (congrArg f (idx_word i h _))

theorem smemSlot {α : Type} (c : Dev nD) (i : grid0.Coords) (h) (h1 : S1.numel = 1) (hp) (q : PosShare TreeShare) (f : Tbl F) (K : Elt F .i32 → Prog (TpuEff nD τ sig (Elt F) Λ₀ .tc) α) (Q : α → sProp 𝕄) :
    ((c : Thread nD τ).loc main_arg8 ↦{q} (f : Buf (Elt F) ((c : Thread nD τ).loc main_arg8)))
      ⊢ iprop((((c : Thread nD τ).loc main_arg8 ↦{q} (f : Buf (Elt F) ((c : Thread nD τ).loc main_arg8))) -∗ wp frame (wpE (defs₀ (F := F)) Variants.none (c : Thread nD τ) none) Set.univ (K (f (vIdx i))) Q)
        -∗ wp frame (wpE (defs₀ (F := F)) Variants.none (c : Thread nD τ) none) Set.univ (smemLoad (Memref.whole main_arg8) (Rect.unit (s := S160) (k0_off1 i) S1.size h) h1 hp >>= K) Q) := by
  exact smem_gen c (Memref.whole main_arg8) (Rect.unit (s := S160) (k0_off1 i) S1.size h) h1 hp q f K Q (f (vIdx i)) (congrArg f (idx_word i h _))

/-- The nine tables on a core, each at one share. -/
def tables (c : Dev nD) : sProp 𝕄 :=
  iprop(((c : Thread nD τ).loc main_arg0 ↦{fullShare.right} (tVt tb : Buf (Elt F) ((c : Thread nD τ).loc main_arg0))) ∗ ((c : Thread nD τ).loc main_arg1 ↦{fullShare.right} (tVe tb : Buf (Elt F) ((c : Thread nD τ).loc main_arg1))) ∗ ((c : Thread nD τ).loc main_arg2 ↦{fullShare.right} (tLo tb : Buf (Elt F) ((c : Thread nD τ).loc main_arg2))) ∗ ((c : Thread nD τ).loc main_arg3 ↦{fullShare.right} (tHi tb : Buf (Elt F) ((c : Thread nD τ).loc main_arg3))) ∗ ((c : Thread nD τ).loc main_arg4 ↦{fullShare.right} (tFirst tb : Buf (Elt F) ((c : Thread nD τ).loc main_arg4))) ∗ ((c : Thread nD τ).loc main_arg5 ↦{fullShare.right} (tValid tb : Buf (Elt F) ((c : Thread nD τ).loc main_arg5))) ∗ ((c : Thread nD τ).loc main_arg6 ↦{fullShare.right} (tNew tb : Buf (Elt F) ((c : Thread nD τ).loc main_arg6))) ∗ ((c : Thread nD τ).loc main_arg7 ↦{fullShare.right} (tNext tb : Buf (Elt F) ((c : Thread nD τ).loc main_arg7))) ∗ ((c : Thread nD τ).loc main_arg8 ↦{fullShare.right} (tSlot tb : Buf (Elt F) ((c : Thread nD τ).loc main_arg8))))

/-! ## The landed slices as the kernel loads them -/

section
variable (c : Dev nD)
  (gG : Buf (Elt F) ((c : Thread nD τ).loc main_arg11)) (gU : Buf (Elt F) ((c : Thread nD τ).loc main_arg12)) (gD : Buf (Elt F) ((c : Thread nD τ).loc main_arg13))

def tileG (e : BitVec 32) (he : e.toNat < 32) : Vec F S1x2048x512 .f32 :=
  fun j => (srcG e he).view.read (Elt F) gG ((Shape.reshapeEquiv squeezes_S1x2048x512_S2048x512.numel_eq).symm j)
def tileU (e : BitVec 32) (he : e.toNat < 32) : Vec F S1x2048x512 .f32 :=
  fun j => (srcU e he).view.read (Elt F) gU ((Shape.reshapeEquiv squeezes_S1x2048x512_S2048x512.numel_eq).symm j)
def tileD (e : BitVec 32) (he : e.toNat < 32) : Vec F S1x512x2048 .f32 :=
  fun j => (srcD e he).view.read (Elt F) gD ((Shape.reshapeEquiv squeezes_S1x512x2048_S512x2048.numel_eq).symm j)

theorem read_landG (w : BitVec 32) (hw : w.toNat < 2) (e : BitVec 32) (he : e.toNat < 32) (f : Buf (Elt F) ((c : Thread nD τ).loc cc0_scratch0)) (h : ∀ a, (k0_off28 w) a + S1x2048x512.size a ≤ S2x2048x512.size a) :
    ((Memref.whole cc0_scratch0).access (Rect.unit (s := S2x2048x512) (k0_off28 w) S1x2048x512.size h)).read (Elt F) (landG c w hw e he gG f) = tileG c gG e he := by
  have e1 : landG c w hw e he gG f = ((Memref.whole cc0_scratch0).access (Rect.unit (s := S2x2048x512) (k0_off28 w) S1x2048x512.size h)).write (Elt F) f (tileG c gG e he) Finset.univ :=
    View.write_reshape_univ (v := ((Memref.whole cc0_scratch0).view.slice (Rect.unit (s := S2x2048x512) (k0_off28 w) S1x2048x512.size h))) squeezes_S1x2048x512_S2048x512.numel_eq f _
  rw [e1]
  exact View.read_write_univ _ _
theorem sub_G (w : BitVec 32) (hw : w.toNat < 2) (h : ∀ a, (k0_off28 w) a + S1x2048x512.size a ≤ S2x2048x512.size a) :
    ((Memref.whole cc0_scratch0).access (Rect.unit (s := S2x2048x512) (k0_off28 w) S1x2048x512.size h)).set ⊆ (dstG w hw).view.set :=
  (Finset.Subset.antisymm_iff.mp (View.set_reshape (v := ((Memref.whole cc0_scratch0).view.slice (Rect.unit (s := S2x2048x512) (k0_off28 w) S1x2048x512.size h))) squeezes_S1x2048x512_S2048x512.numel_eq)).2
theorem read_landU (w : BitVec 32) (hw : w.toNat < 2) (e : BitVec 32) (he : e.toNat < 32) (f : Buf (Elt F) ((c : Thread nD τ).loc cc0_scratch1)) (h : ∀ a, (k0_off28 w) a + S1x2048x512.size a ≤ S2x2048x512.size a) :
    ((Memref.whole cc0_scratch1).access (Rect.unit (s := S2x2048x512) (k0_off28 w) S1x2048x512.size h)).read (Elt F) (landU c w hw e he gU f) = tileU c gU e he := by
  have e1 : landU c w hw e he gU f = ((Memref.whole cc0_scratch1).access (Rect.unit (s := S2x2048x512) (k0_off28 w) S1x2048x512.size h)).write (Elt F) f (tileU c gU e he) Finset.univ :=
    View.write_reshape_univ (v := ((Memref.whole cc0_scratch1).view.slice (Rect.unit (s := S2x2048x512) (k0_off28 w) S1x2048x512.size h))) squeezes_S1x2048x512_S2048x512.numel_eq f _
  rw [e1]
  exact View.read_write_univ _ _
theorem sub_U (w : BitVec 32) (hw : w.toNat < 2) (h : ∀ a, (k0_off28 w) a + S1x2048x512.size a ≤ S2x2048x512.size a) :
    ((Memref.whole cc0_scratch1).access (Rect.unit (s := S2x2048x512) (k0_off28 w) S1x2048x512.size h)).set ⊆ (dstU w hw).view.set :=
  (Finset.Subset.antisymm_iff.mp (View.set_reshape (v := ((Memref.whole cc0_scratch1).view.slice (Rect.unit (s := S2x2048x512) (k0_off28 w) S1x2048x512.size h))) squeezes_S1x2048x512_S2048x512.numel_eq)).2
theorem read_landD (w : BitVec 32) (hw : w.toNat < 2) (e : BitVec 32) (he : e.toNat < 32) (f : Buf (Elt F) ((c : Thread nD τ).loc cc0_scratch2)) (h : ∀ a, (k0_off29 w) a + S1x512x2048.size a ≤ S2x512x2048.size a) :
    ((Memref.whole cc0_scratch2).access (Rect.unit (s := S2x512x2048) (k0_off29 w) S1x512x2048.size h)).read (Elt F) (landD c w hw e he gD f) = tileD c gD e he := by
  have e1 : landD c w hw e he gD f = ((Memref.whole cc0_scratch2).access (Rect.unit (s := S2x512x2048) (k0_off29 w) S1x512x2048.size h)).write (Elt F) f (tileD c gD e he) Finset.univ :=
    View.write_reshape_univ (v := ((Memref.whole cc0_scratch2).view.slice (Rect.unit (s := S2x512x2048) (k0_off29 w) S1x512x2048.size h))) squeezes_S1x512x2048_S512x2048.numel_eq f _
  rw [e1]
  exact View.read_write_univ _ _
theorem sub_D (w : BitVec 32) (hw : w.toNat < 2) (h : ∀ a, (k0_off29 w) a + S1x512x2048.size a ≤ S2x512x2048.size a) :
    ((Memref.whole cc0_scratch2).access (Rect.unit (s := S2x512x2048) (k0_off29 w) S1x512x2048.size h)).set ⊆ (dstD w hw).view.set :=
  (Finset.Subset.antisymm_iff.mp (View.set_reshape (v := ((Memref.whole cc0_scratch2).view.slice (Rect.unit (s := S2x512x2048) (k0_off29 w) S1x512x2048.size h))) squeezes_S1x512x2048_S512x2048.numel_eq)).2

/-- The other slot. -/
abbrev oth (w : BitVec 32) : BitVec 32 := Scalar.subi 1#32 w
theorem oth_lt (w : BitVec 32) (h : w.toNat < 2) : (oth w).toNat < 2 := by
  have : w = 0#32 ∨ w = 1#32 := by
    rcases (by omega : w.toNat = 0 ∨ w.toNat = 1) with h | h
    · left; exact BitVec.eq_of_toNat_eq h
    · right; exact BitVec.eq_of_toNat_eq h
  rcases this with rfl | rfl <;> decide

/-- The other slot: an expert's slices in flight where the word names one, else at rest with the weight arrays whole. -/
def pend (w : BitVec 32) (hw : w.toNat < 2) (n : BitVec 32) : sProp 𝕄 :=
  if h : n.toNat < 32 then flying c gG gU gD w hw n h else iprop(slotRest c w hw ∗ weights c gG gU gD)
end

end Cert.Kernel2Ideal.Hand

end
-- ==== Proof.ExpertsStep.lean ====
/- The experts kernel's weight step: at a visit that changes expert, the expert's slices are waited for (at the first visit,
   started first) and the next expert's are started into the other slot. -/
module

public import proofs.«01_k».proof.Proof.ExpertsWords

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (tb : Fin 9 → Tbl F) (c : Dev nD)
  (gG : Buf (Elt F) ((c : Thread nD τ).loc main_arg11)) (gU : Buf (Elt F) ((c : Thread nD τ).loc main_arg12)) (gD : Buf (Elt F) ((c : Thread nD τ).loc main_arg13))
  (X : Memref sig .tc .vmem S4352x128 .f32) (hX : X.IsWhole) (O : Memref sig .tc .vmem S4352x128 .f32) (hO : O.IsWhole)

theorem chk1_of (i : grid0.Coords) (v1 w : BitVec 32) (hw : w.toNat < 2) : k0_chk1 i v1 w :=
  ⟨fun _ _ => inb_sem w hw, fun _ _ => inb_slot w hw, fun _ _ => inb_sem w hw, fun _ _ => inb_slot w hw, fun _ _ => inb_slotD w hw,
    fun _ => inb_sem w hw, fun _ => inb_slot w hw, fun _ => inb_sem w hw, fun _ => inb_slot w hw, fun _ => inb_slotD w hw, fun _ => inb_slot w hw, fun _ => inb_slotD w hw⟩
theorem chk2_of (i : grid0.Coords) (v1 e : BitVec 32) (he : e.toNat < 32) : k0_chk2 i v1 e := ⟨fun _ _ => inb_exp e he, fun _ _ => inb_expD e he⟩
theorem chk3_of (v1 e : BitVec 32) (he : e.toNat < 32) : k0_chk3 v1 e := ⟨fun _ => inb_exp e he, fun _ => inb_expD e he⟩
theorem chk4_of (v1 w n : BitVec 32) (hw : w.toNat < 2) : k0_chk4 v1 w n :=
  ⟨fun _ _ => inb_sem (oth w) (oth_lt w hw), fun _ _ => inb_slot (oth w) (oth_lt w hw), fun _ _ => inb_sem (oth w) (oth_lt w hw), fun _ _ => inb_slot (oth w) (oth_lt w hw), fun _ _ => inb_slotD (oth w) (oth_lt w hw)⟩
theorem chk5_of (v1 n e : BitVec 32) (he : k0_cond3 n = 1#1 → e.toNat < 32) : k0_chk5 v1 n e := ⟨fun _ h => inb_exp e (he h), fun _ h => inb_expD e (he h)⟩

theorem lt_of_chk1 (i : grid0.Coords) (v1 w : BitVec 32) (h1 : k0_cond1 v1 = 1#1) (h : k0_chk1 i v1 w) : w.toNat < 2 := by
  have := h.2.2.2.2.2.1 h1 0; change w.toNat + 1 ≤ 2 at this; omega
theorem lt_of_chk2 (i : grid0.Coords) (v1 e : BitVec 32) (h1 : k0_cond1 v1 = 1#1) (h2 : k0_cond2 i = 1#1) (h : k0_chk2 i v1 e) : e.toNat < 32 := by
  have := h.1 h1 h2 1; change e.toNat + 1 ≤ 32 at this; omega
theorem lt_of_chk3 (v1 e : BitVec 32) (h1 : k0_cond1 v1 = 1#1) (h : k0_chk3 v1 e) : e.toNat < 32 := by
  have := h.1 h1 1; change e.toNat + 1 ≤ 32 at this; omega
theorem lt_of_chk5 (v1 n e : BitVec 32) (h1 : k0_cond1 v1 = 1#1) (h3 : k0_cond3 n = 1#1) (h : k0_chk5 v1 n e) : e.toNat < 32 := by
  have := h.1 h1 h3 1; change e.toNat + 1 ≤ 32 at this; omega

/-- After the wait: the next expert's copies, where there is one. -/
def nextStep (i : grid0.Coords) (v1 : Elt F .i32) (h1 : k0_cond1 v1 = 1#1) (w : Elt F .i32) (hc : k0_chk1 i v1 w) : Prog (TpuEff nD τ sig (Elt F) Λ₀ .tc) (Σ' (v11 : Elt F .i32), k0_chk1 i v1 v11) := do
  let n : Elt F .i32 ← smemLoad (Memref.whole main_arg7) (Rect.unit (s := S160) (k0_off19 i) S1.size (k0_off19_inb i)) numel1_S1 rfl
  let h4 ← Prog.lift (TpuEff.assume (k0_chk4 v1 w n) (k0_chk4.dec v1 w n))
  if h3 : k0_cond3 n = 1#1 then
    (smemLoad (Memref.whole main_arg7) (Rect.unit (s := S160) (k0_off20 i) S1.size (k0_off20_inb i)) numel1_S1 rfl >>= fun n' =>
     Prog.lift (TpuEff.assume (k0_chk5 v1 n n') (k0_chk5.dec v1 n n')) >>= fun h5 =>
     issue (oth w) (oth_lt w (lt_of_chk1 i v1 w h1 hc)) n' (lt_of_chk5 v1 n n' h1 h3 h5.down) >>= fun _ => pure ⟨w, hc⟩)
  else pure ⟨w, hc⟩

/-- The wait for the expert's copies, and what follows. -/
def waitStep (i : grid0.Coords) (v1 : Elt F .i32) (h1 : k0_cond1 v1 = 1#1) (w : Elt F .i32) (hc : k0_chk1 i v1 w) : Prog (TpuEff nD τ sig (Elt F) Λ₀ .tc) (Σ' (v11 : Elt F .i32), k0_chk1 i v1 v11) := do
  let e : Elt F .i32 ← smemLoad (Memref.whole main_arg1) (Rect.unit (s := S160) (k0_off11 i) S1.size (k0_off11_inb i)) numel1_S1 rfl
  let h3 ← Prog.lift (TpuEff.assume (k0_chk3 v1 e) (k0_chk3.dec v1 e))
  collect w (lt_of_chk1 i v1 w h1 hc) e (lt_of_chk3 v1 e h1 h3.down) >>= fun _ => nextStep i v1 h1 w hc

/-- The whole step. -/
def firstStep (i : grid0.Coords) (v1 : Elt F .i32) (h1 : k0_cond1 v1 = 1#1) : Prog (TpuEff nD τ sig (Elt F) Λ₀ .tc) (Σ' (v11 : Elt F .i32), k0_chk1 i v1 v11) := do
  let w : Elt F .i32 ← smemLoad (Memref.whole main_arg8) (Rect.unit (s := S160) (k0_off2 i) S1.size (k0_off2_inb i)) numel1_S1 rfl
  let hc ← Prog.lift (TpuEff.assume (k0_chk1 i v1 w) (k0_chk1.dec i v1 w))
  if h2 : k0_cond2 i = 1#1 then
    (smemLoad (Memref.whole main_arg1) (Rect.unit (s := S160) (k0_off3 i) S1.size (k0_off3_inb i h2)) numel1_S1 rfl >>= fun e =>
     Prog.lift (TpuEff.assume (k0_chk2 i v1 e) (k0_chk2.dec i v1 e)) >>= fun h3 =>
     issue w (lt_of_chk1 i v1 w h1 hc.down) e (lt_of_chk2 i v1 e h1 h2 h3.down) >>= fun _ => waitStep i v1 h1 w hc.down)
  else waitStep i v1 h1 w hc.down

set_option maxRecDepth 65536 in
theorem part1_eq (i : grid0.Coords) (arg0 : BitVec 32) (v1 : Elt F .i32) (h1 : k0_cond1 v1 = 1#1) :
    k0_part1 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 arg0 v1 h1 = firstStep i v1 h1 := rfl

/-- What the step leaves. -/
abbrev afterStep (i : grid0.Coords) (v1 : Elt F .i32) (hw : (wSlot tb i).toNat < 2) (he : (wVe tb i).toNat < 32) : (Σ' (v11 : Elt F .i32), k0_chk1 i v1 v11) → sProp 𝕄 :=
  fun r => iprop(⌜r.1 = wSlot tb i⌝ ∗ tables tb c ∗ landed c gG gU gD (wSlot tb i) hw (wVe tb i) he ∗ pend c gG gU gD (oth (wSlot tb i)) (oth_lt _ hw) (wNext tb i) ∗ ∃ W', owes (c : Thread nD τ) 0 W')

theorem nextStep_wp (i : grid0.Coords) (v1 : Elt F .i32) (h1 : k0_cond1 v1 = 1#1)
    (hw : (wSlot tb i).toNat < 2) (he : (wVe tb i).toNat < 32) (hn : k0_cond3 (wNext tb i) = 1#1 ↔ (wNext tb i).toNat < 32) (hc : k0_chk1 i v1 (wSlot tb i)) :
    iprop(tables tb c ∗ landed c gG gU gD (wSlot tb i) hw (wVe tb i) he ∗ weights c gG gU gD ∗ slotRest c (oth (wSlot tb i)) (oth_lt _ hw) ∗ ∃ W', owes (c : Thread nD τ) 0 W')
      ⊢ wp frame (wpE (defs₀ (F := F)) Variants.none (c : Thread nD τ) none) Set.univ (nextStep (F := F) i v1 h1 (wSlot tb i) hc) (afterStep tb c gG gU gD i v1 hw he) := by
  unfold nextStep tables afterStep
  iintro ⟨⟨T0, T1, T2, T3, T4, T5, T6, T7, T8⟩, HL, HG, HR, HW⟩
  iapply (smemNext c i _ numel1_S1 rfl fullShare.right (tNext tb) _ _) $$ T7
  iintro T7
  iapply (assume_wp c (chk4_of v1 (wSlot tb i) (tNext tb (vIdx i)) hw) _ _)
  by_cases h3 : k0_cond3 (tNext tb (vIdx i)) = 1#1
  · rw [dif_pos h3]
    iapply (smemNext c i _ numel1_S1 rfl fullShare.right (tNext tb) _ _) $$ T7
    iintro T7
    iapply (assume_wp c (chk5_of v1 (tNext tb (vIdx i)) (tNext tb (vIdx i)) (fun h => hn.1 h)) _ _)
    ihave HI := (issue_wp c gG gU gD (oth (wSlot tb i)) (oth_lt _ hw) (wNext tb i) (hn.1 h3)) $$ [HR HG]
    · isplitl [HR]; · iexact HR
      iexact HG
    iapply (seq_wp c _ _ _ _) $$ HI
    iintro %_ HF
    iapply le_wp_ret
    isplitr; · ipureintro; rfl
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [HL]; · iexact HL
    isplitl [HF]
    · unfold pend; rw [dif_pos (hn.1 h3)]; iexact HF
    iexact HW
  · rw [dif_neg h3]
    iapply le_wp_ret
    isplitr; · ipureintro; rfl
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [HL]; · iexact HL
    isplitl [HR HG]
    · unfold pend; rw [dif_neg (fun h => h3 (hn.2 h))]
      isplitl [HR]; · iexact HR
      iexact HG
    iexact HW

theorem waitStep_wp (i : grid0.Coords) (v1 : Elt F .i32) (h1 : k0_cond1 v1 = 1#1)
    (hw : (wSlot tb i).toNat < 2) (he : (wVe tb i).toNat < 32) (hn : k0_cond3 (wNext tb i) = 1#1 ↔ (wNext tb i).toNat < 32) (hc : k0_chk1 i v1 (wSlot tb i)) (W : Waits sig Unit) :
    iprop(tables tb c ∗ flying c gG gU gD (wSlot tb i) hw (wVe tb i) he ∗ slotRest c (oth (wSlot tb i)) (oth_lt _ hw) ∗ owes (c : Thread nD τ) 0 W)
      ⊢ wp frame (wpE (defs₀ (F := F)) Variants.none (c : Thread nD τ) none) Set.univ (waitStep (F := F) i v1 h1 (wSlot tb i) hc) (afterStep tb c gG gU gD i v1 hw he) := by
  unfold waitStep tables
  iintro ⟨⟨T0, T1, T2, T3, T4, T5, T6, T7, T8⟩, HF, HR, HW⟩
  iapply (smemVe c i _ numel1_S1 rfl fullShare.right (tVe tb) _ _) $$ T1
  iintro T1
  iapply (assume_wp c (chk3_of v1 (tVe tb (vIdx i)) he) _ _)
  iapply (collect_wp c gG gU gD (wSlot tb i) hw (wVe tb i) he _ _ W)
  isplitl [HF]; · iexact HF
  isplitl [HW]; · iexact HW
  iintro ⟨HL, HG, HW⟩
  iapply (nextStep_wp tb c gG gU gD i v1 h1 hw he hn hc)
  isplitl [T0 T1 T2 T3 T4 T5 T6 T7 T8]
  · unfold tables
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8
  isplitl [HL]; · iexact HL
  isplitl [HG]; · iexact HG
  isplitl [HR]; · iexact HR
  iexact HW

theorem pend_pos (w : BitVec 32) (hw : w.toNat < 2) (n : BitVec 32) (h : n.toNat < 32) : pend c gG gU gD w hw n ⊢ flying c gG gU gD w hw n h := by
  unfold pend; rw [dif_pos h]
theorem pend_neg (w : BitVec 32) (hw : w.toNat < 2) (n : BitVec 32) (h : ¬ n.toNat < 32) : pend c gG gU gD w hw n ⊢ iprop(slotRest c w hw ∗ weights c gG gU gD) := by
  unfold pend; rw [dif_neg h]

theorem firstStep_wp (i : grid0.Coords) (v1 : Elt F .i32) (h1 : k0_cond1 v1 = 1#1)
    (hw : (wSlot tb i).toNat < 2) (he : (wVe tb i).toNat < 32) (hn : k0_cond3 (wNext tb i) = 1#1 ↔ (wNext tb i).toNat < 32)
    (n0 : BitVec 32) (h0 : (k0_cond2 i = 1#1 ∧ ¬ n0.toNat < 32) ∨ (¬ k0_cond2 i = 1#1 ∧ n0 = wVe tb i)) (W : Waits sig Unit) :
    iprop(tables tb c ∗ pend c gG gU gD (wSlot tb i) hw n0 ∗ slotRest c (oth (wSlot tb i)) (oth_lt _ hw) ∗ owes (c : Thread nD τ) 0 W)
      ⊢ wp frame (wpE (defs₀ (F := F)) Variants.none (c : Thread nD τ) none) Set.univ (firstStep (F := F) i v1 h1) (afterStep tb c gG gU gD i v1 hw he) := by
  unfold firstStep tables
  iintro ⟨⟨T0, T1, T2, T3, T4, T5, T6, T7, T8⟩, HP, HR, HW⟩
  iapply (smemSlot c i _ numel1_S1 rfl fullShare.right (tSlot tb) _ _) $$ T8
  iintro T8
  iapply (assume_wp c (chk1_of i v1 (tSlot tb (vIdx i)) hw) _ _)
  rcases h0 with ⟨h2, hn0⟩ | ⟨h2, rfl⟩
  · rw [dif_pos h2]
    ihave HP := (pend_neg c gG gU gD (wSlot tb i) hw n0 hn0) $$ HP
    icases HP with ⟨HS, HG⟩
    iapply (smemVe c i _ numel1_S1 rfl fullShare.right (tVe tb) _ _) $$ T1
    iintro T1
    iapply (assume_wp c (chk2_of i v1 (tVe tb (vIdx i)) he) _ _)
    ihave HI := (issue_wp c gG gU gD (wSlot tb i) hw (wVe tb i) he) $$ [HS HG]
    · isplitl [HS]; · iexact HS
      iexact HG
    iapply (seq_wp c _ _ _ _) $$ HI
    iintro %_ HF
    iapply (waitStep_wp tb c gG gU gD i v1 h1 hw he hn (chk1_of i v1 _ hw) W)
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [HF]; · iexact HF
    isplitl [HR]; · iexact HR
    iexact HW
  · rw [dif_neg h2]
    ihave HP := (pend_pos c gG gU gD (wSlot tb i) hw (wVe tb i) he) $$ HP
    iapply (waitStep_wp tb c gG gU gD i v1 h1 hw he hn (chk1_of i v1 _ hw) W)
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [HP]; · iexact HP
    isplitl [HR]; · iexact HR
    iexact HW

end Cert.Kernel2Ideal.Hand

end
-- ==== Proof.ExpertsBlock.lean ====
/- The experts kernel's blocks: a token's row is sixteen chunks of 128 lanes and a seventeenth of zeros; the kernel reads and
   writes chunk `k` of a tile's 256 rows by the rectangle of stride seventeen from row `k`. -/
module

public import proofs.«01_k».proof.Proof.ExpertsWords

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Chunk `k` of a tile's block. -/
def getC (k : ℕ) (hk : k < 17) (d : Vec F S4352x128 .f32) : Vec F S256x128 .f32 :=
  fun x => d (fun a => match a with
    | 0 => ⟨k + 17 * (x 0).val, by have := (x 0).isLt; show k + 17 * (x 0).val < 4352; change (x 0).val < 256 at this; omega⟩
    | 1 => ⟨(x 1).val, (x 1).isLt⟩)

/-- A block's row of a chunk row. -/
abbrev rowOf (j : S4352x128.Idx) : S256x128.Idx := fun a => match a with
    | 0 => ⟨(j 0).val / 17, by have := (j 0).isLt; show (j 0).val / 17 < 256; change (j 0).val < 4352 at this; omega⟩
    | 1 => ⟨(j 1).val, (j 1).isLt⟩

/-- The block with chunk `k` replaced. -/
def putC (k : ℕ) (p : Vec F S256x128 .f32) (d : Vec F S4352x128 .f32) : Vec F S4352x128 .f32 :=
  fun j => if (j 0).val % 17 = k then p (rowOf j) else d j

theorem chunk_idx (k : ℕ) (hk : k < 17) (h) (x : S256x128.Idx) :
    (⟨![k, 0], S256x128.size, ![17, 1], h⟩ : LoadRect S4352x128).idx x = (fun a => match a with
    | 0 => ⟨k + 17 * (x 0).val, by have := (x 0).isLt; show k + 17 * (x 0).val < 4352; change (x 0).val < 256 at this; omega⟩
    | 1 => ⟨(x 1).val, (x 1).isLt⟩ : S4352x128.Idx) := by
  funext a
  apply Fin.ext
  match a with
  | 0 => rfl
  | 1 => show 0 + 1 * (x 1).val = (x 1).val; omega

section
variable (c : Dev nD) (M : Memref sig .tc .vmem S4352x128 .f32)

theorem load_chunk {α : Type} (k : ℕ) (hk : k < 17) (h) (hl) (d : Vec F S4352x128 .f32) (K : Vec F S256x128 .f32 → Prog (TpuEff nD τ sig (Elt F) Λ₀ .tc) α) (Q : α → sProp 𝕄) :
    (owns (c : Thread nD τ) M fullShare d : sProp 𝕄)
      ⊢ iprop(((owns (c : Thread nD τ) M fullShare d) -∗ wp frame (wpE (defs₀ (F := F)) Variants.none (c : Thread nD τ) none) Set.univ (K (getC k hk d)) Q)
        -∗ wp frame (wpE (defs₀ (F := F)) Variants.none (c : Thread nD τ) none) Set.univ (Prog.lift (.load M (⟨![k, 0], S256x128.size, ![17, 1], h⟩ : LoadRect S4352x128) hl) >>= K) Q) := by
  unfold owns
  iintro ⟨%f, %hf, H⟩ HK
  iapply (wp_load Variants.none (c : Thread nD τ) none Set.univ (m := M) (r := (⟨![k, 0], S256x128.size, ![17, 1], h⟩ : LoadRect S4352x128)) (S := M.view.set) (View.setOn_subset_set _ _)) $$ H
  iintro H
  have e : M.view.readAt (Elt F) (⟨![k, 0], S256x128.size, ![17, 1], h⟩ : LoadRect S4352x128) f = getC k hk d := by
    subst hf; funext x
    show M.view.read (Elt F) f ((⟨![k, 0], S256x128.size, ![17, 1], h⟩ : LoadRect S4352x128).idx x) = _
    rw [chunk_idx k hk h x]; rfl
  rw [e]
  iapply HK
  iexists f
  isplitr; · ipureintro; exact hf
  iexact H

theorem read_put (k : ℕ) (hk : k < 17) (h) (h') (p : Vec F S256x128 .f32) (f : M.view.ty.Contents (Elt F)) :
    M.view.read (Elt F) ((M.access ⟨(⟨![k, 0], S256x128.size, ![17, 1], h⟩ : LoadRect S4352x128), h'⟩).write (Elt F) f p Finset.univ) = putC k p (M.view.read (Elt F) f) := by
  funext j
  unfold putC
  by_cases hj : (j 0).val % 17 = k
  · rw [if_pos hj]
    have e : j = (⟨(⟨![k, 0], S256x128.size, ![17, 1], h⟩ : LoadRect S4352x128), h'⟩ : Rect S4352x128).emb (rowOf j) := by
      show j = (⟨![k, 0], S256x128.size, ![17, 1], h⟩ : LoadRect S4352x128).idx (rowOf j)
      rw [chunk_idx k hk h]
      funext a
      apply Fin.ext
      match a with
      | 0 => show (j 0).val = k + 17 * ((j 0).val / 17); omega
      | 1 => rfl
    conv_lhs => rw [e]
    exact View.read_slice_write_emb _ _ _ (Finset.mem_univ _)
  · rw [if_neg hj]
    refine View.read_slice_write_of_not_mem _ _ _ _ fun hm => hj ?_
    obtain ⟨x, -, hx⟩ := Finset.mem_map.mp hm
    change (⟨![k, 0], S256x128.size, ![17, 1], h⟩ : LoadRect S4352x128).idx x = j at hx
    rw [chunk_idx k hk h] at hx
    subst hx
    show (k + 17 * (x 0).val) % 17 = k
    omega

theorem store_chunk {α : Type} (k : ℕ) (hk : k < 17) (h) (h') (hx) (hm) (p : Vec F S256x128 .f32) (d : Vec F S4352x128 .f32) (K : PUnit → Prog (TpuEff nD τ sig (Elt F) Λ₀ .tc) α) (Q : α → sProp 𝕄) :
    (owns (c : Thread nD τ) M fullShare d : sProp 𝕄)
      ⊢ iprop(((owns (c : Thread nD τ) M fullShare (putC k p d)) -∗ wp frame (wpE (defs₀ (F := F)) Variants.none (c : Thread nD τ) none) Set.univ (K ⟨⟩) Q)
        -∗ wp frame (wpE (defs₀ (F := F)) Variants.none (c : Thread nD τ) none) Set.univ (Prog.lift (.store M ⟨(⟨![k, 0], S256x128.size, ![17, 1], h⟩ : LoadRect S4352x128), h'⟩ p Finset.univ hx hm) >>= K) Q) := by
  unfold owns
  iintro ⟨%f, %hf, H⟩ HK
  iapply (wp_store Variants.none (c : Thread nD τ) none Set.univ (m := M) (r := ⟨(⟨![k, 0], S256x128.size, ![17, 1], h⟩ : LoadRect S4352x128), h'⟩) (w := p) (Mk := Finset.univ) (S := M.view.set) (f := f) (View.set_slice_subset _ _)) $$ H
  iintro H
  iapply HK
  iexists _
  isplitr
  swap; · iexact H
  ipureintro
  rw [read_put M k hk h h' p f, hf]
end

theorem load_gen {α : Type} {s : Shape} {e : EltTy} (c : Dev nD) (m : Memref sig .tc .vmem s e) (r : Rect s) (hl) (S : Finset (Idx ((m.access r).loc (c : Thread nD τ)))) (q : PosShare TreeShare) (f : Buf (Elt F) ((m.access r).loc (c : Thread nD τ)))
    (v : r.shape.Idx → Elt F e) (hv : (m.access r).read (Elt F) f = v) (hS : (m.access r).set ⊆ S) (K : (r.shape.Idx → Elt F e) → Prog (TpuEff nD τ sig (Elt F) Λ₀ .tc) α) (Q : α → sProp 𝕄) :
    ((m.access r).loc (c : Thread nD τ) ↦[S]{q} f : sProp 𝕄)
      ⊢ iprop((((m.access r).loc (c : Thread nD τ) ↦[S]{q} f) -∗ wp frame (wpE (defs₀ (F := F)) Variants.none (c : Thread nD τ) none) Set.univ (K v) Q)
        -∗ wp frame (wpE (defs₀ (F := F)) Variants.none (c : Thread nD τ) none) Set.univ (Prog.lift (.load m r.toLoadRect hl) >>= K) Q) := by
  subst hv
  exact wp_load_rect Variants.none (c : Thread nD τ) none Set.univ hS

theorem store_gen {α : Type} {s : Shape} {e : EltTy} (c : Dev nD) (m : Memref sig .tc .vmem s e) (r : Rect s) (w : r.shape.Idx → Elt F e) (hx) (hm) (f : Buf (Elt F) ((m.access r).loc (c : Thread nD τ)))
    (v : Buf (Elt F) ((m.access r).loc (c : Thread nD τ))) (hv : (m.access r).write (Elt F) f w Finset.univ = v) (K : PUnit → Prog (TpuEff nD τ sig (Elt F) Λ₀ .tc) α) (Q : α → sProp 𝕄) :
    ((m.access r).loc (c : Thread nD τ) ↦{fullShare} f : sProp 𝕄)
      ⊢ iprop((((m.access r).loc (c : Thread nD τ) ↦{fullShare} v) -∗ wp frame (wpE (defs₀ (F := F)) Variants.none (c : Thread nD τ) none) Set.univ (K ⟨⟩) Q)
        -∗ wp frame (wpE (defs₀ (F := F)) Variants.none (c : Thread nD τ) none) Set.univ (Prog.lift (.store m r w Finset.univ hx hm) >>= K) Q) := by
  subst hv
  exact wp_store Variants.none (c : Thread nD τ) none Set.univ (Finset.subset_univ _)

theorem emb_3 (h : ∀ a, (![0, 0] : Fin 2 → ℕ) a + S2048x512.size a ≤ S2048x512.size a) (x : S2048x512.Idx) : (Rect.unit (s := S2048x512) ![0, 0] S2048x512.size h).emb x = x := by
  funext a
  apply Fin.ext
  match a with
  | 0 => show 0 + 1 * (x 0).val = (x 0).val; omega
  | 1 => show 0 + 1 * (x 1).val = (x 1).val; omega

theorem load_3 {α : Type} (c : Dev nD) (h) (hl) (d : Buf (Elt F) ((c : Thread nD τ).loc cc0_scratch3)) (K : Vec F S2048x512 .bf16 → Prog (TpuEff nD τ sig (Elt F) Λ₀ .tc) α) (Q : α → sProp 𝕄) :
    ((c : Thread nD τ).loc cc0_scratch3 ↦{fullShare} d : sProp 𝕄)
      ⊢ iprop((((c : Thread nD τ).loc cc0_scratch3 ↦{fullShare} d) -∗ wp frame (wpE (defs₀ (F := F)) Variants.none (c : Thread nD τ) none) Set.univ (K d) Q)
        -∗ wp frame (wpE (defs₀ (F := F)) Variants.none (c : Thread nD τ) none) Set.univ (Prog.lift (.load (Memref.whole cc0_scratch3) (Rect.unit (s := S2048x512) ![0, 0] S2048x512.size h).toLoadRect hl) >>= K) Q) := by
  have e : ((Memref.whole cc0_scratch3).access (Rect.unit (s := S2048x512) ![0, 0] S2048x512.size h)).read (Elt F) d = d := by
    funext x; exact congrArg d (emb_3 h x)
  exact load_gen c (Memref.whole cc0_scratch3) (Rect.unit (s := S2048x512) ![0, 0] S2048x512.size h) hl Finset.univ fullShare d d e (Finset.subset_univ _) K Q

theorem store_3 {α : Type} (c : Dev nD) (h) (hx) (hm) (w : Vec F S2048x512 .bf16) (d : Buf (Elt F) ((c : Thread nD τ).loc cc0_scratch3)) (K : PUnit → Prog (TpuEff nD τ sig (Elt F) Λ₀ .tc) α) (Q : α → sProp 𝕄) :
    ((c : Thread nD τ).loc cc0_scratch3 ↦{fullShare} d : sProp 𝕄)
      ⊢ iprop((((c : Thread nD τ).loc cc0_scratch3 ↦{fullShare} (w : Buf (Elt F) ((c : Thread nD τ).loc cc0_scratch3))) -∗ wp frame (wpE (defs₀ (F := F)) Variants.none (c : Thread nD τ) none) Set.univ (K ⟨⟩) Q)
        -∗ wp frame (wpE (defs₀ (F := F)) Variants.none (c : Thread nD τ) none) Set.univ (Prog.lift (.store (Memref.whole cc0_scratch3) (Rect.unit (s := S2048x512) ![0, 0] S2048x512.size h) w Finset.univ hx hm) >>= K) Q) := by
  have e : ((Memref.whole cc0_scratch3).access (Rect.unit (s := S2048x512) ![0, 0] S2048x512.size h)).write (Elt F) d w Finset.univ = w := by
    funext x
    have := View.write_emb_of_mem (v := (Memref.whole cc0_scratch3).access (Rect.unit (s := S2048x512) ![0, 0] S2048x512.size h)) (Val := Elt F) d w (M := Finset.univ) (x := x) (Finset.mem_univ _)
    rw [show ((Memref.whole cc0_scratch3).access (Rect.unit (s := S2048x512) ![0, 0] S2048x512.size h)).emb x = x from emb_3 h x] at this
    exact this
  exact store_gen c (Memref.whole cc0_scratch3) (Rect.unit (s := S2048x512) ![0, 0] S2048x512.size h) w hx hm d w e K Q

theorem emb_4 (h : ∀ a, (![0, 0] : Fin 2 → ℕ) a + S2048x512.size a ≤ S2048x512.size a) (x : S2048x512.Idx) : (Rect.unit (s := S2048x512) ![0, 0] S2048x512.size h).emb x = x := by
  funext a
  apply Fin.ext
  match a with
  | 0 => show 0 + 1 * (x 0).val = (x 0).val; omega
  | 1 => show 0 + 1 * (x 1).val = (x 1).val; omega

theorem load_4 {α : Type} (c : Dev nD) (h) (hl) (d : Buf (Elt F) ((c : Thread nD τ).loc cc0_scratch4)) (K : Vec F S2048x512 .bf16 → Prog (TpuEff nD τ sig (Elt F) Λ₀ .tc) α) (Q : α → sProp 𝕄) :
    ((c : Thread nD τ).loc cc0_scratch4 ↦{fullShare} d : sProp 𝕄)
      ⊢ iprop((((c : Thread nD τ).loc cc0_scratch4 ↦{fullShare} d) -∗ wp frame (wpE (defs₀ (F := F)) Variants.none (c : Thread nD τ) none) Set.univ (K d) Q)
        -∗ wp frame (wpE (defs₀ (F := F)) Variants.none (c : Thread nD τ) none) Set.univ (Prog.lift (.load (Memref.whole cc0_scratch4) (Rect.unit (s := S2048x512) ![0, 0] S2048x512.size h).toLoadRect hl) >>= K) Q) := by
  have e : ((Memref.whole cc0_scratch4).access (Rect.unit (s := S2048x512) ![0, 0] S2048x512.size h)).read (Elt F) d = d := by
    funext x; exact congrArg d (emb_4 h x)
  exact load_gen c (Memref.whole cc0_scratch4) (Rect.unit (s := S2048x512) ![0, 0] S2048x512.size h) hl Finset.univ fullShare d d e (Finset.subset_univ _) K Q

theorem store_4 {α : Type} (c : Dev nD) (h) (hx) (hm) (w : Vec F S2048x512 .bf16) (d : Buf (Elt F) ((c : Thread nD τ).loc cc0_scratch4)) (K : PUnit → Prog (TpuEff nD τ sig (Elt F) Λ₀ .tc) α) (Q : α → sProp 𝕄) :
    ((c : Thread nD τ).loc cc0_scratch4 ↦{fullShare} d : sProp 𝕄)
      ⊢ iprop((((c : Thread nD τ).loc cc0_scratch4 ↦{fullShare} (w : Buf (Elt F) ((c : Thread nD τ).loc cc0_scratch4))) -∗ wp frame (wpE (defs₀ (F := F)) Variants.none (c : Thread nD τ) none) Set.univ (K ⟨⟩) Q)
        -∗ wp frame (wpE (defs₀ (F := F)) Variants.none (c : Thread nD τ) none) Set.univ (Prog.lift (.store (Memref.whole cc0_scratch4) (Rect.unit (s := S2048x512) ![0, 0] S2048x512.size h) w Finset.univ hx hm) >>= K) Q) := by
  have e : ((Memref.whole cc0_scratch4).access (Rect.unit (s := S2048x512) ![0, 0] S2048x512.size h)).write (Elt F) d w Finset.univ = w := by
    funext x
    have := View.write_emb_of_mem (v := (Memref.whole cc0_scratch4).access (Rect.unit (s := S2048x512) ![0, 0] S2048x512.size h)) (Val := Elt F) d w (M := Finset.univ) (x := x) (Finset.mem_univ _)
    rw [show ((Memref.whole cc0_scratch4).access (Rect.unit (s := S2048x512) ![0, 0] S2048x512.size h)).emb x = x from emb_4 h x] at this
    exact this
  exact store_gen c (Memref.whole cc0_scratch4) (Rect.unit (s := S2048x512) ![0, 0] S2048x512.size h) w hx hm d w e K Q

theorem emb_5 (h : ∀ a, (![0, 0] : Fin 2 → ℕ) a + S512x2048.size a ≤ S512x2048.size a) (x : S512x2048.Idx) : (Rect.unit (s := S512x2048) ![0, 0] S512x2048.size h).emb x = x := by
  funext a
  apply Fin.ext
  match a with
  | 0 => show 0 + 1 * (x 0).val = (x 0).val; omega
  | 1 => show 0 + 1 * (x 1).val = (x 1).val; omega

theorem load_5 {α : Type} (c : Dev nD) (h) (hl) (d : Buf (Elt F) ((c : Thread nD τ).loc cc0_scratch5)) (K : Vec F S512x2048 .bf16 → Prog (TpuEff nD τ sig (Elt F) Λ₀ .tc) α) (Q : α → sProp 𝕄) :
    ((c : Thread nD τ).loc cc0_scratch5 ↦{fullShare} d : sProp 𝕄)
      ⊢ iprop((((c : Thread nD τ).loc cc0_scratch5 ↦{fullShare} d) -∗ wp frame (wpE (defs₀ (F := F)) Variants.none (c : Thread nD τ) none) Set.univ (K d) Q)
        -∗ wp frame (wpE (defs₀ (F := F)) Variants.none (c : Thread nD τ) none) Set.univ (Prog.lift (.load (Memref.whole cc0_scratch5) (Rect.unit (s := S512x2048) ![0, 0] S512x2048.size h).toLoadRect hl) >>= K) Q) := by
  have e : ((Memref.whole cc0_scratch5).access (Rect.unit (s := S512x2048) ![0, 0] S512x2048.size h)).read (Elt F) d = d := by
    funext x; exact congrArg d (emb_5 h x)
  exact load_gen c (Memref.whole cc0_scratch5) (Rect.unit (s := S512x2048) ![0, 0] S512x2048.size h) hl Finset.univ fullShare d d e (Finset.subset_univ _) K Q

theorem store_5 {α : Type} (c : Dev nD) (h) (hx) (hm) (w : Vec F S512x2048 .bf16) (d : Buf (Elt F) ((c : Thread nD τ).loc cc0_scratch5)) (K : PUnit → Prog (TpuEff nD τ sig (Elt F) Λ₀ .tc) α) (Q : α → sProp 𝕄) :
    ((c : Thread nD τ).loc cc0_scratch5 ↦{fullShare} d : sProp 𝕄)
      ⊢ iprop((((c : Thread nD τ).loc cc0_scratch5 ↦{fullShare} (w : Buf (Elt F) ((c : Thread nD τ).loc cc0_scratch5))) -∗ wp frame (wpE (defs₀ (F := F)) Variants.none (c : Thread nD τ) none) Set.univ (K ⟨⟩) Q)
        -∗ wp frame (wpE (defs₀ (F := F)) Variants.none (c : Thread nD τ) none) Set.univ (Prog.lift (.store (Memref.whole cc0_scratch5) (Rect.unit (s := S512x2048) ![0, 0] S512x2048.size h) w Finset.univ hx hm) >>= K) Q) := by
  have e : ((Memref.whole cc0_scratch5).access (Rect.unit (s := S512x2048) ![0, 0] S512x2048.size h)).write (Elt F) d w Finset.univ = w := by
    funext x
    have := View.write_emb_of_mem (v := (Memref.whole cc0_scratch5).access (Rect.unit (s := S512x2048) ![0, 0] S512x2048.size h)) (Val := Elt F) d w (M := Finset.univ) (x := x) (Finset.mem_univ _)
    rw [show ((Memref.whole cc0_scratch5).access (Rect.unit (s := S512x2048) ![0, 0] S512x2048.size h)).emb x = x from emb_5 h x] at this
    exact this
  exact store_gen c (Memref.whole cc0_scratch5) (Rect.unit (s := S512x2048) ![0, 0] S512x2048.size h) w hx hm d w e K Q

end Cert.Kernel2Ideal.Hand

end
-- ==== Proof.ExpertsBody.lean ====
/- The experts kernel's products: a visit of rows multiplies the tile's block by the expert's three rounded weights and
   stores its rows of the result, over zeros at a tile's first visit and over what is there at a later one. -/
module

public import proofs.«01_k».proof.Proof.ExpertsStep
public import proofs.«01_k».proof.Proof.ExpertsBlock

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (tb : Fin 9 → Tbl F) (c : Dev nD)
  (gG : Buf (Elt F) ((c : Thread nD τ).loc main_arg11)) (gU : Buf (Elt F) ((c : Thread nD τ).loc main_arg12)) (gD : Buf (Elt F) ((c : Thread nD τ).loc main_arg13))
  (X : Memref sig .tc .vmem S4352x128 .f32) (hX : X.IsWhole) (O : Memref sig .tc .vmem S4352x128 .f32) (hO : O.IsWhole)

theorem tables_out : tables tb c ⊢ (iprop(((c : Thread nD τ).loc main_arg0 ↦{fullShare.right} tVt tb) ∗ ((c : Thread nD τ).loc main_arg1 ↦{fullShare.right} tVe tb) ∗ ((c : Thread nD τ).loc main_arg2 ↦{fullShare.right} tLo tb) ∗ ((c : Thread nD τ).loc main_arg3 ↦{fullShare.right} tHi tb) ∗ ((c : Thread nD τ).loc main_arg4 ↦{fullShare.right} tFirst tb) ∗ ((c : Thread nD τ).loc main_arg5 ↦{fullShare.right} tValid tb) ∗ ((c : Thread nD τ).loc main_arg6 ↦{fullShare.right} tNew tb) ∗ ((c : Thread nD τ).loc main_arg7 ↦{fullShare.right} tNext tb) ∗ ((c : Thread nD τ).loc main_arg8 ↦{fullShare.right} tSlot tb)) : sProp 𝕄) := by
  unfold tables; exact .rfl

/-- Chunk `k` replaced by a function of what it was. -/
def modC (k : ℕ) (hk : k < 17) (p : Vec F S256x128 .f32 → Vec F S256x128 .f32) (d : Vec F S4352x128 .f32) : Vec F S4352x128 .f32 := putC k (p (getC k hk d)) d

theorem part2_wp (i : grid0.Coords) (y : FVec F S256x2048 .f32) (m : IVec S256x1 1) (d : Vec F S4352x128 .f32) :
    (owns (c : Thread nD τ) O fullShare d : sProp 𝕄)
      ⊢ wp frame (wpE (defs₀ (F := F)) Variants.none (c : Thread nD τ) none) Set.univ (k0_part2 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y m) (fun _ => owns (c : Thread nD τ) O fullShare (putC 5 (k0_pay18 y m) (putC 4 (k0_pay17 y m) (putC 3 (k0_pay16 y m) (putC 2 (k0_pay15 y m) (putC 1 (k0_pay14 y m) (putC 0 (k0_pay13 y m) d))))))) := by
  rw [k0_part2_eq_skeleton]
  unfold k0_part2_skel
  iintro H
  iapply (load_chunk c O 0 (by decide) _ _ _ _ _) $$ H
  iintro H
  iapply (store_chunk c O 0 (by decide) _ _ _ _ _ _ _ _) $$ H
  iintro H
  iapply (load_chunk c O 1 (by decide) _ _ _ _ _) $$ H
  iintro H
  iapply (store_chunk c O 1 (by decide) _ _ _ _ _ _ _ _) $$ H
  iintro H
  iapply (load_chunk c O 2 (by decide) _ _ _ _ _) $$ H
  iintro H
  iapply (store_chunk c O 2 (by decide) _ _ _ _ _ _ _ _) $$ H
  iintro H
  iapply (load_chunk c O 3 (by decide) _ _ _ _ _) $$ H
  iintro H
  iapply (store_chunk c O 3 (by decide) _ _ _ _ _ _ _ _) $$ H
  iintro H
  iapply (load_chunk c O 4 (by decide) _ _ _ _ _) $$ H
  iintro H
  iapply (store_chunk c O 4 (by decide) _ _ _ _ _ _ _ _) $$ H
  iintro H
  iapply (load_chunk c O 5 (by decide) _ _ _ _ _) $$ H
  iintro H
  iapply (store_chunk c O 5 (by decide) _ _ _ _ _ _ _ _) $$ H
  iintro H
  iapply le_wp_ret
  iexact H

theorem part3_wp (i : grid0.Coords) (y : FVec F S256x2048 .f32) (m : IVec S256x1 1) (d : Vec F S4352x128 .f32) :
    (owns (c : Thread nD τ) O fullShare d : sProp 𝕄)
      ⊢ wp frame (wpE (defs₀ (F := F)) Variants.none (c : Thread nD τ) none) Set.univ (k0_part3 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y m) (fun _ => owns (c : Thread nD τ) O fullShare (putC 11 (k0_pay24 y m) (putC 10 (k0_pay23 y m) (putC 9 (k0_pay22 y m) (putC 8 (k0_pay21 y m) (putC 7 (k0_pay20 y m) (putC 6 (k0_pay19 y m) d))))))) := by
  rw [k0_part3_eq_skeleton]
  unfold k0_part3_skel
  iintro H
  iapply (load_chunk c O 6 (by decide) _ _ _ _ _) $$ H
  iintro H
  iapply (store_chunk c O 6 (by decide) _ _ _ _ _ _ _ _) $$ H
  iintro H
  iapply (load_chunk c O 7 (by decide) _ _ _ _ _) $$ H
  iintro H
  iapply (store_chunk c O 7 (by decide) _ _ _ _ _ _ _ _) $$ H
  iintro H
  iapply (load_chunk c O 8 (by decide) _ _ _ _ _) $$ H
  iintro H
  iapply (store_chunk c O 8 (by decide) _ _ _ _ _ _ _ _) $$ H
  iintro H
  iapply (load_chunk c O 9 (by decide) _ _ _ _ _) $$ H
  iintro H
  iapply (store_chunk c O 9 (by decide) _ _ _ _ _ _ _ _) $$ H
  iintro H
  iapply (load_chunk c O 10 (by decide) _ _ _ _ _) $$ H
  iintro H
  iapply (store_chunk c O 10 (by decide) _ _ _ _ _ _ _ _) $$ H
  iintro H
  iapply (load_chunk c O 11 (by decide) _ _ _ _ _) $$ H
  iintro H
  iapply (store_chunk c O 11 (by decide) _ _ _ _ _ _ _ _) $$ H
  iintro H
  iapply le_wp_ret
  iexact H

theorem part4_wp (i : grid0.Coords) (y : FVec F S256x2048 .f32) (m : IVec S256x1 1) (d : Vec F S4352x128 .f32) :
    (owns (c : Thread nD τ) O fullShare d : sProp 𝕄)
      ⊢ wp frame (wpE (defs₀ (F := F)) Variants.none (c : Thread nD τ) none) Set.univ (k0_part4 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y m) (fun _ => owns (c : Thread nD τ) O fullShare (modC 4 (by decide) (k0_pay29 y m) (modC 3 (by decide) (k0_pay28 y m) (modC 2 (by decide) (k0_pay27 y m) (modC 1 (by decide) (k0_pay26 y m) (modC 0 (by decide) (k0_pay25 y m) d)))))) := by
  rw [k0_part4_eq_skeleton]
  unfold k0_part4_skel
  iintro H
  iapply (load_chunk c O 0 (by decide) _ _ _ _ _) $$ H
  iintro H
  iapply (load_chunk c O 0 (by decide) _ _ _ _ _) $$ H
  iintro H
  iapply (store_chunk c O 0 (by decide) _ _ _ _ _ _ _ _) $$ H
  iintro H
  iapply (load_chunk c O 1 (by decide) _ _ _ _ _) $$ H
  iintro H
  iapply (load_chunk c O 1 (by decide) _ _ _ _ _) $$ H
  iintro H
  iapply (store_chunk c O 1 (by decide) _ _ _ _ _ _ _ _) $$ H
  iintro H
  iapply (load_chunk c O 2 (by decide) _ _ _ _ _) $$ H
  iintro H
  iapply (load_chunk c O 2 (by decide) _ _ _ _ _) $$ H
  iintro H
  iapply (store_chunk c O 2 (by decide) _ _ _ _ _ _ _ _) $$ H
  iintro H
  iapply (load_chunk c O 3 (by decide) _ _ _ _ _) $$ H
  iintro H
  iapply (load_chunk c O 3 (by decide) _ _ _ _ _) $$ H
  iintro H
  iapply (store_chunk c O 3 (by decide) _ _ _ _ _ _ _ _) $$ H
  iintro H
  iapply (load_chunk c O 4 (by decide) _ _ _ _ _) $$ H
  iintro H
  iapply (load_chunk c O 4 (by decide) _ _ _ _ _) $$ H
  iintro H
  iapply (store_chunk c O 4 (by decide) _ _ _ _ _ _ _ _) $$ H
  iintro H
  iapply le_wp_ret
  iexact H

theorem part5_wp (i : grid0.Coords) (y : FVec F S256x2048 .f32) (m : IVec S256x1 1) (d : Vec F S4352x128 .f32) :
    (owns (c : Thread nD τ) O fullShare d : sProp 𝕄)
      ⊢ wp frame (wpE (defs₀ (F := F)) Variants.none (c : Thread nD τ) none) Set.univ (k0_part5 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y m) (fun _ => owns (c : Thread nD τ) O fullShare (modC 9 (by decide) (k0_pay34 y m) (modC 8 (by decide) (k0_pay33 y m) (modC 7 (by decide) (k0_pay32 y m) (modC 6 (by decide) (k0_pay31 y m) (modC 5 (by decide) (k0_pay30 y m) d)))))) := by
  rw [k0_part5_eq_skeleton]
  unfold k0_part5_skel
  iintro H
  iapply (load_chunk c O 5 (by decide) _ _ _ _ _) $$ H
  iintro H
  iapply (load_chunk c O 5 (by decide) _ _ _ _ _) $$ H
  iintro H
  iapply (store_chunk c O 5 (by decide) _ _ _ _ _ _ _ _) $$ H
  iintro H
  iapply (load_chunk c O 6 (by decide) _ _ _ _ _) $$ H
  iintro H
  iapply (load_chunk c O 6 (by decide) _ _ _ _ _) $$ H
  iintro H
  iapply (store_chunk c O 6 (by decide) _ _ _ _ _ _ _ _) $$ H
  iintro H
  iapply (load_chunk c O 7 (by decide) _ _ _ _ _) $$ H
  iintro H
  iapply (load_chunk c O 7 (by decide) _ _ _ _ _) $$ H
  iintro H
  iapply (store_chunk c O 7 (by decide) _ _ _ _ _ _ _ _) $$ H
  iintro H
  iapply (load_chunk c O 8 (by decide) _ _ _ _ _) $$ H
  iintro H
  iapply (load_chunk c O 8 (by decide) _ _ _ _ _) $$ H
  iintro H
  iapply (store_chunk c O 8 (by decide) _ _ _ _ _ _ _ _) $$ H
  iintro H
  iapply (load_chunk c O 9 (by decide) _ _ _ _ _) $$ H
  iintro H
  iapply (load_chunk c O 9 (by decide) _ _ _ _ _) $$ H
  iintro H
  iapply (store_chunk c O 9 (by decide) _ _ _ _ _ _ _ _) $$ H
  iintro H
  iapply le_wp_ret
  iexact H

theorem part6_wp (i : grid0.Coords) (y : FVec F S256x2048 .f32) (m : IVec S256x1 1) (d : Vec F S4352x128 .f32) :
    (owns (c : Thread nD τ) O fullShare d : sProp 𝕄)
      ⊢ wp frame (wpE (defs₀ (F := F)) Variants.none (c : Thread nD τ) none) Set.univ (k0_part6 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y m) (fun _ => owns (c : Thread nD τ) O fullShare (modC 14 (by decide) (k0_pay39 y m) (modC 13 (by decide) (k0_pay38 y m) (modC 12 (by decide) (k0_pay37 y m) (modC 11 (by decide) (k0_pay36 y m) (modC 10 (by decide) (k0_pay35 y m) d)))))) := by
  rw [k0_part6_eq_skeleton]
  unfold k0_part6_skel
  iintro H
  iapply (load_chunk c O 10 (by decide) _ _ _ _ _) $$ H
  iintro H
  iapply (load_chunk c O 10 (by decide) _ _ _ _ _) $$ H
  iintro H
  iapply (store_chunk c O 10 (by decide) _ _ _ _ _ _ _ _) $$ H
  iintro H
  iapply (load_chunk c O 11 (by decide) _ _ _ _ _) $$ H
  iintro H
  iapply (load_chunk c O 11 (by decide) _ _ _ _ _) $$ H
  iintro H
  iapply (store_chunk c O 11 (by decide) _ _ _ _ _ _ _ _) $$ H
  iintro H
  iapply (load_chunk c O 12 (by decide) _ _ _ _ _) $$ H
  iintro H
  iapply (load_chunk c O 12 (by decide) _ _ _ _ _) $$ H
  iintro H
  iapply (store_chunk c O 12 (by decide) _ _ _ _ _ _ _ _) $$ H
  iintro H
  iapply (load_chunk c O 13 (by decide) _ _ _ _ _) $$ H
  iintro H
  iapply (load_chunk c O 13 (by decide) _ _ _ _ _) $$ H
  iintro H
  iapply (store_chunk c O 13 (by decide) _ _ _ _ _ _ _ _) $$ H
  iintro H
  iapply (load_chunk c O 14 (by decide) _ _ _ _ _) $$ H
  iintro H
  iapply (load_chunk c O 14 (by decide) _ _ _ _ _) $$ H
  iintro H
  iapply (store_chunk c O 14 (by decide) _ _ _ _ _ _ _ _) $$ H
  iintro H
  iapply le_wp_ret
  iexact H

/-- The tile's block read chunk by chunk. -/
abbrev Chunks (F : FTy → Type) := Σ' (v11 : FVec F S256x128 .f32) (v13 : FVec F S256x128 .f32) (v15 : FVec F S256x128 .f32) (v17 : FVec F S256x128 .f32) (v19 : FVec F S256x128 .f32) (v21 : FVec F S256x128 .f32) (v23 : FVec F S256x128 .f32) (v25 : FVec F S256x128 .f32) (v27 : FVec F S256x128 .f32) (v29 : FVec F S256x128 .f32) (v31 : FVec F S256x128 .f32) (v33 : FVec F S256x128 .f32) (v35 : FVec F S256x128 .f32) (v37 : FVec F S256x128 .f32), FVec F S256x128 .f32

def readAll (d : Vec F S4352x128 .f32) : Chunks F := ⟨k0_pay40 (getC 0 (by decide) d), k0_pay41 (getC 1 (by decide) d), k0_pay42 (getC 2 (by decide) d), k0_pay43 (getC 3 (by decide) d), k0_pay44 (getC 4 (by decide) d), k0_pay45 (getC 5 (by decide) d), k0_pay46 (getC 6 (by decide) d), k0_pay47 (getC 7 (by decide) d), k0_pay48 (getC 8 (by decide) d), k0_pay49 (getC 9 (by decide) d), k0_pay50 (getC 10 (by decide) d), k0_pay51 (getC 11 (by decide) d), k0_pay52 (getC 12 (by decide) d), k0_pay53 (getC 13 (by decide) d), k0_pay54 (getC 14 (by decide) d)⟩

theorem part7_wp (i : grid0.Coords) (d : Vec F S4352x128 .f32) :
    (owns (c : Thread nD τ) X fullShare d : sProp 𝕄)
      ⊢ wp frame (wpE (defs₀ (F := F)) Variants.none (c : Thread nD τ) none) Set.univ (k0_part7 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6) (fun r => iprop(⌜r = readAll d⌝ ∗ owns (c : Thread nD τ) X fullShare d)) := by
  rw [k0_part7_eq_skeleton]
  unfold k0_part7_skel
  iintro H
  iapply (load_chunk c X 0 (by decide) _ _ _ _ _) $$ H
  iintro H
  iapply (load_chunk c X 1 (by decide) _ _ _ _ _) $$ H
  iintro H
  iapply (load_chunk c X 2 (by decide) _ _ _ _ _) $$ H
  iintro H
  iapply (load_chunk c X 3 (by decide) _ _ _ _ _) $$ H
  iintro H
  iapply (load_chunk c X 4 (by decide) _ _ _ _ _) $$ H
  iintro H
  iapply (load_chunk c X 5 (by decide) _ _ _ _ _) $$ H
  iintro H
  iapply (load_chunk c X 6 (by decide) _ _ _ _ _) $$ H
  iintro H
  iapply (load_chunk c X 7 (by decide) _ _ _ _ _) $$ H
  iintro H
  iapply (load_chunk c X 8 (by decide) _ _ _ _ _) $$ H
  iintro H
  iapply (load_chunk c X 9 (by decide) _ _ _ _ _) $$ H
  iintro H
  iapply (load_chunk c X 10 (by decide) _ _ _ _ _) $$ H
  iintro H
  iapply (load_chunk c X 11 (by decide) _ _ _ _ _) $$ H
  iintro H
  iapply (load_chunk c X 12 (by decide) _ _ _ _ _) $$ H
  iintro H
  iapply (load_chunk c X 13 (by decide) _ _ _ _ _) $$ H
  iintro H
  iapply (load_chunk c X 14 (by decide) _ _ _ _ _) $$ H
  iintro H
  iapply le_wp_ret
  isplitr; · ipureintro; rfl
  iexact H

/-- The tile's rows, sixteen chunks side by side. -/
def rowsOf (d : Vec F S4352x128 .f32) : FVec F S256x2048 .f32 :=
  k0_pay4 (k0_pay40 (getC 0 (by decide) d)) (k0_pay41 (getC 1 (by decide) d)) (k0_pay42 (getC 2 (by decide) d)) (k0_pay43 (getC 3 (by decide) d)) (k0_pay44 (getC 4 (by decide) d)) (k0_pay45 (getC 5 (by decide) d)) (k0_pay46 (getC 6 (by decide) d)) (k0_pay47 (getC 7 (by decide) d)) (k0_pay48 (getC 8 (by decide) d)) (k0_pay49 (getC 9 (by decide) d)) (k0_pay50 (getC 10 (by decide) d)) (k0_pay51 (getC 11 (by decide) d)) (k0_pay52 (getC 12 (by decide) d)) (k0_pay53 (getC 13 (by decide) d)) (k0_pay54 (getC 14 (by decide) d)) (getC 15 (by decide) d)

/-- A tile's first visit. -/
def firstC (y : FVec F S256x2048 .f32) (lo hi : BitVec 32) (d : Vec F S4352x128 .f32) : Vec F S4352x128 .f32 :=
  (putC 16 (k0_pay11 (F := F)) (putC 15 (k0_pay10 y lo hi) (putC 14 (k0_pay9 y lo hi) (putC 13 (k0_pay8 y lo hi) (putC 12 (k0_pay7 y lo hi) (putC 11 (k0_pay24 y (k0_pay6 (F := F) lo hi)) (putC 10 (k0_pay23 y (k0_pay6 (F := F) lo hi)) (putC 9 (k0_pay22 y (k0_pay6 (F := F) lo hi)) (putC 8 (k0_pay21 y (k0_pay6 (F := F) lo hi)) (putC 7 (k0_pay20 y (k0_pay6 (F := F) lo hi)) (putC 6 (k0_pay19 y (k0_pay6 (F := F) lo hi)) (putC 5 (k0_pay18 y (k0_pay6 (F := F) lo hi)) (putC 4 (k0_pay17 y (k0_pay6 (F := F) lo hi)) (putC 3 (k0_pay16 y (k0_pay6 (F := F) lo hi)) (putC 2 (k0_pay15 y (k0_pay6 (F := F) lo hi)) (putC 1 (k0_pay14 y (k0_pay6 (F := F) lo hi)) (putC 0 (k0_pay13 y (k0_pay6 (F := F) lo hi)) d)))))))))))))))))

/-- A later visit. -/
def moreC (y : FVec F S256x2048 .f32) (lo hi : BitVec 32) (d : Vec F S4352x128 .f32) : Vec F S4352x128 .f32 :=
  (modC 15 (by decide) (k0_pay12 y lo hi) (modC 14 (by decide) (k0_pay39 y (k0_pay6 (F := F) lo hi)) (modC 13 (by decide) (k0_pay38 y (k0_pay6 (F := F) lo hi)) (modC 12 (by decide) (k0_pay37 y (k0_pay6 (F := F) lo hi)) (modC 11 (by decide) (k0_pay36 y (k0_pay6 (F := F) lo hi)) (modC 10 (by decide) (k0_pay35 y (k0_pay6 (F := F) lo hi)) (modC 9 (by decide) (k0_pay34 y (k0_pay6 (F := F) lo hi)) (modC 8 (by decide) (k0_pay33 y (k0_pay6 (F := F) lo hi)) (modC 7 (by decide) (k0_pay32 y (k0_pay6 (F := F) lo hi)) (modC 6 (by decide) (k0_pay31 y (k0_pay6 (F := F) lo hi)) (modC 5 (by decide) (k0_pay30 y (k0_pay6 (F := F) lo hi)) (modC 4 (by decide) (k0_pay29 y (k0_pay6 (F := F) lo hi)) (modC 3 (by decide) (k0_pay28 y (k0_pay6 (F := F) lo hi)) (modC 2 (by decide) (k0_pay27 y (k0_pay6 (F := F) lo hi)) (modC 1 (by decide) (k0_pay26 y (k0_pay6 (F := F) lo hi)) (modC 0 (by decide) (k0_pay25 y (k0_pay6 (F := F) lo hi)) d))))))))))))))))

/-- The stores of a tile's first visit. -/
def firstProg (i : grid0.Coords) (y : FVec F S256x2048 .f32) (lo hi : Elt F .i32) : Prog (TpuEff nD τ sig (Elt F) Λ₀ .tc) PUnit := do
  k0_part2 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y (k0_pay6 (F := F) lo hi)
  k0_part3 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y (k0_pay6 (F := F) lo hi)
  let _ ← Prog.lift (.load O (⟨![12, 0], S256x128.size, ![17, 1], inb_S4352x128_S256x128_12_0_s_17_1⟩ : LoadRect S4352x128) (View.loadsAt_vmem h_S256x128))
  Prog.lift (.store O ⟨(⟨![12, 0], S256x128.size, ![17, 1], inb_S4352x128_S256x128_12_0_s_17_1⟩ : LoadRect S4352x128), spos_17_1⟩ (k0_pay7 y lo hi) Finset.univ (View.stores_vmem_bits_univ h_S256x128 rfl) (.inl rfl))
  let _ ← Prog.lift (.load O (⟨![13, 0], S256x128.size, ![17, 1], inb_S4352x128_S256x128_13_0_s_17_1⟩ : LoadRect S4352x128) (View.loadsAt_vmem h_S256x128))
  Prog.lift (.store O ⟨(⟨![13, 0], S256x128.size, ![17, 1], inb_S4352x128_S256x128_13_0_s_17_1⟩ : LoadRect S4352x128), spos_17_1⟩ (k0_pay8 y lo hi) Finset.univ (View.stores_vmem_bits_univ h_S256x128 rfl) (.inl rfl))
  let _ ← Prog.lift (.load O (⟨![14, 0], S256x128.size, ![17, 1], inb_S4352x128_S256x128_14_0_s_17_1⟩ : LoadRect S4352x128) (View.loadsAt_vmem h_S256x128))
  Prog.lift (.store O ⟨(⟨![14, 0], S256x128.size, ![17, 1], inb_S4352x128_S256x128_14_0_s_17_1⟩ : LoadRect S4352x128), spos_17_1⟩ (k0_pay9 y lo hi) Finset.univ (View.stores_vmem_bits_univ h_S256x128 rfl) (.inl rfl))
  let _ ← Prog.lift (.load O (⟨![15, 0], S256x128.size, ![17, 1], inb_S4352x128_S256x128_15_0_s_17_1⟩ : LoadRect S4352x128) (View.loadsAt_vmem h_S256x128))
  Prog.lift (.store O ⟨(⟨![15, 0], S256x128.size, ![17, 1], inb_S4352x128_S256x128_15_0_s_17_1⟩ : LoadRect S4352x128), spos_17_1⟩ (k0_pay10 y lo hi) Finset.univ (View.stores_vmem_bits_univ h_S256x128 rfl) (.inl rfl))
  let _ ← Prog.lift (.load O (⟨![16, 0], S256x128.size, ![17, 1], inb_S4352x128_S256x128_16_0_s_17_1⟩ : LoadRect S4352x128) (View.loadsAt_vmem h_S256x128))
  Prog.lift (.store O ⟨(⟨![16, 0], S256x128.size, ![17, 1], inb_S4352x128_S256x128_16_0_s_17_1⟩ : LoadRect S4352x128), spos_17_1⟩ (k0_pay11 (F := F)) Finset.univ (View.stores_vmem_bits_univ h_S256x128 rfl) (.inl rfl))
  pure ⟨⟩

theorem firstProg_wp (i : grid0.Coords) (y : FVec F S256x2048 .f32) (lo hi : Elt F .i32) (d : Vec F S4352x128 .f32) :
    (owns (c : Thread nD τ) O fullShare d : sProp 𝕄) ⊢ wp frame (wpE (defs₀ (F := F)) Variants.none (c : Thread nD τ) none) Set.univ (firstProg X hX O hO i y lo hi) (fun _ => owns (c : Thread nD τ) O fullShare (firstC y lo hi d)) := by
  unfold firstProg
  iintro H
  ihave H := (part2_wp c X hX O hO i y (k0_pay6 (F := F) lo hi) d) $$ H
  iapply (seq_wp c _ _ _ _) $$ H
  iintro %_ H
  ihave H := (part3_wp c X hX O hO i y (k0_pay6 (F := F) lo hi) _) $$ H
  iapply (seq_wp c _ _ _ _) $$ H
  iintro %_ H
  iapply (load_chunk c O 12 (by decide) _ _ _ _ _) $$ H
  iintro H
  iapply (store_chunk c O 12 (by decide) _ _ _ _ _ _ _ _) $$ H
  iintro H
  iapply (load_chunk c O 13 (by decide) _ _ _ _ _) $$ H
  iintro H
  iapply (store_chunk c O 13 (by decide) _ _ _ _ _ _ _ _) $$ H
  iintro H
  iapply (load_chunk c O 14 (by decide) _ _ _ _ _) $$ H
  iintro H
  iapply (store_chunk c O 14 (by decide) _ _ _ _ _ _ _ _) $$ H
  iintro H
  iapply (load_chunk c O 15 (by decide) _ _ _ _ _) $$ H
  iintro H
  iapply (store_chunk c O 15 (by decide) _ _ _ _ _ _ _ _) $$ H
  iintro H
  iapply (load_chunk c O 16 (by decide) _ _ _ _ _) $$ H
  iintro H
  iapply (store_chunk c O 16 (by decide) _ _ _ _ _ _ _ _) $$ H
  iintro H
  iapply le_wp_ret
  iexact H

/-- The stores of a later visit. -/
def moreProg (i : grid0.Coords) (y : FVec F S256x2048 .f32) (lo hi : Elt F .i32) : Prog (TpuEff nD τ sig (Elt F) Λ₀ .tc) PUnit := do
  k0_part4 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y (k0_pay6 (F := F) lo hi)
  k0_part5 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y (k0_pay6 (F := F) lo hi)
  k0_part6 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 y (k0_pay6 (F := F) lo hi)
  let v ← Prog.lift (.load O (⟨![15, 0], S256x128.size, ![17, 1], inb_S4352x128_S256x128_15_0_s_17_1⟩ : LoadRect S4352x128) (View.loadsAt_vmem h_S256x128))
  let _ ← Prog.lift (.load O (⟨![15, 0], S256x128.size, ![17, 1], inb_S4352x128_S256x128_15_0_s_17_1⟩ : LoadRect S4352x128) (View.loadsAt_vmem h_S256x128))
  Prog.lift (.store O ⟨(⟨![15, 0], S256x128.size, ![17, 1], inb_S4352x128_S256x128_15_0_s_17_1⟩ : LoadRect S4352x128), spos_17_1⟩ (k0_pay12 y lo hi v) Finset.univ (View.stores_vmem_bits_univ h_S256x128 rfl) (.inl rfl))
  pure ⟨⟩

theorem moreProg_wp (i : grid0.Coords) (y : FVec F S256x2048 .f32) (lo hi : Elt F .i32) (d : Vec F S4352x128 .f32) :
    (owns (c : Thread nD τ) O fullShare d : sProp 𝕄) ⊢ wp frame (wpE (defs₀ (F := F)) Variants.none (c : Thread nD τ) none) Set.univ (moreProg X hX O hO i y lo hi) (fun _ => owns (c : Thread nD τ) O fullShare (moreC y lo hi d)) := by
  unfold moreProg
  iintro H
  ihave H := (part4_wp c X hX O hO i y (k0_pay6 (F := F) lo hi) d) $$ H
  iapply (seq_wp c _ _ _ _) $$ H
  iintro %_ H
  ihave H := (part5_wp c X hX O hO i y (k0_pay6 (F := F) lo hi) _) $$ H
  iapply (seq_wp c _ _ _ _) $$ H
  iintro %_ H
  ihave H := (part6_wp c X hX O hO i y (k0_pay6 (F := F) lo hi) _) $$ H
  iapply (seq_wp c _ _ _ _) $$ H
  iintro %_ H
  iapply (load_chunk c O 15 (by decide) _ _ _ _ _) $$ H
  iintro H
  iapply (load_chunk c O 15 (by decide) _ _ _ _ _) $$ H
  iintro H
  iapply (store_chunk c O 15 (by decide) _ _ _ _ _ _ _ _) $$ H
  iintro H
  iapply le_wp_ret
  iexact H

/-- The later visit's stores where the visit is one. -/
def laterProg (i : grid0.Coords) (y : FVec F S256x2048 .f32) (lo hi : Elt F .i32) : Prog (TpuEff nD τ sig (Elt F) Λ₀ .tc) PUnit :=
  smemLoad (Memref.whole main_arg4) (Rect.unit (s := S160) (k0_off32 i) S1.size (k0_off32_inb i)) numel1_S1 rfl >>= fun v70 =>
  if k0_cond6 v70 = 1#1 then moreProg X hX O hO i y lo hi else pure ⟨⟩

/-- The rows' products and their stores. -/
def rowsProg (i : grid0.Coords) : Prog (TpuEff nD τ sig (Elt F) Λ₀ .tc) PUnit :=
  k0_part7 (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 >>= fun r =>
  Prog.lift (.load X (⟨![15, 0], S256x128.size, ![17, 1], inb_S4352x128_S256x128_15_0_s_17_1⟩ : LoadRect S4352x128) (View.loadsAt_vmem h_S256x128)) >>= fun v40 =>
  Prog.lift (.load (Memref.whole cc0_scratch3) (Rect.unit (s := S2048x512) ![0, 0] S2048x512.size inb_S2048x512_S2048x512_0_0).toLoadRect (View.loadsAt_vmem h_S2048x512)) >>= fun v44 =>
  Prog.lift (.load (Memref.whole cc0_scratch4) (Rect.unit (s := S2048x512) ![0, 0] S2048x512.size inb_S2048x512_S2048x512_0_0).toLoadRect (View.loadsAt_vmem h_S2048x512)) >>= fun v46 =>
  Prog.lift (.load (Memref.whole cc0_scratch5) (Rect.unit (s := S512x2048) ![0, 0] S512x2048.size inb_S512x2048_S512x2048_0_0).toLoadRect (View.loadsAt_vmem h_S512x2048)) >>= fun v52 =>
  smemLoad (Memref.whole main_arg2) (Rect.unit (s := S160) (k0_off31 i) S1.size (k0_off31_inb i)) numel1_S1 rfl >>= fun lo =>
  smemLoad (Memref.whole main_arg3) (Rect.unit (s := S160) (k0_off31 i) S1.size (k0_off31_inb i)) numel1_S1 rfl >>= fun hi =>
  smemLoad (Memref.whole main_arg4) (Rect.unit (s := S160) (k0_off31 i) S1.size (k0_off31_inb i)) numel1_S1 rfl >>= fun v65 =>
  if k0_cond5 v65 = 1#1 then
    (firstProg X hX O hO i (k0_pay5 (k0_pay4 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 v40) v44 v46 v52) lo hi >>= fun _ =>
      laterProg X hX O hO i (k0_pay5 (k0_pay4 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 v40) v44 v46 v52) lo hi)
  else laterProg X hX O hO i (k0_pay5 (k0_pay4 r.1 r.2.1 r.2.2.1 r.2.2.2.1 r.2.2.2.2.1 r.2.2.2.2.2.1 r.2.2.2.2.2.2.1 r.2.2.2.2.2.2.2.1 r.2.2.2.2.2.2.2.2.1 r.2.2.2.2.2.2.2.2.2.1 r.2.2.2.2.2.2.2.2.2.2.1 r.2.2.2.2.2.2.2.2.2.2.2.1 r.2.2.2.2.2.2.2.2.2.2.2.2.1 r.2.2.2.2.2.2.2.2.2.2.2.2.2.1 r.2.2.2.2.2.2.2.2.2.2.2.2.2.2 v40) v44 v46 v52) lo hi

def compProg (i : grid0.Coords) : Prog (TpuEff nD τ sig (Elt F) Λ₀ .tc) PUnit :=
  smemLoad (Memref.whole main_arg5) (Rect.unit (s := S160) (k0_off30 i) S1.size (k0_off30_inb i)) numel1_S1 rfl >>= fun v6 =>
  if k0_cond4 v6 = 1#1 then rowsProg X hX O hO i else pure ⟨⟩

/-- The landed slices rounded into the weights the products read. -/
def castProg (i : grid0.Coords) (v1 : Elt F .i32) (h1 : k0_cond1 v1 = 1#1) (w : Elt F .i32) (hc : k0_chk1 i v1 w) : Prog (TpuEff nD τ sig (Elt F) Λ₀ .tc) PUnit := do
  let v41 ← Prog.lift (.load (Memref.whole cc0_scratch0) (Rect.unit (s := S2x2048x512) (k0_off28 w) S1x2048x512.size (k0_off28_inb i v1 w hc h1)).toLoadRect (View.loadsAt_vmem h_S1x2048x512))
  let _ ← Prog.lift (.load (Memref.whole cc0_scratch3) (Rect.unit (s := S2048x512) ![0, 0] S2048x512.size inb_S2048x512_S2048x512_0_0).toLoadRect (View.loadsAt_vmem h_S2048x512))
  Prog.lift (.store (Memref.whole cc0_scratch3) (Rect.unit (s := S2048x512) ![0, 0] S2048x512.size inb_S2048x512_S2048x512_0_0) (k0_pay1 v41) Finset.univ (View.stores_vmem h_S2048x512 ((Memref.isWhole_whole _).storeExact_slice rfl _ packedbf16_S2048x512_S2048x512_0_0) (fun _ => rfl)) (.inl rfl))
  let v48 ← Prog.lift (.load (Memref.whole cc0_scratch1) (Rect.unit (s := S2x2048x512) (k0_off28 w) S1x2048x512.size (k0_off28_inb i v1 w hc h1)).toLoadRect (View.loadsAt_vmem h_S1x2048x512))
  let _ ← Prog.lift (.load (Memref.whole cc0_scratch4) (Rect.unit (s := S2048x512) ![0, 0] S2048x512.size inb_S2048x512_S2048x512_0_0).toLoadRect (View.loadsAt_vmem h_S2048x512))
  Prog.lift (.store (Memref.whole cc0_scratch4) (Rect.unit (s := S2048x512) ![0, 0] S2048x512.size inb_S2048x512_S2048x512_0_0) (k0_pay2 v48) Finset.univ (View.stores_vmem h_S2048x512 ((Memref.isWhole_whole _).storeExact_slice rfl _ packedbf16_S2048x512_S2048x512_0_0) (fun _ => rfl)) (.inl rfl))
  let v55 ← Prog.lift (.load (Memref.whole cc0_scratch2) (Rect.unit (s := S2x512x2048) (k0_off29 w) S1x512x2048.size (k0_off29_inb i v1 w hc h1)).toLoadRect (View.loadsAt_vmem h_S1x512x2048))
  let _ ← Prog.lift (.load (Memref.whole cc0_scratch5) (Rect.unit (s := S512x2048) ![0, 0] S512x2048.size inb_S512x2048_S512x2048_0_0).toLoadRect (View.loadsAt_vmem h_S512x2048))
  Prog.lift (.store (Memref.whole cc0_scratch5) (Rect.unit (s := S512x2048) ![0, 0] S512x2048.size inb_S512x2048_S512x2048_0_0) (k0_pay3 v55) Finset.univ (View.stores_vmem h_S512x2048 ((Memref.isWhole_whole _).storeExact_slice rfl _ packedbf16_S512x2048_S512x2048_0_0) (fun _ => rfl)) (.inl rfl))
  pure ⟨⟩

/-- The body. -/
def bodyProg (i : grid0.Coords) : Prog (TpuEff nD τ sig (Elt F) Λ₀ .tc) PUnit :=
  smemLoad (Memref.whole main_arg6) (Rect.unit (s := S160) (k0_off1 i) S1.size (k0_off1_inb i)) numel1_S1 rfl >>= fun v1 =>
  if h1 : k0_cond1 v1 = 1#1 then
    (firstStep i v1 h1 >>= fun r => castProg i v1 h1 r.1 r.2 >>= fun _ => compProg X hX O hO i)
  else compProg X hX O hO i

set_option maxRecDepth 65536 in
theorem body_eq (i : grid0.Coords) : cc0_experts (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) X hX (Memref.whole main_arg11) (Memref.isWhole_whole _) (Memref.whole main_arg12) (Memref.isWhole_whole _) (Memref.whole main_arg13) (Memref.isWhole_whole _) O hO (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 = bodyProg X hX O hO i := rfl

theorem castProg_wp (i : grid0.Coords) (v1 : Elt F .i32) (h1 : k0_cond1 v1 = 1#1) (w : BitVec 32) (hc : k0_chk1 i v1 w) (hw : w.toNat < 2) (e : BitVec 32) (he : e.toNat < 32) (g3 : Buf (Elt F) ((c : Thread nD τ).loc cc0_scratch3)) (g4 : Buf (Elt F) ((c : Thread nD τ).loc cc0_scratch4)) (g5 : Buf (Elt F) ((c : Thread nD τ).loc cc0_scratch5)) :
    iprop(landed c gG gU gD w hw e he ∗ ((c : Thread nD τ).loc cc0_scratch3 ↦{fullShare} g3) ∗ ((c : Thread nD τ).loc cc0_scratch4 ↦{fullShare} g4) ∗ ((c : Thread nD τ).loc cc0_scratch5 ↦{fullShare} g5))
      ⊢ wp frame (wpE (defs₀ (F := F)) Variants.none (c : Thread nD τ) none) Set.univ (castProg (F := F) i v1 h1 w hc) (fun _ => iprop(slotRest c w hw ∗ ((c : Thread nD τ).loc cc0_scratch3 ↦{fullShare} k0_pay1 (tileG c gG e he)) ∗ ((c : Thread nD τ).loc cc0_scratch4 ↦{fullShare} k0_pay2 (tileU c gU e he)) ∗ ((c : Thread nD τ).loc cc0_scratch5 ↦{fullShare} k0_pay3 (tileD c gD e he)))) := by
  unfold castProg landed slotRest
  iintro ⟨⟨Hs, ⟨%fG, HG⟩, ⟨%fU, HU⟩, ⟨%fD, HD⟩⟩, H3, H4, H5⟩
  iapply (load_gen c (Memref.whole cc0_scratch0) (Rect.unit (s := S2x2048x512) (k0_off28 w) S1x2048x512.size (k0_off28_inb i v1 w hc h1)) _ (dstG w hw).view.set fullShare (landG c w hw e he gG fG) (tileG c gG e he) (read_landG c gG w hw e he fG _) (sub_G w hw _) _ _) $$ HG
  iintro HG
  iapply (load_3 c _ _ _ _ _) $$ H3
  iintro H3
  iapply (store_3 c _ _ _ _ _ _ _) $$ H3
  iintro H3
  iapply (load_gen c (Memref.whole cc0_scratch1) (Rect.unit (s := S2x2048x512) (k0_off28 w) S1x2048x512.size (k0_off28_inb i v1 w hc h1)) _ (dstU w hw).view.set fullShare (landU c w hw e he gU fU) (tileU c gU e he) (read_landU c gU w hw e he fU _) (sub_U w hw _) _ _) $$ HU
  iintro HU
  iapply (load_4 c _ _ _ _ _) $$ H4
  iintro H4
  iapply (store_4 c _ _ _ _ _ _ _) $$ H4
  iintro H4
  iapply (load_gen c (Memref.whole cc0_scratch2) (Rect.unit (s := S2x512x2048) (k0_off29 w) S1x512x2048.size (k0_off29_inb i v1 w hc h1)) _ (dstD w hw).view.set fullShare (landD c w hw e he gD fD) (tileD c gD e he) (read_landD c gD w hw e he fD _) (sub_D w hw _) _ _) $$ HD
  iintro HD
  iapply (load_5 c _ _ _ _ _) $$ H5
  iintro H5
  iapply (store_5 c _ _ _ _ _ _ _) $$ H5
  iintro H5
  iapply le_wp_ret
  isplitl [Hs HG HU HD]
  · isplitl [Hs]; · iexact Hs
    isplitl [HG]; · iexists _; iexact HG
    isplitl [HU]; · iexists _; iexact HU
    iexists _; iexact HD
  isplitl [H3]; · iexact H3
  isplitl [H4]; · iexact H4
  iexact H5

/-- The tile's rows times an expert's rounded weights. -/
def prodC (dx : Vec F S4352x128 .f32) (g3 g4 : Vec F S2048x512 .bf16) (g5 : Vec F S512x2048 .bf16) : FVec F S256x2048 .f32 := k0_pay5 (rowsOf dx) g3 g4 g5

/-- A later visit's block. -/
def laterC (i : grid0.Coords) (y : FVec F S256x2048 .f32) (d : Vec F S4352x128 .f32) : Vec F S4352x128 .f32 :=
  if k0_cond6 (wFirst tb i) = 1#1 then moreC y (wLo tb i) (wHi tb i) d else d

/-- A visit's block of the block before. -/
def visitC (i : grid0.Coords) (y : FVec F S256x2048 .f32) (d : Vec F S4352x128 .f32) : Vec F S4352x128 .f32 :=
  if k0_cond4 (wValid tb i) = 1#1 then
    (if k0_cond5 (wFirst tb i) = 1#1 then laterC tb i y (firstC y (wLo tb i) (wHi tb i) d) else laterC tb i y d)
  else d

theorem laterProg_wp (i : grid0.Coords) (y : FVec F S256x2048 .f32) (d : Vec F S4352x128 .f32) :
    iprop(tables tb c ∗ owns (c : Thread nD τ) O fullShare d)
      ⊢ wp frame (wpE (defs₀ (F := F)) Variants.none (c : Thread nD τ) none) Set.univ (laterProg X hX O hO i y (wLo tb i) (wHi tb i)) (fun _ => iprop(tables tb c ∗ owns (c : Thread nD τ) O fullShare (laterC tb i y d))) := by
  unfold laterProg
  iintro ⟨HTT, H⟩
  ihave HTT := (tables_out tb c) $$ HTT
  icases HTT with ⟨T0, T1, T2, T3, T4, T5, T6, T7, T8⟩
  iapply (smemFirst c i _ numel1_S1 rfl fullShare.right (tFirst tb) _ _) $$ T4
  iintro T4
  by_cases h : k0_cond6 (tFirst tb (vIdx i)) = 1#1
  · rw [if_pos h]
    ihave H := (moreProg_wp c X hX O hO i y (wLo tb i) (wHi tb i) d) $$ H
    iapply (wp_wand _ _ _) $$ H
    iintro %_ H
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    rw [show laterC tb i y d = moreC y (wLo tb i) (wHi tb i) d from if_pos h]
    iexact H
  · rw [if_neg h]
    iapply le_wp_ret
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    rw [show laterC tb i y d = d from if_neg h]
    iexact H

theorem compProg_wp (i : grid0.Coords) (dx d : Vec F S4352x128 .f32) (g3 : Buf (Elt F) ((c : Thread nD τ).loc cc0_scratch3)) (g4 : Buf (Elt F) ((c : Thread nD τ).loc cc0_scratch4)) (g5 : Buf (Elt F) ((c : Thread nD τ).loc cc0_scratch5)) :
    iprop(tables tb c ∗ (((c : Thread nD τ).loc cc0_scratch3 ↦{fullShare} g3) ∗ ((c : Thread nD τ).loc cc0_scratch4 ↦{fullShare} g4) ∗ ((c : Thread nD τ).loc cc0_scratch5 ↦{fullShare} g5)) ∗ owns (c : Thread nD τ) X fullShare dx ∗ owns (c : Thread nD τ) O fullShare d)
      ⊢ wp frame (wpE (defs₀ (F := F)) Variants.none (c : Thread nD τ) none) Set.univ (compProg X hX O hO i) (fun _ => iprop(tables tb c ∗ (((c : Thread nD τ).loc cc0_scratch3 ↦{fullShare} g3) ∗ ((c : Thread nD τ).loc cc0_scratch4 ↦{fullShare} g4) ∗ ((c : Thread nD τ).loc cc0_scratch5 ↦{fullShare} g5)) ∗ owns (c : Thread nD τ) X fullShare dx ∗ owns (c : Thread nD τ) O fullShare (visitC tb i (prodC dx g3 g4 g5) d))) := by
  unfold compProg
  iintro ⟨HTT, ⟨H3, H4, H5⟩, HX, H⟩
  ihave HTT := (tables_out tb c) $$ HTT
  icases HTT with ⟨T0, T1, T2, T3, T4, T5, T6, T7, T8⟩
  iapply (smemValid c i _ numel1_S1 rfl fullShare.right (tValid tb) _ _) $$ T5
  iintro T5
  by_cases h : k0_cond4 (tValid tb (vIdx i)) = 1#1
  · rw [if_pos h]
    unfold rowsProg
    ihave HX := (part7_wp c X hX O hO i dx) $$ HX
    iapply (seq_wp c _ _ _ _) $$ HX
    iintro %r ⟨%hr, HX⟩
    subst hr
    iapply (load_chunk c X 15 (by decide) _ _ _ _ _) $$ HX
    iintro HX
    iapply (load_3 c _ _ _ _ _) $$ H3
    iintro H3
    iapply (load_4 c _ _ _ _ _) $$ H4
    iintro H4
    iapply (load_5 c _ _ _ _ _) $$ H5
    iintro H5
    iapply (smemLo c i _ numel1_S1 rfl fullShare.right (tLo tb) _ _) $$ T2
    iintro T2
    iapply (smemHi c i _ numel1_S1 rfl fullShare.right (tHi tb) _ _) $$ T3
    iintro T3
    iapply (smemFirst c i _ numel1_S1 rfl fullShare.right (tFirst tb) _ _) $$ T4
    iintro T4
    by_cases h5 : k0_cond5 (tFirst tb (vIdx i)) = 1#1
    · rw [if_pos h5]
      ihave H := (firstProg_wp c X hX O hO i (prodC dx g3 g4 g5) (wLo tb i) (wHi tb i) d) $$ H
      iapply (seq_wp c _ _ _ _) $$ H
      iintro %_ H
      ihave H := (laterProg_wp tb c X hX O hO i (prodC dx g3 g4 g5) (firstC (prodC dx g3 g4 g5) (wLo tb i) (wHi tb i) d)) $$ [T0 T1 T2 T3 T4 T5 T6 T7 T8 H]
      · isplitr [H]
        · unfold tables
          isplitl [T0]; · iexact T0
          isplitl [T1]; · iexact T1
          isplitl [T2]; · iexact T2
          isplitl [T3]; · iexact T3
          isplitl [T4]; · iexact T4
          isplitl [T5]; · iexact T5
          isplitl [T6]; · iexact T6
          isplitl [T7]; · iexact T7
          iexact T8
        iexact H
      iapply (wp_wand _ _ _) $$ H
      iintro %_ ⟨HT, H⟩
      isplitl [HT]; · iexact HT
      isplitl [H3 H4 H5]
      · isplitl [H3]; · iexact H3
        isplitl [H4]; · iexact H4
        iexact H5
      isplitl [HX]; · iexact HX
      rw [show visitC tb i (prodC dx g3 g4 g5) d = laterC tb i (prodC dx g3 g4 g5) (firstC (prodC dx g3 g4 g5) (wLo tb i) (wHi tb i) d) from (if_pos h).trans (if_pos h5)]
      iexact H
    · rw [if_neg h5]
      ihave H := (laterProg_wp tb c X hX O hO i (prodC dx g3 g4 g5) d) $$ [T0 T1 T2 T3 T4 T5 T6 T7 T8 H]
      · isplitr [H]
        · unfold tables
          isplitl [T0]; · iexact T0
          isplitl [T1]; · iexact T1
          isplitl [T2]; · iexact T2
          isplitl [T3]; · iexact T3
          isplitl [T4]; · iexact T4
          isplitl [T5]; · iexact T5
          isplitl [T6]; · iexact T6
          isplitl [T7]; · iexact T7
          iexact T8
        iexact H
      iapply (wp_wand _ _ _) $$ H
      iintro %_ ⟨HT, H⟩
      isplitl [HT]; · iexact HT
      isplitl [H3 H4 H5]
      · isplitl [H3]; · iexact H3
        isplitl [H4]; · iexact H4
        iexact H5
      isplitl [HX]; · iexact HX
      rw [show visitC tb i (prodC dx g3 g4 g5) d = laterC tb i (prodC dx g3 g4 g5) d from (if_pos h).trans (if_neg h5)]
      iexact H
  · rw [if_neg h]
    iapply le_wp_ret
    isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [H3 H4 H5]
    · isplitl [H3]; · iexact H3
      isplitl [H4]; · iexact H4
      iexact H5
    isplitl [HX]; · iexact HX
    rw [show visitC tb i (prodC dx g3 g4 g5) d = d from if_neg h]
    iexact H

/-- A visit of the same expert. -/
theorem body_old (i : grid0.Coords) (h1 : ¬ k0_cond1 (wNew tb i) = 1#1) (dx d : Vec F S4352x128 .f32) (g3 : Buf (Elt F) ((c : Thread nD τ).loc cc0_scratch3)) (g4 : Buf (Elt F) ((c : Thread nD τ).loc cc0_scratch4)) (g5 : Buf (Elt F) ((c : Thread nD τ).loc cc0_scratch5)) :
    iprop(tables tb c ∗ (((c : Thread nD τ).loc cc0_scratch3 ↦{fullShare} g3) ∗ ((c : Thread nD τ).loc cc0_scratch4 ↦{fullShare} g4) ∗ ((c : Thread nD τ).loc cc0_scratch5 ↦{fullShare} g5)) ∗ owns (c : Thread nD τ) X fullShare dx ∗ owns (c : Thread nD τ) O fullShare d)
      ⊢ wp frame (wpE (defs₀ (F := F)) Variants.none (c : Thread nD τ) none) Set.univ (bodyProg X hX O hO i) (fun _ => iprop(tables tb c ∗ (((c : Thread nD τ).loc cc0_scratch3 ↦{fullShare} g3) ∗ ((c : Thread nD τ).loc cc0_scratch4 ↦{fullShare} g4) ∗ ((c : Thread nD τ).loc cc0_scratch5 ↦{fullShare} g5)) ∗ owns (c : Thread nD τ) X fullShare dx ∗ owns (c : Thread nD τ) O fullShare (visitC tb i (prodC dx g3 g4 g5) d))) := by
  unfold bodyProg
  iintro ⟨HTT, HS, HX, H⟩
  ihave HTT := (tables_out tb c) $$ HTT
  icases HTT with ⟨T0, T1, T2, T3, T4, T5, T6, T7, T8⟩
  iapply (smemNew c i _ numel1_S1 rfl fullShare.right (tNew tb) _ _) $$ T6
  iintro T6
  rw [dif_neg (show ¬ k0_cond1 (tNew tb (vIdx i)) = 1#1 from h1)]
  iapply (compProg_wp tb c X hX O hO i dx d g3 g4 g5)
  isplitl [T0 T1 T2 T3 T4 T5 T6 T7 T8]
  · unfold tables
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    iexact T8
  isplitl [HS]; · iexact HS
  isplitl [HX]; · iexact HX
  iexact H

/-- A visit of a new expert. -/
theorem body_new (i : grid0.Coords) (h1 : k0_cond1 (wNew tb i) = 1#1) (hw : (wSlot tb i).toNat < 2) (he : (wVe tb i).toNat < 32) (hn : k0_cond3 (wNext tb i) = 1#1 ↔ (wNext tb i).toNat < 32)
    (n0 : BitVec 32) (h0 : (k0_cond2 i = 1#1 ∧ ¬ n0.toNat < 32) ∨ (¬ k0_cond2 i = 1#1 ∧ n0 = wVe tb i)) (W : Waits sig Unit) (dx d : Vec F S4352x128 .f32) (g3 : Buf (Elt F) ((c : Thread nD τ).loc cc0_scratch3)) (g4 : Buf (Elt F) ((c : Thread nD τ).loc cc0_scratch4)) (g5 : Buf (Elt F) ((c : Thread nD τ).loc cc0_scratch5)) :
    iprop(tables tb c ∗ (pend c gG gU gD (wSlot tb i) hw n0 ∗ slotRest c (oth (wSlot tb i)) (oth_lt _ hw)) ∗ owes (c : Thread nD τ) 0 W ∗ (((c : Thread nD τ).loc cc0_scratch3 ↦{fullShare} g3) ∗ ((c : Thread nD τ).loc cc0_scratch4 ↦{fullShare} g4) ∗ ((c : Thread nD τ).loc cc0_scratch5 ↦{fullShare} g5)) ∗ owns (c : Thread nD τ) X fullShare dx ∗ owns (c : Thread nD τ) O fullShare d)
      ⊢ wp frame (wpE (defs₀ (F := F)) Variants.none (c : Thread nD τ) none) Set.univ (bodyProg X hX O hO i) (fun _ => iprop((pend c gG gU gD (oth (wSlot tb i)) (oth_lt _ hw) (wNext tb i) ∗ slotRest c (wSlot tb i) hw) ∗ (∃ W', owes (c : Thread nD τ) 0 W') ∗ tables tb c ∗ (((c : Thread nD τ).loc cc0_scratch3 ↦{fullShare} k0_pay1 (tileG c gG (wVe tb i) he)) ∗ ((c : Thread nD τ).loc cc0_scratch4 ↦{fullShare} k0_pay2 (tileU c gU (wVe tb i) he)) ∗ ((c : Thread nD τ).loc cc0_scratch5 ↦{fullShare} k0_pay3 (tileD c gD (wVe tb i) he))) ∗ owns (c : Thread nD τ) X fullShare dx ∗ owns (c : Thread nD τ) O fullShare (visitC tb i (prodC dx (k0_pay1 (tileG c gG (wVe tb i) he)) (k0_pay2 (tileU c gU (wVe tb i) he)) (k0_pay3 (tileD c gD (wVe tb i) he))) d))) := by
  unfold bodyProg
  iintro ⟨HTT, ⟨HP, HR⟩, HW, ⟨H3, H4, H5⟩, HX, H⟩
  ihave HTT := (tables_out tb c) $$ HTT
  icases HTT with ⟨T0, T1, T2, T3, T4, T5, T6, T7, T8⟩
  iapply (smemNew c i _ numel1_S1 rfl fullShare.right (tNew tb) _ _) $$ T6
  iintro T6
  rw [dif_pos (show k0_cond1 (tNew tb (vIdx i)) = 1#1 from h1)]
  ihave HF := (firstStep_wp tb c gG gU gD i (tNew tb (vIdx i)) h1 hw he hn n0 h0 W) $$ [T0 T1 T2 T3 T4 T5 T6 T7 T8 HP HR HW]
  · isplitl [T0 T1 T2 T3 T4 T5 T6 T7 T8]
    · unfold tables
      isplitl [T0]; · iexact T0
      isplitl [T1]; · iexact T1
      isplitl [T2]; · iexact T2
      isplitl [T3]; · iexact T3
      isplitl [T4]; · iexact T4
      isplitl [T5]; · iexact T5
      isplitl [T6]; · iexact T6
      isplitl [T7]; · iexact T7
      iexact T8
    isplitl [HP]; · iexact HP
    isplitl [HR]; · iexact HR
    iexact HW
  iapply (seq_wp c _ _ _ _) $$ HF
  iintro %r ⟨%hr, HT, HL, HP, HW⟩
  obtain ⟨w, hc⟩ := r
  have hr' : w = wSlot tb i := hr
  subst hr'
  ihave HC := (castProg_wp c gG gU gD i (tNew tb (vIdx i)) h1 (wSlot tb i) hc hw (wVe tb i) he g3 g4 g5) $$ [HL H3 H4 H5]
  · isplitl [HL]; · iexact HL
    isplitl [H3]; · iexact H3
    isplitl [H4]; · iexact H4
    iexact H5
  iapply (seq_wp c _ _ _ _) $$ HC
  iintro %_ ⟨HR, HS⟩
  ihave HC := (compProg_wp tb c X hX O hO i dx d _ _ _) $$ [HT HS HX H]
  · isplitl [HT]; · iexact HT
    isplitl [HS]; · iexact HS
    isplitl [HX]; · iexact HX
    iexact H
  iapply (wp_wand _ _ _) $$ HC
  iintro %_ HC
  isplitl [HP HR]
  · isplitl [HP]; · iexact HP
    iexact HR
  isplitl [HW]; · iexact HW
  iexact HC

end Cert.Kernel2Ideal.Hand

end
-- ==== Proof.ExpertsSlots.lean ====
/- The experts kernel between visits: the weight slots split out of the scratch buffers, what the schedule says of a visit and
   the one before it, and the state a visit leaves. -/
module

public import proofs.«01_k».proof.Proof.ExpertsBody

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two slots of a weight buffer -/

theorem zero_lt2 : (0#32 : BitVec 32).toNat < 2 := by decide
theorem one_lt2 : (1#32 : BitVec 32).toNat < 2 := by decide

theorem mem_slotG (w : BitVec 32) (hw : w.toNat < 2) (j : S2x2048x512.Idx) : j ∈ ((dstG w hw).view.set : Finset S2x2048x512.Idx) ↔ (j 0).val = w.toNat := by
  have e : ((dstG w hw).view.set : Finset S2x2048x512.Idx) = (Rect.unit (s := S2x2048x512) (k0_off5 w) S1x2048x512.size (inb_slot w hw)).set :=
    (View.set_reshape _ _).trans (View.set_slice_whole _ _)
  rw [e, Rect.mem_set_unit]
  constructor
  · intro h
    have h0 : w.toNat ≤ (j 0).val ∧ (j 0).val < w.toNat + 1 := h 0
    omega
  · intro h a
    have ha := (j a).isLt
    fin_cases a
    · show w.toNat ≤ (j 0).val ∧ (j 0).val < w.toNat + 1; omega
    · exact ⟨Nat.zero_le _, lt_of_lt_of_le ha (Nat.le_add_left _ _)⟩
    · exact ⟨Nat.zero_le _, lt_of_lt_of_le ha (Nat.le_add_left _ _)⟩
theorem compl_slotG : (Finset.univ \ ((dstG 0#32 zero_lt2).view.set : Finset S2x2048x512.Idx)) = ((dstG 1#32 one_lt2).view.set : Finset S2x2048x512.Idx) := by
  ext j
  rw [Finset.mem_sdiff, mem_slotG, mem_slotG]
  have h := (j 0).isLt
  change (j 0).val < 2 at h
  show _ ∧ ¬ (j 0).val = 0 ↔ (j 0).val = 1
  constructor
  · intro ⟨_, h'⟩; omega
  · intro h'; exact ⟨Finset.mem_univ _, by omega⟩
theorem splitG (c : Dev nD) : (iprop(∃ f : Buf (Elt F) ((c : Thread nD τ).loc cc0_scratch0), (c : Thread nD τ).loc cc0_scratch0 ↦{fullShare} f) : sProp 𝕄)
    ⊢ iprop((∃ f : Buf (Elt F) ((c : Thread nD τ).loc cc0_scratch0), (dstG 0#32 zero_lt2).view.loc (c : Thread nD τ) ↦[(dstG 0#32 zero_lt2).view.set]{fullShare} f)
      ∗ (∃ f : Buf (Elt F) ((c : Thread nD τ).loc cc0_scratch0), (dstG 1#32 one_lt2).view.loc (c : Thread nD τ) ↦[(dstG 1#32 one_lt2).view.set]{fullShare} f)) := by
  have e : ∀ f : Buf (Elt F) ((c : Thread nD τ).loc cc0_scratch0), ((c : Thread nD τ).loc cc0_scratch0 ↦{fullShare} f : sProp 𝕄)
      ⊢ iprop(((dstG 0#32 zero_lt2).view.loc (c : Thread nD τ) ↦[(dstG 0#32 zero_lt2).view.set]{fullShare} f) ∗ ((dstG 1#32 one_lt2).view.loc (c : Thread nD τ) ↦[(dstG 1#32 one_lt2).view.set]{fullShare} f)) := fun f => by
    rw [← compl_slotG]
    exact (pointsTo_split_subset (Finset.subset_univ _)).1
  iintro ⟨%f, H⟩
  ihave H := (e f) $$ H
  icases H with ⟨H0, H1⟩
  isplitl [H0]; · iexists f; iexact H0
  iexists f; iexact H1
theorem joinG (c : Dev nD) : (iprop((∃ f : Buf (Elt F) ((c : Thread nD τ).loc cc0_scratch0), (dstG 0#32 zero_lt2).view.loc (c : Thread nD τ) ↦[(dstG 0#32 zero_lt2).view.set]{fullShare} f)
      ∗ (∃ f : Buf (Elt F) ((c : Thread nD τ).loc cc0_scratch0), (dstG 1#32 one_lt2).view.loc (c : Thread nD τ) ↦[(dstG 1#32 one_lt2).view.set]{fullShare} f)) : sProp 𝕄)
    ⊢ iprop(∃ f : Buf (Elt F) ((c : Thread nD τ).loc cc0_scratch0), (c : Thread nD τ).loc cc0_scratch0 ↦{fullShare} f) := by
  have e : ∀ f g : Buf (Elt F) ((c : Thread nD τ).loc cc0_scratch0),
      (iprop(((dstG 0#32 zero_lt2).view.loc (c : Thread nD τ) ↦[(dstG 0#32 zero_lt2).view.set]{fullShare} f) ∗ ((dstG 1#32 one_lt2).view.loc (c : Thread nD τ) ↦[(dstG 1#32 one_lt2).view.set]{fullShare} g)) : sProp 𝕄)
      ⊢ iprop(∃ f : Buf (Elt F) ((c : Thread nD τ).loc cc0_scratch0), (c : Thread nD τ).loc cc0_scratch0 ↦{fullShare} f) := fun f g => by
    rw [← compl_slotG]
    refine (pointsTo_join_subset (Finset.subset_univ _)).trans ?_
    iintro H
    iexists _
    iexact H
  iintro ⟨⟨%f, H0⟩, ⟨%g, H1⟩⟩
  iapply (e f g)
  isplitl [H0]; · iexact H0
  iexact H1

theorem mem_slotU (w : BitVec 32) (hw : w.toNat < 2) (j : S2x2048x512.Idx) : j ∈ ((dstU w hw).view.set : Finset S2x2048x512.Idx) ↔ (j 0).val = w.toNat := by
  have e : ((dstU w hw).view.set : Finset S2x2048x512.Idx) = (Rect.unit (s := S2x2048x512) (k0_off5 w) S1x2048x512.size (inb_slot w hw)).set :=
    (View.set_reshape _ _).trans (View.set_slice_whole _ _)
  rw [e, Rect.mem_set_unit]
  constructor
  · intro h
    have h0 : w.toNat ≤ (j 0).val ∧ (j 0).val < w.toNat + 1 := h 0
    omega
  · intro h a
    have ha := (j a).isLt
    fin_cases a
    · show w.toNat ≤ (j 0).val ∧ (j 0).val < w.toNat + 1; omega
    · exact ⟨Nat.zero_le _, lt_of_lt_of_le ha (Nat.le_add_left _ _)⟩
    · exact ⟨Nat.zero_le _, lt_of_lt_of_le ha (Nat.le_add_left _ _)⟩
theorem compl_slotU : (Finset.univ \ ((dstU 0#32 zero_lt2).view.set : Finset S2x2048x512.Idx)) = ((dstU 1#32 one_lt2).view.set : Finset S2x2048x512.Idx) := by
  ext j
  rw [Finset.mem_sdiff, mem_slotU, mem_slotU]
  have h := (j 0).isLt
  change (j 0).val < 2 at h
  show _ ∧ ¬ (j 0).val = 0 ↔ (j 0).val = 1
  constructor
  · intro ⟨_, h'⟩; omega
  · intro h'; exact ⟨Finset.mem_univ _, by omega⟩
theorem splitU (c : Dev nD) : (iprop(∃ f : Buf (Elt F) ((c : Thread nD τ).loc cc0_scratch1), (c : Thread nD τ).loc cc0_scratch1 ↦{fullShare} f) : sProp 𝕄)
    ⊢ iprop((∃ f : Buf (Elt F) ((c : Thread nD τ).loc cc0_scratch1), (dstU 0#32 zero_lt2).view.loc (c : Thread nD τ) ↦[(dstU 0#32 zero_lt2).view.set]{fullShare} f)
      ∗ (∃ f : Buf (Elt F) ((c : Thread nD τ).loc cc0_scratch1), (dstU 1#32 one_lt2).view.loc (c : Thread nD τ) ↦[(dstU 1#32 one_lt2).view.set]{fullShare} f)) := by
  have e : ∀ f : Buf (Elt F) ((c : Thread nD τ).loc cc0_scratch1), ((c : Thread nD τ).loc cc0_scratch1 ↦{fullShare} f : sProp 𝕄)
      ⊢ iprop(((dstU 0#32 zero_lt2).view.loc (c : Thread nD τ) ↦[(dstU 0#32 zero_lt2).view.set]{fullShare} f) ∗ ((dstU 1#32 one_lt2).view.loc (c : Thread nD τ) ↦[(dstU 1#32 one_lt2).view.set]{fullShare} f)) := fun f => by
    rw [← compl_slotU]
    exact (pointsTo_split_subset (Finset.subset_univ _)).1
  iintro ⟨%f, H⟩
  ihave H := (e f) $$ H
  icases H with ⟨H0, H1⟩
  isplitl [H0]; · iexists f; iexact H0
  iexists f; iexact H1
theorem joinU (c : Dev nD) : (iprop((∃ f : Buf (Elt F) ((c : Thread nD τ).loc cc0_scratch1), (dstU 0#32 zero_lt2).view.loc (c : Thread nD τ) ↦[(dstU 0#32 zero_lt2).view.set]{fullShare} f)
      ∗ (∃ f : Buf (Elt F) ((c : Thread nD τ).loc cc0_scratch1), (dstU 1#32 one_lt2).view.loc (c : Thread nD τ) ↦[(dstU 1#32 one_lt2).view.set]{fullShare} f)) : sProp 𝕄)
    ⊢ iprop(∃ f : Buf (Elt F) ((c : Thread nD τ).loc cc0_scratch1), (c : Thread nD τ).loc cc0_scratch1 ↦{fullShare} f) := by
  have e : ∀ f g : Buf (Elt F) ((c : Thread nD τ).loc cc0_scratch1),
      (iprop(((dstU 0#32 zero_lt2).view.loc (c : Thread nD τ) ↦[(dstU 0#32 zero_lt2).view.set]{fullShare} f) ∗ ((dstU 1#32 one_lt2).view.loc (c : Thread nD τ) ↦[(dstU 1#32 one_lt2).view.set]{fullShare} g)) : sProp 𝕄)
      ⊢ iprop(∃ f : Buf (Elt F) ((c : Thread nD τ).loc cc0_scratch1), (c : Thread nD τ).loc cc0_scratch1 ↦{fullShare} f) := fun f g => by
    rw [← compl_slotU]
    refine (pointsTo_join_subset (Finset.subset_univ _)).trans ?_
    iintro H
    iexists _
    iexact H
  iintro ⟨⟨%f, H0⟩, ⟨%g, H1⟩⟩
  iapply (e f g)
  isplitl [H0]; · iexact H0
  iexact H1

theorem mem_slotD (w : BitVec 32) (hw : w.toNat < 2) (j : S2x512x2048.Idx) : j ∈ ((dstD w hw).view.set : Finset S2x512x2048.Idx) ↔ (j 0).val = w.toNat := by
  have e : ((dstD w hw).view.set : Finset S2x512x2048.Idx) = (Rect.unit (s := S2x512x2048) (k0_off9 w) S1x512x2048.size (inb_slotD w hw)).set :=
    (View.set_reshape _ _).trans (View.set_slice_whole _ _)
  rw [e, Rect.mem_set_unit]
  constructor
  · intro h
    have h0 : w.toNat ≤ (j 0).val ∧ (j 0).val < w.toNat + 1 := h 0
    omega
  · intro h a
    have ha := (j a).isLt
    fin_cases a
    · show w.toNat ≤ (j 0).val ∧ (j 0).val < w.toNat + 1; omega
    · exact ⟨Nat.zero_le _, lt_of_lt_of_le ha (Nat.le_add_left _ _)⟩
    · exact ⟨Nat.zero_le _, lt_of_lt_of_le ha (Nat.le_add_left _ _)⟩
theorem compl_slotD : (Finset.univ \ ((dstD 0#32 zero_lt2).view.set : Finset S2x512x2048.Idx)) = ((dstD 1#32 one_lt2).view.set : Finset S2x512x2048.Idx) := by
  ext j
  rw [Finset.mem_sdiff, mem_slotD, mem_slotD]
  have h := (j 0).isLt
  change (j 0).val < 2 at h
  show _ ∧ ¬ (j 0).val = 0 ↔ (j 0).val = 1
  constructor
  · intro ⟨_, h'⟩; omega
  · intro h'; exact ⟨Finset.mem_univ _, by omega⟩
theorem splitD (c : Dev nD) : (iprop(∃ f : Buf (Elt F) ((c : Thread nD τ).loc cc0_scratch2), (c : Thread nD τ).loc cc0_scratch2 ↦{fullShare} f) : sProp 𝕄)
    ⊢ iprop((∃ f : Buf (Elt F) ((c : Thread nD τ).loc cc0_scratch2), (dstD 0#32 zero_lt2).view.loc (c : Thread nD τ) ↦[(dstD 0#32 zero_lt2).view.set]{fullShare} f)
      ∗ (∃ f : Buf (Elt F) ((c : Thread nD τ).loc cc0_scratch2), (dstD 1#32 one_lt2).view.loc (c : Thread nD τ) ↦[(dstD 1#32 one_lt2).view.set]{fullShare} f)) := by
  have e : ∀ f : Buf (Elt F) ((c : Thread nD τ).loc cc0_scratch2), ((c : Thread nD τ).loc cc0_scratch2 ↦{fullShare} f : sProp 𝕄)
      ⊢ iprop(((dstD 0#32 zero_lt2).view.loc (c : Thread nD τ) ↦[(dstD 0#32 zero_lt2).view.set]{fullShare} f) ∗ ((dstD 1#32 one_lt2).view.loc (c : Thread nD τ) ↦[(dstD 1#32 one_lt2).view.set]{fullShare} f)) := fun f => by
    rw [← compl_slotD]
    exact (pointsTo_split_subset (Finset.subset_univ _)).1
  iintro ⟨%f, H⟩
  ihave H := (e f) $$ H
  icases H with ⟨H0, H1⟩
  isplitl [H0]; · iexists f; iexact H0
  iexists f; iexact H1
theorem joinD (c : Dev nD) : (iprop((∃ f : Buf (Elt F) ((c : Thread nD τ).loc cc0_scratch2), (dstD 0#32 zero_lt2).view.loc (c : Thread nD τ) ↦[(dstD 0#32 zero_lt2).view.set]{fullShare} f)
      ∗ (∃ f : Buf (Elt F) ((c : Thread nD τ).loc cc0_scratch2), (dstD 1#32 one_lt2).view.loc (c : Thread nD τ) ↦[(dstD 1#32 one_lt2).view.set]{fullShare} f)) : sProp 𝕄)
    ⊢ iprop(∃ f : Buf (Elt F) ((c : Thread nD τ).loc cc0_scratch2), (c : Thread nD τ).loc cc0_scratch2 ↦{fullShare} f) := by
  have e : ∀ f g : Buf (Elt F) ((c : Thread nD τ).loc cc0_scratch2),
      (iprop(((dstD 0#32 zero_lt2).view.loc (c : Thread nD τ) ↦[(dstD 0#32 zero_lt2).view.set]{fullShare} f) ∗ ((dstD 1#32 one_lt2).view.loc (c : Thread nD τ) ↦[(dstD 1#32 one_lt2).view.set]{fullShare} g)) : sProp 𝕄)
      ⊢ iprop(∃ f : Buf (Elt F) ((c : Thread nD τ).loc cc0_scratch2), (c : Thread nD τ).loc cc0_scratch2 ↦{fullShare} f) := fun f g => by
    rw [← compl_slotD]
    refine (pointsTo_join_subset (Finset.subset_univ _)).trans ?_
    iintro H
    iexists _
    iexact H
  iintro ⟨⟨%f, H0⟩, ⟨%g, H1⟩⟩
  iapply (e f g)
  isplitl [H0]; · iexact H0
  iexact H1

/-! ## The slots between visits -/

section
variable (c : Dev nD)
  (gG : Buf (Elt F) ((c : Thread nD τ).loc main_arg11)) (gU : Buf (Elt F) ((c : Thread nD τ).loc main_arg12)) (gD : Buf (Elt F) ((c : Thread nD τ).loc main_arg13))

/-- Both slots at rest, the weight arrays whole. -/
def resting : sProp 𝕄 := iprop(slotRest (F := F) c 0#32 zero_lt2 ∗ slotRest (F := F) c 1#32 one_lt2 ∗ weights c gG gU gD)

/-- The slots after a visit whose expert is in slot `w` and whose next expert is `n`. -/
def slots (w : BitVec 32) (hw : w.toNat < 2) (n : BitVec 32) : sProp 𝕄 :=
  iprop(pend c gG gU gD (oth w) (oth_lt w hw) n ∗ slotRest (F := F) c w hw)

theorem slot_cases (w : BitVec 32) (hw : w.toNat < 2) : w = 0#32 ∨ w = 1#32 := by
  rcases (by omega : w.toNat = 0 ∨ w.toNat = 1) with h | h
  · left; exact BitVec.eq_of_toNat_eq h
  · right; exact BitVec.eq_of_toNat_eq h

theorem resting_start (w : BitVec 32) (hw : w.toNat < 2) (n : BitVec 32) (hn : ¬ n.toNat < 32) :
    resting c gG gU gD ⊢ iprop(pend c gG gU gD w hw n ∗ slotRest (F := F) c (oth w) (oth_lt w hw)) := by
  unfold resting pend
  rw [dif_neg hn]
  rcases slot_cases w hw with rfl | rfl
  · iintro ⟨H0, H1, HW⟩
    isplitl [H0 HW]
    · isplitl [H0]; · iexact H0
      iexact HW
    iexact H1
  · iintro ⟨H0, H1, HW⟩
    isplitl [H1 HW]
    · isplitl [H1]; · iexact H1
      iexact HW
    iexact H0

theorem resting_end (w : BitVec 32) (hw : w.toNat < 2) (n : BitVec 32) (hn : ¬ n.toNat < 32) :
    slots c gG gU gD w hw n ⊢ resting c gG gU gD := by
  unfold resting slots pend
  rw [dif_neg hn]
  rcases slot_cases w hw with rfl | rfl
  · iintro ⟨⟨H1, HW⟩, H0⟩
    isplitl [H0]; · iexact H0
    isplitl [H1]; · iexact H1
    iexact HW
  · iintro ⟨⟨H0, HW⟩, H1⟩
    isplitl [H0]; · iexact H0
    isplitl [H1]; · iexact H1
    iexact HW

theorem oth_oth (w : BitVec 32) (hw : w.toNat < 2) : oth (oth w) = w := by
  rcases slot_cases w hw with rfl | rfl <;> decide

/-- The slots at a visit of a new expert. -/
theorem slots_new (w : BitVec 32) (hw : w.toNat < 2) (n : BitVec 32) (w' : BitVec 32) (hw' : w'.toNat < 2) (e : BitVec 32) (h : w' = oth w) (hn : n = e) :
    slots c gG gU gD w hw n ⊢ iprop(pend c gG gU gD w' hw' e ∗ slotRest (F := F) c (oth w') (oth_lt w' hw')) := by
  subst h; subst hn
  have g : ∀ (x : BitVec 32) (hx : x.toNat < 2) (hx' : w.toNat < 2), x = w → slotRest (F := F) c w hx' ⊢ (slotRest (F := F) c x hx : sProp 𝕄) := by
    intro x hx hx' hh; subst hh; exact .rfl
  unfold slots
  iintro ⟨HP, HR⟩
  isplitl [HP]; · iexact HP
  iapply (g (oth (oth w)) (oth_lt _ hw') hw (oth_oth w hw))
  iexact HR

theorem slots_same (w : BitVec 32) (hw : w.toNat < 2) (n : BitVec 32) (w' : BitVec 32) (hw' : w'.toNat < 2) (n' : BitVec 32) (h : w' = w) (hn : n' = n) :
    slots c gG gU gD w hw n ⊢ slots c gG gU gD w' hw' n' := by
  subst h; subst hn; exact .rfl

/-- The three buffers the products read, holding an expert's rounded slices. -/
def rounded (e : BitVec 32) (he : e.toNat < 32) : sProp 𝕄 :=
  iprop(((c : Thread nD τ).loc cc0_scratch3 ↦{fullShare} (k0_pay1 (tileG c gG e he) : Buf (Elt F) ((c : Thread nD τ).loc cc0_scratch3))) ∗ ((c : Thread nD τ).loc cc0_scratch4 ↦{fullShare} (k0_pay2 (tileU c gU e he) : Buf (Elt F) ((c : Thread nD τ).loc cc0_scratch4))) ∗ ((c : Thread nD τ).loc cc0_scratch5 ↦{fullShare} (k0_pay3 (tileD c gD e he) : Buf (Elt F) ((c : Thread nD τ).loc cc0_scratch5))))

theorem rounded_same (e : BitVec 32) (he : e.toNat < 32) (e' : BitVec 32) (he' : e'.toNat < 32) (h : e' = e) :
    rounded c gG gU gD e he ⊢ rounded c gG gU gD e' he' := by
  subst h; exact .rfl
end

/-! ## The schedule's words -/

/-- What the tables say of each visit and of the visit before it. -/
structure Sched (tb : Fin 9 → Tbl F) : Prop where
  slot : ∀ i, (wSlot tb i).toNat < 2
  exp : ∀ i, (wVe tb i).toNat < 32
  tile : ∀ i, (wVt tb i).toNat < 128
  next : ∀ i, k0_cond3 (wNext tb i) = 1#1 ↔ (wNext tb i).toNat < 32
  start : ∀ i : grid0.Coords, (i 0).val = 0 → k0_cond1 (wNew tb i) = 1#1
  new : ∀ i j : grid0.Coords, (j 0).val + 1 = (i 0).val → k0_cond1 (wNew tb i) = 1#1 → wNext tb j = wVe tb i ∧ wSlot tb i = oth (wSlot tb j)
  keep : ∀ i j : grid0.Coords, (j 0).val + 1 = (i 0).val → ¬ k0_cond1 (wNew tb i) = 1#1 → wVe tb i = wVe tb j ∧ wNext tb i = wNext tb j ∧ wSlot tb i = wSlot tb j
  last : ∀ i : grid0.Coords, (i 0).val = 159 → ¬ (wNext tb i).toNat < 32
  fresh : ∀ i : grid0.Coords, (i 0).val = 0 → k0_cond4 (wValid tb i) = 1#1 ∧ k0_cond5 (wFirst tb i) = 1#1
  move : ∀ i j : grid0.Coords, (j 0).val + 1 = (i 0).val → wVt tb i ≠ wVt tb j → k0_cond4 (wValid tb i) = 1#1 ∧ k0_cond5 (wFirst tb i) = 1#1

theorem cond2_iff (i : grid0.Coords) : k0_cond2 i = 1#1 ↔ (i 0).val = 0 := by
  have h := (i 0).isLt
  change (i 0).val < 160 at h
  generalize hn : (i 0).val = n at h
  have e : k0_cond2 i = Scalar.cmpi .ne (Scalar.extui (Scalar.cmpi .eq (BitVec.ofNat 32 n) 0#32) : BitVec 32) 0#32 := by
    rw [← hn]; rfl
  rw [e]
  clear e hn
  revert n
  decide

/-! ## What a tile's first visit leaves does not depend on what it found -/

theorem putC_apply (k : ℕ) (p : Vec F S256x128 .f32) (d : Vec F S4352x128 .f32) (j : S4352x128.Idx) :
    putC k p d j = if (j 0).val % 17 = k then p (rowOf j) else d j := rfl

theorem agree_put (k : ℕ) (p : Vec F S256x128 .f32) (d d' : Vec F S4352x128 .f32) (h : ∀ j : S4352x128.Idx, (j 0).val % 17 < k → d j = d' j) :
    ∀ j : S4352x128.Idx, (j 0).val % 17 < k + 1 → putC k p d j = putC k p d' j := by
  intro j hj
  rw [putC_apply, putC_apply]
  by_cases hk : (j 0).val % 17 = k
  · rw [if_pos hk, if_pos hk]
  · rw [if_neg hk, if_neg hk]; exact h j (by omega)

theorem firstC_const (y : FVec F S256x2048 .f32) (lo hi : BitVec 32) (d d' : Vec F S4352x128 .f32) : firstC y lo hi d = firstC y lo hi d' := by
  funext j
  unfold firstC
  exact agree_put 16 _ _ _ (agree_put 15 _ _ _ (agree_put 14 _ _ _ (agree_put 13 _ _ _ (agree_put 12 _ _ _ (agree_put 11 _ _ _ (agree_put 10 _ _ _ (agree_put 9 _ _ _ (agree_put 8 _ _ _ (agree_put 7 _ _ _ (agree_put 6 _ _ _ (agree_put 5 _ _ _ (agree_put 4 _ _ _ (agree_put 3 _ _ _ (agree_put 2 _ _ _ (agree_put 1 _ _ _ (agree_put 0 _ _ _ (fun _ h => absurd h (Nat.not_lt_zero _)))))))))))))))))) j (Nat.mod_lt _ (by decide))

theorem visitC_const (tb : Fin 9 → Tbl F) (i : grid0.Coords) (h4 : k0_cond4 (wValid tb i) = 1#1) (h5 : k0_cond5 (wFirst tb i) = 1#1) (y : FVec F S256x2048 .f32) (d d' : Vec F S4352x128 .f32) :
    visitC tb i y d = visitC tb i y d' := by
  unfold visitC
  rw [if_pos h4, if_pos h4, if_pos h5, if_pos h5, firstC_const y (wLo tb i) (wHi tb i) d d']

theorem visitC_idle (tb : Fin 9 → Tbl F) (i : grid0.Coords) (h : ¬ (k0_cond4 (wValid tb i) = 1#1 ∧ k0_cond5 (wFirst tb i) = 1#1)) (h' : ¬ (k0_cond4 (wValid tb i) = 1#1 ∧ k0_cond6 (wFirst tb i) = 1#1))
    (y : FVec F S256x2048 .f32) (d : Vec F S4352x128 .f32) : visitC tb i y d = d := by
  unfold visitC laterC
  by_cases h4 : k0_cond4 (wValid tb i) = 1#1
  · rw [if_pos h4, if_neg (fun h5 => h ⟨h4, h5⟩), if_neg (fun h6 => h' ⟨h4, h6⟩)]
  · rw [if_neg h4]

end Cert.Kernel2Ideal.Hand

end
-- ==== Proof.ExpertsVisit.lean ====
/- The experts kernel visit by visit: the state between visits and what every visit leaves in its tile. -/
module

public import proofs.«01_k».proof.Proof.ExpertsSlots
public import Idealize.ShloMosaic.Lib.Pipeline.FrameBody
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Visit `n`. -/
def gi (n : ℕ) : grid0.Coords := fun a => ⟨n % grid0.bound a, Nat.mod_lt _ (by revert a; decide)⟩

theorem gi_val (n : ℕ) (h : n < 160) : (gi n 0).val = n := Nat.mod_eq_of_lt h

theorem coords_gi (t : Fin grid0.N) : grid0.coords t = gi t.val := by
  revert t
  decide +kernel

/-- A tile of the packed rows. -/
def xtile (X : FVec F S557056x128 .f32) (k : ℕ) : Vec F S4352x128 .f32 :=
  fun j => X (fun a => match a with | ⟨0, _⟩ => ⟨(k % 128) * 4352 + (j 0).val, by have := (j 0).isLt; change (j 0).val < 4352 at this; show _ < 557056; have := Nat.mod_lt k (show 0 < 128 by decide); omega⟩ | ⟨1, _⟩ => ⟨(j 1).val, (j 1).isLt⟩)

section
variable (tb : Fin 9 → Tbl F) (hs : Sched tb) (X : FVec F S557056x128 .f32) (c : Dev nD)
  (gG : Buf (Elt F) ((c : Thread nD τ).loc main_arg11)) (gU : Buf (Elt F) ((c : Thread nD τ).loc main_arg12)) (gD : Buf (Elt F) ((c : Thread nD τ).loc main_arg13))

/-- The products of a visit. -/
def yAt (i : grid0.Coords) : FVec F S256x2048 .f32 :=
  prodC (xtile X (wVt tb i).toNat) (k0_pay1 (tileG c gG (wVe tb i) (hs.exp i))) (k0_pay2 (tileU c gU (wVe tb i) (hs.exp i))) (k0_pay3 (tileD c gD (wVe tb i) (hs.exp i)))

/-- What the tile's buffer holds after each visit. -/
def outs : ℕ → Vec F S4352x128 .f32
  | 0 => visitC tb (gi 0) (yAt tb hs X c gG gU gD (gi 0)) (xtile X 0)
  | n + 1 => visitC tb (gi (n + 1)) (yAt tb hs X c gG gU gD (gi (n + 1))) (outs n)

/-- The state between visits. -/
def phi : ℕ → sProp 𝕄
  | 0 => iprop(tables tb c ∗ ((∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) ∗ resting c gG gU gD ∗ (∃ r, prngReg c r))
  | n + 1 => iprop(tables tb c ∗ rounded c gG gU gD (wVe tb (gi n)) (hs.exp (gi n)) ∗ slots c gG gU gD (wSlot tb (gi n)) (hs.slot (gi n)) (wNext tb (gi n)) ∗ (∃ r, prngReg c r))

theorem rounded_out (e : BitVec 32) (he : e.toNat < 32) : rounded c gG gU gD e he ⊢
    iprop(((c : Thread nD τ).loc cc0_scratch3 ↦{fullShare} (k0_pay1 (tileG c gG e he) : Buf (Elt F) ((c : Thread nD τ).loc cc0_scratch3))) ∗ ((c : Thread nD τ).loc cc0_scratch4 ↦{fullShare} (k0_pay2 (tileU c gU e he) : Buf (Elt F) ((c : Thread nD τ).loc cc0_scratch4))) ∗ ((c : Thread nD τ).loc cc0_scratch5 ↦{fullShare} (k0_pay3 (tileD c gD e he) : Buf (Elt F) ((c : Thread nD τ).loc cc0_scratch5)))) := .rfl

theorem phi_succ (n : ℕ) : phi tb hs c gG gU gD (n + 1) = iprop(tables tb c ∗ rounded c gG gU gD (wVe tb (gi n)) (hs.exp (gi n)) ∗ slots c gG gU gD (wSlot tb (gi n)) (hs.slot (gi n)) (wNext tb (gi n)) ∗ (∃ r, prngReg c r)) := rfl

variable (IX : Memref sig .tc .vmem S4352x128 .f32) (hX : IX.IsWhole) (O : Memref sig .tc .vmem S4352x128 .f32) (hO : O.IsWhole)

/-- A visit of a new expert, with its words in the state's own terms. -/
theorem new_step (i : grid0.Coords) (h1 : k0_cond1 (wNew tb i) = 1#1)
    (n0 : BitVec 32) (h0 : (k0_cond2 i = 1#1 ∧ ¬ n0.toNat < 32) ∨ (¬ k0_cond2 i = 1#1 ∧ n0 = wVe tb i)) (W : Waits sig Unit) (d : Vec F S4352x128 .f32) (g3 : Buf (Elt F) ((c : Thread nD τ).loc cc0_scratch3)) (g4 : Buf (Elt F) ((c : Thread nD τ).loc cc0_scratch4)) (g5 : Buf (Elt F) ((c : Thread nD τ).loc cc0_scratch5)) :
    iprop(tables tb c ∗ (pend c gG gU gD (wSlot tb i) (hs.slot i) n0 ∗ slotRest c (oth (wSlot tb i)) (oth_lt _ (hs.slot i))) ∗ owes (c : Thread nD τ) 0 W ∗ (((c : Thread nD τ).loc cc0_scratch3 ↦{fullShare} g3) ∗ ((c : Thread nD τ).loc cc0_scratch4 ↦{fullShare} g4) ∗ ((c : Thread nD τ).loc cc0_scratch5 ↦{fullShare} g5)) ∗ owns (c : Thread nD τ) IX fullShare (xtile X (wVt tb i).toNat) ∗ owns (c : Thread nD τ) O fullShare d)
      ⊢ wp frame (wpE (defs₀ (F := F)) Variants.none (c : Thread nD τ) none) Set.univ (bodyProg IX hX O hO i) (fun _ => iprop(slots c gG gU gD (wSlot tb i) (hs.slot i) (wNext tb i) ∗ (∃ W', owes (c : Thread nD τ) 0 W') ∗ tables tb c ∗ rounded c gG gU gD (wVe tb i) (hs.exp i) ∗ owns (c : Thread nD τ) IX fullShare (xtile X (wVt tb i).toNat) ∗ owns (c : Thread nD τ) O fullShare (visitC tb i (yAt tb hs X c gG gU gD i) d))) :=
  body_new tb c gG gU gD IX hX O hO i h1 (hs.slot i) (hs.exp i) (hs.next i) n0 h0 W _ d g3 g4 g5

theorem old_step (i : grid0.Coords) (h1 : ¬ k0_cond1 (wNew tb i) = 1#1) (d : Vec F S4352x128 .f32) :
    iprop(tables tb c ∗ rounded c gG gU gD (wVe tb i) (hs.exp i) ∗ owns (c : Thread nD τ) IX fullShare (xtile X (wVt tb i).toNat) ∗ owns (c : Thread nD τ) O fullShare d)
      ⊢ wp frame (wpE (defs₀ (F := F)) Variants.none (c : Thread nD τ) none) Set.univ (bodyProg IX hX O hO i) (fun _ => iprop(tables tb c ∗ rounded c gG gU gD (wVe tb i) (hs.exp i) ∗ owns (c : Thread nD τ) IX fullShare (xtile X (wVt tb i).toNat) ∗ owns (c : Thread nD τ) O fullShare (visitC tb i (yAt tb hs X c gG gU gD i) d))) :=
  body_old tb c IX hX O hO i h1 _ d _ _ _

/-- The word no expert answers to. -/
theorem none_word : ¬ (0xFFFFFFFF#32 : BitVec 32).toNat < 32 := by decide

/-- Every visit. -/
theorem visit_step (n : ℕ) (hn : n < 160) (W : Waits sig Unit) (d : Vec F S4352x128 .f32) :
    iprop(phi tb hs c gG gU gD n ∗ owes (c : Thread nD τ) 0 W ∗ owns (c : Thread nD τ) IX fullShare (xtile X (wVt tb (gi n)).toNat) ∗ owns (c : Thread nD τ) O fullShare d)
      ⊢ wp frame (wpE (defs₀ (F := F)) Variants.none (c : Thread nD τ) none) Set.univ (bodyProg IX hX O hO (gi n)) (fun _ => iprop(phi tb hs c gG gU gD (n + 1) ∗ (∃ W', owes (c : Thread nD τ) 0 W') ∗ owns (c : Thread nD τ) IX fullShare (xtile X (wVt tb (gi n)).toNat) ∗ owns (c : Thread nD τ) O fullShare (visitC tb (gi n) (yAt tb hs X c gG gU gD (gi n)) d))) := by
  have hv : (gi n 0).val = n := gi_val n hn
  rcases n with _ | n
  · rw [phi_succ]
    show iprop(iprop(tables tb c ∗ _ ∗ resting c gG gU gD ∗ (∃ r, prngReg c r)) ∗ _ ∗ _ ∗ _) ⊢ _
    iintro ⟨⟨HT, ⟨⟨%g3, H3⟩, ⟨%g4, H4⟩, ⟨%g5, H5⟩⟩, HR, HP⟩, Ho, HX, HO⟩
    ihave HR := (resting_start c gG gU gD (wSlot tb (gi 0)) (hs.slot (gi 0)) 0xFFFFFFFF#32 none_word) $$ HR
    iapply (wp_wand_r _ _ _)
    isplitr [HP]
    · iapply (new_step tb hs X c gG gU gD IX hX O hO (gi 0) (hs.start _ hv) 0xFFFFFFFF#32 (.inl ⟨(cond2_iff _).2 hv, none_word⟩) W d g3 g4 g5)
      isplitl [HT]; · iexact HT
      isplitl [HR]; · iexact HR
      isplitl [Ho]; · iexact Ho
      isplitl [H3 H4 H5]
      · isplitl [H3]; · iexact H3
        isplitl [H4]; · iexact H4
        iexact H5
      isplitl [HX]; · iexact HX
      iexact HO
    iintro %u ⟨HS, Ho, HT, HR, HX, HO⟩
    isplitl [HT HR HS HP]
    · isplitl [HT]; · iexact HT
      isplitl [HR]; · iexact HR
      isplitl [HS]; · iexact HS
      iexact HP
    isplitl [Ho]; · iexact Ho
    isplitl [HX]; · iexact HX
    iexact HO
  · have hj : (gi n 0).val + 1 = (gi (n + 1) 0).val := by rw [hv, gi_val n (by omega)]
    have h2 : ¬ k0_cond2 (gi (n + 1)) = 1#1 := fun h => by have := (cond2_iff _).1 h; omega
    by_cases h1 : k0_cond1 (wNew tb (gi (n + 1))) = 1#1
    · obtain ⟨e1, e2⟩ := hs.new _ _ hj h1
      rw [phi_succ tb hs c gG gU gD (n + 1)]
      show iprop(iprop(tables tb c ∗ rounded c gG gU gD _ _ ∗ slots c gG gU gD _ _ _ ∗ (∃ r, prngReg c r)) ∗ _ ∗ _ ∗ _) ⊢ _
      iintro ⟨⟨HT, HQ, HR, HP⟩, Ho, HX, HO⟩
      ihave HQ := (rounded_out c gG gU gD _ _) $$ HQ
      icases HQ with ⟨H3, H4, H5⟩
      ihave HR := (slots_new c gG gU gD _ _ _ (wSlot tb (gi (n + 1))) (hs.slot (gi (n + 1))) (wVe tb (gi (n + 1))) e2 e1) $$ HR
      iapply (wp_wand_r _ _ _)
      isplitr [HP]
      · iapply (new_step tb hs X c gG gU gD IX hX O hO (gi (n + 1)) h1 (wVe tb (gi (n + 1))) (.inr ⟨h2, rfl⟩) W d _ _ _)
        isplitl [HT]; · iexact HT
        isplitl [HR]; · iexact HR
        isplitl [Ho]; · iexact Ho
        isplitl [H3 H4 H5]
        · isplitl [H3]; · iexact H3
          isplitl [H4]; · iexact H4
          iexact H5
        isplitl [HX]; · iexact HX
        iexact HO
      iintro %u ⟨HS, Ho, HT, HR, HX, HO⟩
      isplitl [HT HR HS HP]
      · isplitl [HT]; · iexact HT
        isplitl [HR]; · iexact HR
        isplitl [HS]; · iexact HS
        iexact HP
      isplitl [Ho]; · iexact Ho
      isplitl [HX]; · iexact HX
      iexact HO
    · obtain ⟨e1, e2, e3⟩ := hs.keep _ _ hj h1
      rw [phi_succ tb hs c gG gU gD (n + 1)]
      show iprop(iprop(tables tb c ∗ rounded c gG gU gD _ _ ∗ slots c gG gU gD _ _ _ ∗ (∃ r, prngReg c r)) ∗ _ ∗ _ ∗ _) ⊢ _
      iintro ⟨⟨HT, HR, HS, HP⟩, Ho, HX, HO⟩
      ihave HR := (rounded_same c gG gU gD _ _ (wVe tb (gi (n + 1))) (hs.exp (gi (n + 1))) e1) $$ HR
      ihave HS := (slots_same c gG gU gD _ _ _ (wSlot tb (gi (n + 1))) (hs.slot (gi (n + 1))) (wNext tb (gi (n + 1))) e3 e2) $$ HS
      iapply (wp_wand_r _ _ _)
      isplitr [HP Ho HS]
      · iapply (old_step tb hs X c gG gU gD IX hX O hO (gi (n + 1)) h1 d)
        isplitl [HT]; · iexact HT
        isplitl [HR]; · iexact HR
        isplitl [HX]; · iexact HX
        iexact HO
      iintro %u ⟨HT, HR, HX, HO⟩
      isplitl [HT HR HS HP]
      · isplitl [HT]; · iexact HT
        isplitl [HR]; · iexact HR
        isplitl [HS]; · iexact HS
        iexact HP
      isplitl [Ho]; · iexists W; iexact Ho
      isplitl [HX]; · iexact HX
      iexact HO
end

/-! ## The tables as the pipeline reads them -/

/-- The tables' contents in the pipeline's order. -/
def pfOf (tb : Fin 9 → Tbl F) : pre0.Contents (Elt F) := fun
  | 0 => tb 0 | 1 => tb 1 | 2 => tb 2 | 3 => tb 3 | 4 => tb 4 | 5 => tb 5 | 6 => tb 6 | 7 => tb 7 | 8 => tb 8
  | ⟨_ + 9, h⟩ => absurd h (Nat.not_lt.2 (Nat.le_add_left _ _))

theorem index_in (tb : Fin 9 → Tbl F) (i : grid0.Coords) : cc0_transform_0 k0_off1_inb numel1_S1 (pfOf tb) i = ![(wVt tb i).toNat, 0] :=
  congrArg (fun x => ![(tb 0 x).toNat, 0]) (idx_word i (k0_off1_inb i) _)
theorem index_out (tb : Fin 9 → Tbl F) (i : grid0.Coords) : cc0_transform_4 k0_off1_inb numel1_S1 (pfOf tb) i = ![(wVt tb i).toNat, 0] :=
  congrArg (fun x => ![(tb 0 x).toNat, 0]) (idx_word i (k0_off1_inb i) _)

theorem inside (k : ℕ) (h : k < 128) : ∀ a, ((![k, 0] : Fin 2 → ℕ) a + 1) * S4352x128.size a ≤ S557056x128.size a := by
  intro a
  fin_cases a
  · show (k + 1) * 4352 ≤ 557056; omega
  · show (0 + 1) * 128 ≤ 128; omega

theorem tables_ok (tb : Fin 9 → Tbl F) (hs : Sched tb) : ok0 (pfOf tb) :=
  ⟨fun i => ⟨by rw [index_in]; exact inside _ (hs.tile i), .inl rfl⟩, fun i => ⟨by rw [index_out]; exact inside _ (hs.tile i), .inl rfl⟩⟩

abbrev adm (tb : Fin 9 → Tbl F) (hs : Sched tb) : (pcfg0 (F := F)).Adm := ⟨pfOf tb, tables_ok tb hs⟩

theorem off30_eq (i : grid0.Coords) (h : ∀ a, k0_off30 i a + 1 ≤ S160.size a) : (fun a => ⟨k0_off30 i a, h a⟩ : S160.Idx) = vIdx i := by
  rw [← idx_word i (k0_off1_inb i) (fun a => ⟨0, by revert a; decide⟩)]
  funext a
  apply Fin.ext
  show k0_off30 i a = k0_off1 i a + 0 * 1
  rfl
theorem off30_inb (i : grid0.Coords) : ∀ a, k0_off30 i a + 1 ≤ S160.size a := fun a => by have h := k0_off1_inb i a; fin_cases a; exact h

theorem atD_valid (tb : Fin 9 → Tbl F) (i : grid0.Coords) : (pfOf tb).atD 5 (k0_off30 i) = wValid tb i :=
  (dif_pos (off30_inb i)).trans (congrArg (tb 5) (off30_eq i _))
theorem atD_first (tb : Fin 9 → Tbl F) (i : grid0.Coords) : (pfOf tb).atD 4 (k0_off31 i) = wFirst tb i :=
  (dif_pos (off30_inb i)).trans (congrArg (tb 4) (off30_eq i _))
theorem atD_first' (tb : Fin 9 → Tbl F) (i : grid0.Coords) : (pfOf tb).atD 4 (k0_off32 i) = wFirst tb i :=
  (dif_pos (off30_inb i)).trans (congrArg (tb 4) (off30_eq i _))

/-- A visit is idle for the result's window where it stores nothing. -/
theorem idle_iff (tb : Fin 9 → Tbl F) (i : grid0.Coords) : idle0 (pfOf tb) 1 i = true ↔
    ¬ (k0_cond4 (wValid tb i) = 1#1 ∧ k0_cond5 (wFirst tb i) = 1#1) ∧ ¬ (k0_cond4 (wValid tb i) = 1#1 ∧ k0_cond6 (wFirst tb i) = 1#1) := by
  show (!(k0_cond4 ((pfOf tb).atD 5 (k0_off30 i)) == 1#1 && k0_cond5 ((pfOf tb).atD 4 (k0_off31 i)) == 1#1) && !(k0_cond4 ((pfOf tb).atD 5 (k0_off30 i)) == 1#1 && k0_cond6 ((pfOf tb).atD 4 (k0_off32 i)) == 1#1)) = true ↔ _
  rw [atD_valid, atD_first, atD_first']
  simp only [Bool.and_eq_true, Bool.not_eq_true', Bool.and_eq_false_iff, beq_eq_false_iff_ne, ne_eq, not_and_or]

end Cert.Kernel2Ideal.Hand

end
-- ==== Proof.ExpertsLaunch.lean ====
/- The experts kernel launched: every block of the result after its last visit, and the frame. -/
module

public import proofs.«01_k».proof.Proof.ExpertsVisit
public import proofs.«01_k».proof.Proof.Gen.Kernel2Ideal.Launch
public import Idealize.ShloMosaic.Lib.Pipeline.TableIdle
public import Idealize.ShloMosaic.Lib.Pipeline.Value
public import Idealize.ShloMosaic.Lib.Pipeline.FrameSuffix
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations allocate nothing twice. -/
theorem hostOps0_fresh : (hostOps0 : List (HloOp τ sig (Elt F))).Forall fun op => op.fresh = ∅ := by
  simp only [List.Forall]; repeat' constructor

/-- All the buffers as the pipeline finds them. -/
abbrev V₀ (c : Dev nD) : Valuation τ sig (Elt F) := StableHlo.after hostOps0 fun b => m (c, b)
/-- The arrays as the pipeline finds them. -/
def V (c : Dev nD) (b : Ref sig .tc) : Buf (Elt F) ((c : Thread nD τ).loc b) := V₀ m c (Proc.devRef .tc b)

theorem hostOps1_fresh : (hostOps1 : List (HloOp τ sig (Elt F))).Forall fun op => op.fresh = ∅ := by
  simp only [List.Forall]; repeat' constructor

theorem hmain (𝒱 : Variants) : Pipeline.HMainPK (Ix := Unit) (Name := ℕ) (U := Pipeline.UD sig nD τ) (Lvl := ℕ) pcfgs 0 defs₀ 𝒱 m (main (F := F))
    (fun c b => V₀ m c (Proc.devRef .tc b)) (fun _ => Pipeline.chain ([hostOps1].map StableHlo.seq)) :=
  Pipeline.hmainP_around pcfgs 0 defs₀ 𝒱 m main [hostOps0] [hostOps1] hostOps0_sub hostOps0_fresh main_chain

/-- A buffer that none of the first lines writes is as it was. -/
theorem V_same (c : Dev nD) (b : Ref sig .tc) (h : b ∉ [main_v0, main_cst, main_v1, main_v2, main_v3]) : V m c b = m ((c : Thread nD τ).loc b) := by
  simp only [List.mem_cons, List.not_mem_nil, or_false, not_or] at h
  refine StableHlo.after_of_forall_not_mem (b := Proc.devRef .tc b) _ _ (List.forall_iff_forall_mem.mp ?_)
  simp only [List.Forall, StableHlo.nullary_writes, StableHlo.unary_writes, StableHlo.binary_writes, StableHlo.reshape_writes, Finset.mem_singleton]
  exact ⟨StableHlo.devRef_ne_of_ne h.1, StableHlo.devRef_ne_of_ne h.2.1, StableHlo.devRef_ne_of_ne h.2.2.1, StableHlo.devRef_ne_of_ne h.2.2.2.1, StableHlo.devRef_ne_of_ne h.2.2.2.2⟩

/-- The nine tables. -/
def tbM : Fin 9 → Tbl F := fun
  | 0 => m (((0 : Dev nD) : Thread nD τ).loc main_arg0)
  | 1 => m (((0 : Dev nD) : Thread nD τ).loc main_arg1)
  | 2 => m (((0 : Dev nD) : Thread nD τ).loc main_arg2)
  | 3 => m (((0 : Dev nD) : Thread nD τ).loc main_arg3)
  | 4 => m (((0 : Dev nD) : Thread nD τ).loc main_arg4)
  | 5 => m (((0 : Dev nD) : Thread nD τ).loc main_arg5)
  | 6 => m (((0 : Dev nD) : Thread nD τ).loc main_arg6)
  | 7 => m (((0 : Dev nD) : Thread nD τ).loc main_arg7)
  | 8 => m (((0 : Dev nD) : Thread nD τ).loc main_arg8)
  | ⟨_ + 9, h⟩ => absurd h (Nat.not_lt.2 (Nat.le_add_left _ _))

theorem pf_eq (c : Dev nD) (k : Fin 9) : V m c (pre0.ref k) = pfOf (tbM m) k := by
  obtain rfl : c = 0 := Subsingleton.elim _ _
  fin_cases k
  · exact V_same m 0 main_arg0 (by decide)
  · exact V_same m 0 main_arg1 (by decide)
  · exact V_same m 0 main_arg2 (by decide)
  · exact V_same m 0 main_arg3 (by decide)
  · exact V_same m 0 main_arg4 (by decide)
  · exact V_same m 0 main_arg5 (by decide)
  · exact V_same m 0 main_arg6 (by decide)
  · exact V_same m 0 main_arg7 (by decide)
  · exact V_same m 0 main_arg8 (by decide)

/-- The packed rows. -/
abbrev xs (c : Dev nD) : FVec F S557056x128 .f32 := V m c main_v3

variable (hs : Sched (tbM m))

abbrev outsM (c : Dev nD) (n : ℕ) : Vec F S4352x128 .f32 :=
  outs (tbM m) hs (xs m c) c (V m c main_arg11) (V m c main_arg12) (V m c main_arg13) n
abbrev phiM (c : Dev nD) (n : ℕ) : sProp 𝕄 :=
  phi (tbM m) hs c (V m c main_arg11) (V m c main_arg12) (V m c main_arg13) n

abbrev admM : (p : Fin 1) → (pcfgs (F := F) p).Adm := fun _ => adm (tbM m) hs
abbrev cfgM : Pipeline.Cfg sig Λ₀ := cfg0 (adm (tbM m) hs)

/-- The pipeline's proof data. -/
def dats (p : Fin 1) (c : Dev nD) : Dat τ (Elt F) Unit ℕ (Pipeline.UD sig nD τ) ℕ (Pipeline.pin pcfgs (admM m hs) p) c where
  A w := V m c (Pipeline.arrRef spec0 w)
  after w t := match w with
    | ⟨0, _⟩ => xtile (xs m c) (wVt (tbM m) (gi t.val)).toNat
    | ⟨1, _⟩ => outsM m hs c t.val
  Φ t := phiM m hs c t.val
  q _ := fullShare
  owed _ := 0

theorem after_in (c : Dev nD) (t : Fin grid0.N) : (dats m hs 0 c).after 0 t = xtile (xs m c) (wVt (tbM m) (gi t.val)).toNat := rfl
theorem after_out (c : Dev nD) (t : Fin grid0.N) : (dats m hs 0 c).after 1 t = outsM m hs c t.val := rfl

/-- A block of the packed rows is a tile. -/
theorem blk_in (c : Dev nD) (t : Fin grid0.N) :
    (((cfgM m hs).win 0).blk t).view.read (Elt F) (V m c (Pipeline.arrRef spec0 0)) = xtile (xs m c) (wVt (tbM m) (gi t.val)).toNat := by
  have e : cc0_transform_0 k0_off1_inb numel1_S1 (pfOf (tbM m)) (grid0.coords t) = ![(wVt (tbM m) (gi t.val)).toNat, 0] := by
    rw [index_in, coords_gi]
  have hk := hs.tile (gi t.val)
  refine funext fun (j : S4352x128.Idx) => ?_
  show xs m c _ = xs m c _
  congr 1
  funext a
  apply Fin.ext
  fin_cases a
  · show cc0_transform_0 k0_off1_inb numel1_S1 (pfOf (tbM m)) (grid0.coords t) 0 * 4352 + 1 * (j 0).val = (wVt (tbM m) (gi t.val)).toNat % 128 * 4352 + (j 0).val
    rw [e, Nat.mod_eq_of_lt hk]
    show (wVt (tbM m) (gi t.val)).toNat * 4352 + 1 * (j 0).val = _
    omega
  · show cc0_transform_0 k0_off1_inb numel1_S1 (pfOf (tbM m)) (grid0.coords t) 1 * 128 + 1 * (j 1).val = (j 1).val
    rw [e]
    show 0 * 128 + 1 * (j 1).val = (j 1).val
    omega

theorem before_in (c : Dev nD) (t : Fin grid0.N) (d) : (dats m hs 0 c).before 0 t d = xtile (xs m c) (wVt (tbM m) (gi t.val)).toNat :=
  ((dats m hs 0 c).before_in_eq_fetched 0 rfl (fun _ => rfl) (fun _ _ _ => rfl) (fun t => by
    rw [after_in]; exact (blk_in m hs c t).symm) t d).trans
    (by unfold Dat.fetched; exact blk_in m hs c t)

theorem N_160 : grid0.N = 160 := by decide

theorem flush_moves (t : Fin grid0.N) (h : ((cfgM m hs).win 1).flush t = true) : t.val + 1 = 160 ∨
    (t.val + 1 < 160 ∧ wVt (tbM m) (gi (t.val + 1)) ≠ wVt (tbM m) (gi t.val)) := by
  have hb : (t.val + 1 = grid0.N) ∨ (∃ h : t.val + 1 < grid0.N, ((cfgM m hs).win 1).index ⟨t.val + 1, h⟩ ≠ ((cfgM m hs).win 1).index t) := by
    have h' : (true && (decide (t.val + 1 = grid0.N) || decide (∃ h : t.val + 1 < grid0.N, ((cfgM m hs).win 1).index ⟨t.val + 1, h⟩ ≠ ((cfgM m hs).win 1).index t))) = true := h
    simpa only [Bool.true_and, Bool.or_eq_true, decide_eq_true_eq] using h'
  rcases hb with hb | ⟨hl, hb⟩
  · left; rw [hb]; exact N_160
  · right
    refine ⟨by rw [← N_160]; exact hl, fun he => hb ?_⟩
    show cc0_transform_4 k0_off1_inb numel1_S1 (pfOf (tbM m)) (grid0.coords ⟨t.val + 1, hl⟩) = cc0_transform_4 k0_off1_inb numel1_S1 (pfOf (tbM m)) (grid0.coords t)
    rw [index_out, index_out, coords_gi, coords_gi, he]

theorem idle_out (t : Fin grid0.N) : (cfgM m hs).idle 1 (grid0.coords t) = true ↔
    ¬ (k0_cond4 (wValid (tbM m) (gi t.val)) = 1#1 ∧ k0_cond5 (wFirst (tbM m) (gi t.val)) = 1#1) ∧ ¬ (k0_cond4 (wValid (tbM m) (gi t.val)) = 1#1 ∧ k0_cond6 (wFirst (tbM m) (gi t.val)) = 1#1) := by
  rw [← coords_gi]
  exact idle_iff (tbM m) (grid0.coords t)

/-- A fresh buffer meets a tile's first visit. -/
theorem fresh_first : ∀ n, n < 160 → (cfgM m hs).fresh 1 n = true → k0_cond4 (wValid (tbM m) (gi n)) = 1#1 ∧ k0_cond5 (wFirst (tbM m) (gi n)) = 1#1 := by
  intro n
  induction n with
  | zero => intro _ _; exact hs.fresh _ rfl
  | succ n ih =>
    intro hn hf
    have hN : n < grid0.N := by rw [N_160]; omega
    rw [(cfgM m hs).fresh_succ 1 n hN, Bool.or_eq_true] at hf
    rcases hf with hf | hf
    · rcases flush_moves m hs ⟨n, hN⟩ hf with h | ⟨_, h⟩
      · exact absurd h (by show ¬ n + 1 = 160; omega)
      · exact hs.move _ _ (by rw [gi_val n (by omega), gi_val (n + 1) hn]) h
    · rw [Bool.and_eq_true] at hf
      exact absurd (ih (by omega) hf.2) ((idle_out m hs ⟨n, hN⟩).1 hf.1).1

abbrev yM (c : Dev nD) (n : ℕ) : FVec F S256x2048 .f32 :=
  yAt (tbM m) hs (xs m c) c (V m c main_arg11) (V m c main_arg12) (V m c main_arg13) (gi n)

/-- A visit idle for the result leaves the contents before it. -/
theorem outs_idle (c : Dev nD) (n : ℕ) (h : ¬ (k0_cond4 (wValid (tbM m) (gi (n + 1))) = 1#1 ∧ k0_cond5 (wFirst (tbM m) (gi (n + 1))) = 1#1)) (h' : ¬ (k0_cond4 (wValid (tbM m) (gi (n + 1))) = 1#1 ∧ k0_cond6 (wFirst (tbM m) (gi (n + 1))) = 1#1)) :
    outsM m hs c (n + 1) = outsM m hs c n := visitC_idle (tbM m) (gi (n + 1)) h h' _ _

theorem before_out (c : Dev nD) (t : Fin grid0.N) (d) : (dats m hs 0 c).before 1 t d = if (cfgM m hs).fresh 1 t.val then d else (dats m hs 0 c).after 1 ⟨t.val - 1, lt_of_le_of_lt (Nat.sub_le _ _) t.isLt⟩ :=
  Dat.before_out_traj (dats m hs 0 c) 1 rfl (fun _ _ => rfl) (fun t ht hi hf => by
    rw [after_out, after_out]
    obtain ⟨n, hn⟩ := t
    rcases n with _ | n
    · exact absurd rfl ht
    · have := (idle_out m hs ⟨n + 1, hn⟩).1 hi
      exact outs_idle m hs c n this.1 this.2) t.val t rfl d

/-- What a visit makes of what it found. -/
theorem visit_before (c : Dev nD) (t : Fin grid0.N) (d) :
    visitC (tbM m) (gi t.val) (yM m hs c t.val) ((dats m hs 0 c).before 1 t d) = outsM m hs c t.val := by
  rw [before_out]
  obtain ⟨n, hn⟩ := t
  have hn' : n < 160 := by rw [← N_160]; exact hn
  by_cases hf : (cfgM m hs).fresh 1 n = true
  · obtain ⟨h4, h5⟩ := fresh_first m hs n hn' hf
    rcases n with _ | n <;> exact visitC_const _ _ h4 h5 _ _ _
  · rw [if_neg hf, after_out]
    rcases n with _ | n
    · exact absurd ((cfgM m hs).fresh_zero 1) hf
    · rfl

/-! ## The body at every point -/

abbrev ms0 (t : Fin grid0.N) : Memref sig .tc .vmem S4352x128 .f32 := spec0_0.stage ((cfgM m hs).slots t 0)
abbrev ms1 (t : Fin grid0.N) : Memref sig .tc .vmem S4352x128 .f32 := spec0_1.stage ((cfgM m hs).slots t 1)

abbrev bodyAt (t : Fin grid0.N) : Prog (TpuEff nD τ sig (Elt F) Λ₀ .tc) PUnit :=
  bodyProg (ms0 m hs t) (hstage0_0 (((cfgM m hs).slots t 0).cast nbuf0_0)) (ms1 m hs t) (hstage0_1 (((cfgM m hs).slots t 1).cast nbuf0_1)) (grid0.coords t)

def bodyPre (c : Dev nD) (t : Fin grid0.N) : sProp 𝕄 :=
  iprop((dats m hs 0 c).Φ t.castSucc ∗ (dats m hs 0 c).owesAt () t.castSucc
    ∗ (∃ d, owns (c : Thread nD τ) (ms0 m hs t) fullShare ((dats m hs 0 c).before 0 t d))
    ∗ (∃ d, owns (c : Thread nD τ) (ms1 m hs t) fullShare ((dats m hs 0 c).before 1 t d)))

def bodyPost (c : Dev nD) (t : Fin grid0.N) : sProp 𝕄 :=
  iprop((dats m hs 0 c).Φ t.succ ∗ (dats m hs 0 c).owesAt () t.succ
    ∗ owns (c : Thread nD τ) (ms0 m hs t) fullShare ((dats m hs 0 c).after 0 t)
    ∗ (dats m hs 0 c).leavesExact 1 t)

/-- The result's buffer handed back. -/
theorem give_out (c : Dev nD) (t : Fin grid0.N) (d) :
    owns (c : Thread nD τ) (ms1 m hs t) fullShare (visitC (tbM m) (gi t.val) (yM m hs c t.val) ((dats m hs 0 c).before 1 t d))
      ⊢ ((dats m hs 0 c).leavesExact 1 t : sProp 𝕄) := by
  by_cases hi : (cfgM m hs).idle 1 (grid0.coords t) = true
  · by_cases hf : ((cfgM m hs).win 1).flush t = true
    · have e : (dats m hs 0 c).leavesExact 1 t = owns (c : Thread nD τ) (ms1 m hs t) fullShare ((dats m hs 0 c).after 1 t) := by
        unfold Dat.leavesExact; rw [hi, hf]; rfl
      rw [e, after_out, visit_before]
    · rw [(dats m hs 0 c).leavesExact_idle 1 t hi (by simpa using hf)]
      have h := (idle_out m hs t).1 hi
      have key : ∀ D : Vec F S4352x128 .f32, (owns (c : Thread nD τ) (ms1 m hs t) fullShare (visitC (tbM m) (gi t.val) (yM m hs c t.val) D) : sProp 𝕄) ⊢ owns (c : Thread nD τ) (ms1 m hs t) fullShare D := fun D => by
        rw [visitC_idle _ _ h.1 h.2]
      iintro H
      iexists d
      iapply (key _)
      iexact H
  · have e : (dats m hs 0 c).leavesExact 1 t = owns (c : Thread nD τ) (ms1 m hs t) fullShare ((dats m hs 0 c).after 1 t) := by
      unfold Dat.leavesExact; rw [show (cfgM m hs).idle 1 (grid0.coords t) = false by simpa using hi]; rfl
    rw [e, after_out, visit_before]

theorem sound_body (c : Dev nD) (t : Fin grid0.N) :
    bodyPre m hs c t ⊢ wp frame (wpE (defs₀ (F := F)) Variants.none (c : Thread nD τ) none) Set.univ (bodyAt m hs t) (fun _ => bodyPost m hs c t) := by
  have ht : t.val < 160 := by rw [← N_160]; exact t.isLt
  unfold bodyPre bodyPost bodyAt Dat.owesAt Pipeline.owesWithin
  rw [show (dats m hs 0 c).owed t.castSucc = 0 from rfl, show (dats m hs 0 c).owed t.succ = 0 from rfl,
    show (dats m hs 0 c).Φ t.castSucc = phiM m hs c t.val from rfl, show (dats m hs 0 c).Φ t.succ = phiM m hs c (t.val + 1) from rfl, after_in, coords_gi]
  simp only [before_in]
  iintro ⟨HΦ, ⟨%W, -, HW⟩, ⟨%d0, H0⟩, ⟨%d1, H1⟩⟩
  iapply (wp_wand_r _ _ _)
  isplitl
  · iapply (visit_step (tbM m) hs (xs m c) c (V m c main_arg11) (V m c main_arg12) (V m c main_arg13) (ms0 m hs t) _ (ms1 m hs t) _ t.val ht W ((dats m hs 0 c).before 1 t d1))
    isplitl [HΦ]; · iexact HΦ
    isplitl [HW]; · iexact HW
    isplitl [H0]; · iexact H0
    iexact H1
  iintro %u ⟨HΦ, ⟨%W', HW⟩, H0, H1⟩
  isplitl [HΦ]; · iexact HΦ
  isplitl [HW]
  · iexists W'; isplitr
    · ipureintro; exact fun _ _ => Or.inl trivial
    iexact HW
  isplitl [H0]; · iexact H0
  iapply (give_out m hs c t d1)
  iexact H1

theorem defs₀_row (t : Fin grid0.N) :
    defs₀ (F := F) .tc (cfgM m hs).body ((cfgM m hs).bodyArgs t ((cfgM m hs).slots t)) = bodyAt m hs t := by
  unfold defs₀; rw [Defs.onTc_tc]
  exact body_eq (ms0 m hs t) (hstage0_0 (((cfgM m hs).slots t 0).cast nbuf0_0)) (ms1 m hs t) (hstage0_1 (((cfgM m hs).slots t 1).cast nbuf0_1)) (grid0.coords t)

theorem body_obligation (c : Dev nD) : BodyObligation (dats m hs 0 c) (defs₀ (F := F)) Variants.none () Set.univ := fun t => by
  rw [bigSep_W0, bigSep_W0, defs₀_row]
  exact triple_restated (sound_body m hs c t) rfl .rfl fun _ => .rfl

/-! ## Into the launch and out of it -/

def osem0 : Fin 2 → SemLoc sig := fun j => (![SemLoc.dma 4, SemLoc.dma 5]) j
theorem ownSemFacts0 : Pipeline.OwnSemFacts spec0 osem0 := by decide
theorem ownSems0_eq (c : Dev nD) : (Pipeline.ownSems0 (Ix := Unit) (Name := ℕ) (U := Pipeline.UD sig nD τ) (Lvl := ℕ) (Val := Elt F) osem0 c : sProp 𝕄)
    = iprop(semVal ((c : Thread nD τ), SemLoc.dma (slotSem 0#32 zero_lt2)) 0 ∗ semVal ((c : Thread nD τ), SemLoc.dma (slotSem 1#32 one_lt2)) 0) := by
  rw [Pipeline.ownSems0_eq_of_list c osem0 [0, 1] (by decide) (by decide)]; rfl

def H0 : Finset (Ref sig .tc) := {main_arg11, main_arg12, main_arg13}
theorem H0_sub : H0 ⊆ Pipeline.restRefsP sig pre0 spec0 := by decide
theorem hbm_eq (c : Dev nD) : (bigSep H0 (fun b => (c : Thread nD τ).loc b ↦{fullShare} V m c b) : sProp 𝕄)
    = weights c (V m c main_arg11) (V m c main_arg12) (V m c main_arg13) := by
  rw [BI.bigSep_eq_bigSepL_of_eq [main_arg11, main_arg12, main_arg13] (by decide) (by decide)]; rfl

theorem tables_eq (c : Dev nD) : (Pipeline.ΦT (U := Pipeline.UD sig nD τ) pre0 (pfOf (tbM m)) c : sProp 𝕄) = tables (tbM m) c := by
  unfold Pipeline.ΦT Pipeline.prefHeld
  rw [bigSep_univ_eq_bigSepL [(0 : Fin 9), 1, 2, 3, 4, 5, 6, 7, 8] (by decide) (by decide)]
  rfl

theorem own_eq (c : Dev nD) : (Pipeline.ΦD osem0 spec0 H0 (V m) c : sProp 𝕄)
    = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f))
      ∗ (∃ r, prngReg c r) ∗ (semVal ((c : Thread nD τ), SemLoc.dma (slotSem 0#32 zero_lt2)) 0 ∗ semVal ((c : Thread nD τ), SemLoc.dma (slotSem 1#32 one_lt2)) 0) ∗ weights c (V m c main_arg11) (V m c main_arg12) (V m c main_arg13)) := by
  rw [Pipeline.ΦD_eq, scopedRest0_eq, ownSems0_eq, hbm_eq]

theorem resting_eq (c : Dev nD) : (resting c (V m c main_arg11) (V m c main_arg12) (V m c main_arg13) : sProp 𝕄)
    = iprop((semVal ((c : Thread nD τ), SemLoc.dma (slotSem 0#32 zero_lt2)) 0 ∗ (∃ f : Buf (Elt F) ((c : Thread nD τ).loc cc0_scratch0), (dstG 0#32 zero_lt2).view.loc (c : Thread nD τ) ↦[(dstG 0#32 zero_lt2).view.set]{fullShare} f) ∗ (∃ f : Buf (Elt F) ((c : Thread nD τ).loc cc0_scratch1), (dstU 0#32 zero_lt2).view.loc (c : Thread nD τ) ↦[(dstU 0#32 zero_lt2).view.set]{fullShare} f) ∗ (∃ f : Buf (Elt F) ((c : Thread nD τ).loc cc0_scratch2), (dstD 0#32 zero_lt2).view.loc (c : Thread nD τ) ↦[(dstD 0#32 zero_lt2).view.set]{fullShare} f))
      ∗ (semVal ((c : Thread nD τ), SemLoc.dma (slotSem 1#32 one_lt2)) 0 ∗ (∃ f : Buf (Elt F) ((c : Thread nD τ).loc cc0_scratch0), (dstG 1#32 one_lt2).view.loc (c : Thread nD τ) ↦[(dstG 1#32 one_lt2).view.set]{fullShare} f) ∗ (∃ f : Buf (Elt F) ((c : Thread nD τ).loc cc0_scratch1), (dstU 1#32 one_lt2).view.loc (c : Thread nD τ) ↦[(dstU 1#32 one_lt2).view.set]{fullShare} f) ∗ (∃ f : Buf (Elt F) ((c : Thread nD τ).loc cc0_scratch2), (dstD 1#32 one_lt2).view.loc (c : Thread nD τ) ↦[(dstD 1#32 one_lt2).view.set]{fullShare} f))
      ∗ weights c (V m c main_arg11) (V m c main_arg12) (V m c main_arg13)) := rfl

theorem hin (c : Dev nD) : iprop(Pipeline.ΦD osem0 spec0 H0 (V m) c ∗ Pipeline.ΦT (U := Pipeline.UD sig nD τ) pre0 (pfOf (tbM m)) c) ⊢ (phiM m hs c 0 : sProp 𝕄) := by
  rw [own_eq, tables_eq]
  show _ ⊢ iprop(tables (tbM m) c ∗ _ ∗ resting c (V m c main_arg11) (V m c main_arg12) (V m c main_arg13) ∗ (∃ r, prngReg c r))
  rw [resting_eq]
  iintro ⟨⟨⟨H0, H1, H2, H3, H4, H5⟩, HP, ⟨S0, S1⟩, HW⟩, HT⟩
  ihave H0 := (splitG c) $$ H0
  ihave H1 := (splitU c) $$ H1
  ihave H2 := (splitD c) $$ H2
  icases H0 with ⟨G0, G1⟩
  icases H1 with ⟨U0, U1⟩
  icases H2 with ⟨D0, D1⟩
  isplitl [HT]; · iexact HT
  isplitl [H3 H4 H5]
  · isplitl [H3]; · iexact H3
    isplitl [H4]; · iexact H4
    iexact H5
  isplitr [HP]; swap; · iexact HP
  isplitl [S0 G0 U0 D0]
  · isplitl [S0]; · iexact S0
    isplitl [G0]; · iexact G0
    isplitl [U0]; · iexact U0
    iexact D0
  isplitl [S1 G1 U1 D1]
  · isplitl [S1]; · iexact S1
    isplitl [G1]; · iexact G1
    isplitl [U1]; · iexact U1
    iexact D1
  iexact HW

theorem hout (c : Dev nD) : (phiM m hs c 160 : sProp 𝕄) ⊢ Pipeline.ΦD osem0 spec0 H0 (V m) c := by
  rw [own_eq]
  show iprop(tables (tbM m) c ∗ rounded c (V m c main_arg11) (V m c main_arg12) (V m c main_arg13) _ _ ∗ slots c (V m c main_arg11) (V m c main_arg12) (V m c main_arg13) _ _ (wNext (tbM m) (gi 159)) ∗ (∃ r, prngReg c r)) ⊢ _
  have he := resting_end c (V m c main_arg11) (V m c main_arg12) (V m c main_arg13) (wSlot (tbM m) (gi 159)) (hs.slot (gi 159)) (wNext (tbM m) (gi 159)) (hs.last _ rfl)
  rw [resting_eq] at he
  iintro ⟨-, HR, HS, HP⟩
  ihave HR := (rounded_out c _ _ _ _ _) $$ HR
  icases HR with ⟨H3, H4, H5⟩
  ihave HS := he $$ HS
  icases HS with ⟨⟨S0, G0, U0, D0⟩, ⟨S1, G1, U1, D1⟩, HW⟩
  isplitr [HP S0 S1 HW]
  · isplitl [G0 G1]
    · iapply (joinG c)
      isplitl [G0]; · iexact G0
      iexact G1
    isplitl [U0 U1]
    · iapply (joinU c)
      isplitl [U0]; · iexact U0
      iexact U1
    isplitl [D0 D1]
    · iapply (joinD c)
      isplitl [D0]; · iexact D0
      iexact D1
    isplitl [H3]; · iexists _; iexact H3
    isplitl [H4]; · iexists _; iexact H4
    iexists _; iexact H5
  isplitl [HP]; · iexact HP
  isplitl [S0 S1]
  · isplitl [S0]; · iexact S0
    iexact S1
  iexact HW

/-- The lines after the kernel touch neither a table nor the weights. -/
theorem tail_bufs : ∀ ops ∈ ([hostOps1] : List (List (HloOp τ sig (Elt F)))), ∀ op ∈ ops, op.bufs ⊆ Pipeline.tailRefsBut sig pre0 spec0 H0 := by
  intro ops hops op hop
  obtain rfl := List.mem_singleton.1 hops
  have hb := List.forall_iff_forall_mem.mp hostOps1_sub op hop
  have sub : op.bufs ⊆ ({Proc.devRef .tc main_v4, Proc.devRef .tc main_v5, Proc.devRef .tc main_v6, Proc.devRef .tc main_v7} : Finset (DevRef τ sig)) := by
    simp only [hostOps1, List.mem_cons, List.not_mem_nil, or_false] at hop
    rcases hop with rfl | rfl | rfl <;> simp only [StableHlo.reshape_bufs, StableHlo.unary_bufs] <;> intro x hx <;>
      simp only [Finset.mem_insert, Finset.mem_singleton] at hx ⊢ <;> tauto
  have no (b : Ref sig .tc) (h : b ∉ [main_v4, main_v5, main_v6, main_v7]) : Proc.devRef .tc b ∉ op.bufs := fun hx => by
    have := sub hx
    simp only [List.mem_cons, List.not_mem_nil, or_false, not_or] at h
    simp only [Finset.mem_insert, Finset.mem_singleton] at this
    rcases this with e | e | e | e
    · exact StableHlo.devRef_ne_of_ne h.1 e
    · exact StableHlo.devRef_ne_of_ne h.2.1 e
    · exact StableHlo.devRef_ne_of_ne h.2.2.1 e
    · exact StableHlo.devRef_ne_of_ne h.2.2.2 e
  refine Pipeline.sub_tailRefsBut pre0 spec0 H0 op hb (fun k => no _ ?_) (fun b hb => no _ ?_)
  · exact (by decide : ∀ k, pre0.ref k ∉ [main_v4, main_v5, main_v6, main_v7]) k
  · exact (by decide : ∀ b ∈ H0, b ∉ [main_v4, main_v5, main_v6, main_v7]) b hb

/-- The lines after the kernel write only their own results. -/
theorem tail_writes : ∀ op ∈ (hostOps1 : List (HloOp τ sig (Elt F))), ∀ b : Ref sig .tc, b ∉ [main_v5, main_v6, main_v7] → Proc.devRef .tc b ∉ op.writes := by
  intro op hop b h
  simp only [List.mem_cons, List.not_mem_nil, or_false, not_or] at h
  simp only [hostOps1, List.mem_cons, List.not_mem_nil, or_false] at hop
  rcases hop with rfl | rfl | rfl <;> simp only [StableHlo.reshape_writes, StableHlo.unary_writes, Finset.mem_singleton]
  · exact StableHlo.devRef_ne_of_ne h.1
  · exact StableHlo.devRef_ne_of_ne h.2.1
  · exact StableHlo.devRef_ne_of_ne h.2.2

theorem tail_keeps : ∀ ops ∈ ([hostOps1] : List (List (HloOp τ sig (Elt F)))), ∀ op ∈ ops, ∀ w, Proc.devRef .tc (Pipeline.arrRef spec0 w) ∉ op.writes := by
  intro ops hops op hop w
  obtain rfl := List.mem_singleton.1 hops
  exact tail_writes op hop _ ((by decide : ∀ w, Pipeline.arrRef spec0 w ∉ [main_v5, main_v6, main_v7]) w)

/-- The buffers after the last line. -/
abbrev T (c : Dev nD) (b : Ref sig .tc) : Buf (Elt F) ((c : Thread nD τ).loc b) := Pipeline.afterTail pcfgs (admM m hs) (dats m hs) 0 (V₀ m) [hostOps1] c b

set_option backward.isDefEq.respectTransparency.types false in
/-- The launch: every core's arrays as the pipeline leaves them, the other buffers as the lines after it leave them, and every
semaphore counter at zero. -/
theorem run_main_quiescent : θ_run defs (onTc (τ := τ) (main (F := F))) (s₀ m ρ) (fun r => (Pipeline.FramePost (Pipeline.pin pcfgs (admM m hs)) (dats m hs) 0 (T m hs)) r ∧ r.2.sem = fun _ => 0) :=
  Pipeline.θ_run_frameP_dma_around (Q' := _) pcfgs (admM m hs) (dats m hs) (0 : Fin 1) launch0 osem0 defs₀ Variants.none ownSemFacts0 H0 H0_sub m ρ main
    (hbody := fun c => (body_obligation m hs c).loose) (hshare := fun c => (dats m hs 0 c).share_full fun _ => rfl)
    (howed := fun _ _ => rfl) (V₀ := V₀ m) (opss := [hostOps1]) (hsub := tail_bufs)
    (hfresh := fun ops hops op hop => List.forall_iff_forall_mem.mp hostOps1_fresh op (List.mem_singleton.1 hops ▸ hop)) (hkeep := tail_keeps)
    (hmain := hmain m Variants.none) (hA := fun _ _ => rfl) (hpf := fun c k => pf_eq m c k)
    (hin := fun c => hin m hs c) (hout := fun c => hout m hs c)

/-- A buffer that no line writes, no array of the pipeline, is as it was. -/
theorem T_same (c : Dev nD) (b : Ref sig .tc) (h : b ∉ [main_v5, main_v6, main_v7]) (ha : ∀ w, Pipeline.arrRef spec0 w ≠ b)
    (h' : b ∉ [main_v0, main_cst, main_v1, main_v2, main_v3]) : T m hs c b = m ((c : Thread nD τ).loc b) := by
  refine Eq.trans ?_ (V_same m c b h')
  refine (StableHlo.after_of_forall_not_mem (b := Proc.devRef .tc b) [hostOps1].flatten _ fun op hop => tail_writes op (by simpa using hop) b h).trans ?_
  exact Pipeline.withArrays_of_ne spec0 c (V₀ m c) _ b ha

/-- The result: the rows of the pipeline's second array without their last lines. -/
theorem T_result (c : Dev nD) : T m hs c main_v7 = (shapeCast S32768x2048 (extractStridedSlice S32768x16x128 ![0, 0, 0]
      (shapeCast S32768x17x128 (((dats m hs 0 c).arrAt 1 (cfgM m hs).N : (⟨S557056x128, .f32⟩ : BufTy).Contents (Elt F))) shapeCasts_S557056x128_S32768x17x128)
      slices_S32768x17x128_S32768x16x128_0_0_0) shapeCasts_S32768x16x128_S32768x2048 : (⟨S32768x2048, .f32⟩ : BufTy).Contents (Elt F)) := by
  have e := Pipeline.withArrays_arr spec0 (launch0 (F := F)).win.arr_inj c (V₀ m c) (fun w => (dats m hs 0 c).arrAt w (cfgM m hs).N) 1
  show StableHlo.after hostOps1 (Pipeline.withArrays spec0 c (V₀ m c) fun w => (dats m hs 0 c).arrAt w (cfgM m hs).N) (Proc.devRef .tc main_v7) = _
  after_results_simp
  rw [← e]
  rfl

theorem arg_rest (b : Ref sig .tc) (h : b.isScoped = false) (h' : ∀ w, (spec0 w).arr.view.ref ≠ b) : b ∈ Pipeline.restRefs sig spec0 :=
  Pipeline.mem_restRefs_of b h h'

theorem kept (r : PUnit × MemSt nD τ sig (Elt F)) (h : (Pipeline.FramePost (Pipeline.pin pcfgs (admM m hs)) (dats m hs) 0 (T m hs)) r ∧ r.2.sem = fun _ => 0) (c : Dev nD)
    (b : Ref sig .tc) (hs' : b.isScoped = false) (h' : ∀ w, (spec0 w).arr.view.ref ≠ b) (h1 : b ∉ [main_v5, main_v6, main_v7])
    (ha : ∀ w, Pipeline.arrRef spec0 w ≠ b) (h2 : b ∉ [main_v0, main_cst, main_v1, main_v2, main_v3]) :
    r.2.mem ((c : Thread nD τ).loc b) = m ((c : Thread nD τ).loc b) :=
  ((h.1 c).2 b (arg_rest b hs' h')).trans (T_same m hs c b h1 ha h2)

include hs in
/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨
      kept m hs r h c main_arg0 (by decide) (by decide) (by decide) (by decide) (by decide),
      kept m hs r h c main_arg1 (by decide) (by decide) (by decide) (by decide) (by decide),
      kept m hs r h c main_arg2 (by decide) (by decide) (by decide) (by decide) (by decide),
      kept m hs r h c main_arg3 (by decide) (by decide) (by decide) (by decide) (by decide),
      kept m hs r h c main_arg4 (by decide) (by decide) (by decide) (by decide) (by decide),
      kept m hs r h c main_arg5 (by decide) (by decide) (by decide) (by decide) (by decide),
      kept m hs r h c main_arg6 (by decide) (by decide) (by decide) (by decide) (by decide),
      kept m hs r h c main_arg7 (by decide) (by decide) (by decide) (by decide) (by decide),
      kept m hs r h c main_arg8 (by decide) (by decide) (by decide) (by decide) (by decide),
      kept m hs r h c main_arg9 (by decide) (by decide) (by decide) (by decide) (by decide),
      kept m hs r h c main_arg10 (by decide) (by decide) (by decide) (by decide) (by decide),
      kept m hs r h c main_arg11 (by decide) (by decide) (by decide) (by decide) (by decide),
      kept m hs r h c main_arg12 (by decide) (by decide) (by decide) (by decide) (by decide),
      kept m hs r h c main_arg13 (by decide) (by decide) (by decide) (by decide) (by decide)⟩, h.2⟩) (run_main_quiescent m ρ hs)

end Cert.Kernel2Ideal.Hand

end
-- ==== Proof.ExpertsSchedule.lean ====
/- What the schedule's precondition says, visit by visit, and that it gives what the launch asks of the tables. -/
module

public import proofs.«01_k».proof.Proof.ExpertsLaunch
public import proofs.«01_k».proof.Proof.Gen.Pre_schedule
public import Idealize.ShloMosaic.Lib.ReduceAll
public import Idealize.ShloMosaic.Lib.WordCmp
public import Idealize.ShloMosaic.Lib.Pointwise
public import Idealize.ShloMosaic.Lib.StableHlo.Predicate

@[expose] public section

set_option maxRecDepth 16384

noncomputable section

namespace Cert.Kernel2Ideal.Hand

open Cert.Kernel2Ideal Cert.Kernel2Ideal.Gen
open Idealize.ShloMosaic Idealize.ShloMosaic.TcCoe

variable {F : FTy → Type} [FloatOps F]

/-- An expert, by its number. -/
abbrev ix32 (n : ℕ) (h : n < 32) : S32.Idx := fun a => ⟨n, by fin_cases a; exact h⟩

/-- The experts' first rows, of their last ones. -/
def startsOf (ends : S32.Idx → BitVec 32) : S32.Idx → BitVec 32 := fun k =>
  if h : (k 0).val = 0 then 0#32 else ends (ix32 ((k 0).val - 1) (by have := (k 0).isLt; change (k 0).val < 32 at this; omega))

/-- The schedule's tables, visit by visit. -/
structure Plan (tb : Fin 9 → Tbl F) (ends : S32.Idx → BitVec 32) : Prop where
  range : ∀ i, 0 ≤ (wVt tb i).toInt ∧ (wVt tb i).toInt < 128 ∧ 0 ≤ (wVe tb i).toInt ∧ (wVe tb i).toInt < 32 ∧ (wNext tb i).toInt < 32
    ∧ (wSlot tb i = 0#32 ∨ wSlot tb i = 1#32)
  first : ∀ i : grid0.Coords, (i 0).val = 0 → wVt tb i = 0#32 ∧ wFirst tb i = 1#32 ∧ wValid tb i = 1#32 ∧ wLo tb i = 0#32 ∧ wNew tb i = 1#32
  last : ∀ i : grid0.Coords, (i 0).val = 159 → wVt tb i = 127#32 ∧ wHi tb i = 256#32 ∧ (wNext tb i).toInt < 0
  fetched : ∀ i j : grid0.Coords, (j 0).val + 1 = (i 0).val → wNew tb i = 1#32 → wNext tb j = wVe tb i ∧ wSlot tb i = 1#32 - wSlot tb j
  kept : ∀ i j : grid0.Coords, (j 0).val + 1 = (i 0).val → ¬ wNew tb i = 1#32 → wVe tb i = wVe tb j ∧ wNext tb i = wNext tb j ∧ wSlot tb i = wSlot tb j
  opened : ∀ i j : grid0.Coords, (j 0).val + 1 = (i 0).val → wFirst tb i = 1#32 →
    wHi tb j = 256#32 ∧ wVt tb i = wVt tb j + 1#32 ∧ wLo tb i = 0#32 ∧ wValid tb i = 1#32
  stayed : ∀ i j : grid0.Coords, (j 0).val + 1 = (i 0).val → ¬ wFirst tb i = 1#32 →
    wFirst tb i = 0#32 ∧ wVt tb i = wVt tb j ∧ (wValid tb i = 1#32 → wLo tb i = wHi tb j) ∧ (¬ wValid tb i = 1#32 → wHi tb i = wHi tb j)
  owned : ∀ (i : grid0.Coords) (e : S32.Idx), wVe tb i = BitVec.ofNat 32 (e 0).val →
    (startsOf ends e).toInt ≤ (256#32 * wVt tb i + wLo tb i).toInt ∧ (256#32 * wVt tb i + wHi tb i).toInt ≤ (ends e).toInt
  sorted : ∀ e f : S32.Idx, (e 0).val + 1 = (f 0).val → (ends e).toInt ≤ (ends f).toInt
  nonneg : ∀ e : S32.Idx, (e 0).val = 0 → 0 ≤ (ends e).toInt

/-- The visit before, among the pairs of visits. -/
abbrev pairIdx (j : grid0.Coords) (h : (j 0).val < 159) : Cert.Pre_schedule.S159.Idx := fun a => ⟨(j 0).val, by fin_cases a; exact h⟩

theorem sl0 {α : Type} (x : S160.Idx → α) (h) (j : grid0.Coords) (hj : (j 0).val < 159) :
    extractStridedSlice Cert.Pre_schedule.S159 ![0] x h (pairIdx j hj) = x (vIdx j) :=
  extractStridedSlice_apply _ _ _ _ _ fun a => by fin_cases a; show (j 0).val = 0 + (j 0).val; omega

theorem sl1 {α : Type} (x : S160.Idx → α) (h) (i j : grid0.Coords) (hj : (j 0).val < 159) (hij : (j 0).val + 1 = (i 0).val) :
    extractStridedSlice Cert.Pre_schedule.S159 ![1] x h (pairIdx j hj) = x (vIdx i) :=
  extractStridedSlice_apply _ _ _ _ _ fun a => by fin_cases a; show (i 0).val = 1 + (j 0).val; omega

theorem slOne {α : Type} (o : ℕ) (x : S160.Idx → α) (h) (i : grid0.Coords) (hi : (i 0).val = o) (z : Cert.Pre_schedule.S1.Idx) :
    extractStridedSlice Cert.Pre_schedule.S1 ![o] x h z = x (vIdx i) :=
  extractStridedSlice_apply _ _ _ _ _ fun a => by
    fin_cases a; show (i 0).val = o + (z 0).val; have := (z 0).isLt; change (z 0).val < 1 at this; omega

theorem select_bit (c a b : BitVec 1) : Scalar.select c a b = 1#1 ↔ (c = 1#1 → a = 1#1) ∧ (¬ c = 1#1 → b = 1#1) := by revert c a b; decide

theorem starts_eq (ends : S32.Idx → BitVec 32) (h : Shape.Concatenates [Cert.Pre_schedule.S1, Cert.Pre_schedule.S31] S32 0) (h' : Cert.Pre_schedule.S32.Slices ![0] Cert.Pre_schedule.S31) (k : S32.Idx) :
    concatenate S32 0 [⟨Cert.Pre_schedule.S1, constantI Cert.Pre_schedule.S1 32 0#32⟩, ⟨Cert.Pre_schedule.S31, extractStridedSlice Cert.Pre_schedule.S31 ![0] ends h'⟩] h k
      = startsOf ends k := by
  unfold startsOf
  by_cases h0 : (k 0).val = 0
  · rw [dif_pos h0]
    refine (concatenate_pair_apply_left 0 _ _ h k rfl (fun a => ⟨0, by fin_cases a; exact Nat.one_pos⟩) ?_).trans rfl
    intro b; fin_cases b; exact h0.symm
  · rw [dif_neg h0]
    refine (concatenate_pair_apply_right 0 _ _ h k rfl rfl (fun a => ⟨(k 0).val - 1, by fin_cases a; have := (k 0).isLt; change (k 0).val < 32 at this; show _ < 31; omega⟩) ?_ ?_).trans ?_
    · intro b hb; fin_cases b; exact absurd rfl hb
    · show (k 0).val - 1 + 1 = (k 0).val; omega
    · exact extractStridedSlice_apply _ _ _ _ _ fun a => by fin_cases a; show (k 0).val - 1 = 0 + ((k 0).val - 1); omega

section
variable [Cert.Pre_schedule.Facts]
open Cert.Pre_schedule.Facts

abbrev vIx (z : Cert.Pre_schedule.S160x32.Idx) : S160.Idx := fun a => ⟨(z 0).val, by fin_cases a; exact (z 0).isLt⟩
abbrev zRow (z : Cert.Pre_schedule.S160x32.Idx) : Cert.Pre_schedule.S160x1.Idx := fun a => match a with
  | ⟨0, _⟩ => ⟨(z 0).val, (z 0).isLt⟩ | ⟨1, _⟩ => ⟨0, Nat.one_pos⟩
abbrev zCol (z : Cert.Pre_schedule.S160x32.Idx) : Cert.Pre_schedule.S1x32.Idx := fun a => match a with
  | ⟨0, _⟩ => ⟨0, Nat.one_pos⟩ | ⟨1, _⟩ => ⟨(z 1).val, (z 1).isLt⟩
abbrev zAt (i : grid0.Coords) (e : S32.Idx) : Cert.Pre_schedule.S160x32.Idx := fun a => match a with
  | ⟨0, _⟩ => ⟨(i 0).val, (i 0).isLt⟩ | ⟨1, _⟩ => ⟨(e 0).val, (e 0).isLt⟩

theorem row_line (y : S160.Idx → BitVec 32) (z : Cert.Pre_schedule.S160x32.Idx) :
    broadcastInDim Cert.Pre_schedule.S160x32 ![0, 1] bcast_S160x1_S160x32_0_1 (broadcastInDim Cert.Pre_schedule.S160x1 ![0] bcast_S160_S160x1_0 y) z
      = y (vIx z) := by
  refine (broadcastInDim_apply _ _ _ z (zRow z) ?_).trans
    (broadcastInDim_apply _ _ _ _ (vIx z) ?_)
  · intro a; fin_cases a
    · show (z 0).val = if (160 : ℕ) = 1 then 0 else (z 0).val; rw [if_neg (by decide)]
    · show 0 = if (1 : ℕ) = 1 then 0 else (z 1).val; rw [if_pos rfl]
  · intro a; fin_cases a
    show (z 0).val = if (160 : ℕ) = 1 then 0 else (z 0).val; rw [if_neg (by decide)]

theorem col_line (y : S32.Idx → BitVec 32) (z : Cert.Pre_schedule.S160x32.Idx) :
    broadcastInDim Cert.Pre_schedule.S160x32 ![0, 1] bcast_S1x32_S160x32_0_1 (broadcastInDim Cert.Pre_schedule.S1x32 ![1] bcast_S32_S1x32_1 y) z
      = y (ix32 (z 1).val (z 1).isLt) := by
  refine (broadcastInDim_apply _ _ _ z (zCol z) ?_).trans
    (broadcastInDim_apply _ _ _ _ (ix32 (z 1).val (z 1).isLt) ?_)
  · intro a; fin_cases a
    · show 0 = if (1 : ℕ) = 1 then 0 else (z 0).val; rw [if_pos rfl]
    · show (z 1).val = if (32 : ℕ) = 1 then 0 else (z 1).val; rw [if_neg (by decide)]
  · intro a; fin_cases a
    show (z 1).val = if (32 : ℕ) = 1 then 0 else (z 1).val; rw [if_neg (by decide)]

theorem sge_iff (x y : BitVec 32) : IntOp.cmpi .sge x y = 1#1 ↔ y.toInt ≤ x.toInt := by rw [WordCmp.cmpi_sge_eq, WordCmp.ofBool_decide_eq_one_iff]
theorem slt_iff (x y : BitVec 32) : IntOp.cmpi .slt x y = 1#1 ↔ x.toInt < y.toInt := by rw [WordCmp.cmpi_slt_eq, WordCmp.ofBool_decide_eq_one_iff]
theorem sle_iff (x y : BitVec 32) : IntOp.cmpi .sle x y = 1#1 ↔ x.toInt ≤ y.toInt := by rw [WordCmp.cmpi_sle_eq, WordCmp.ofBool_decide_eq_one_iff]
theorem eq_iff (x y : BitVec 32) : IntOp.cmpi .eq x y = 1#1 ↔ x = y := by rw [WordCmp.cmpi_eq_eq, WordCmp.ofBool_decide_eq_one_iff]
theorem ne_iff (x y : BitVec 32) : IntOp.cmpi .ne x y = 1#1 ↔ x ≠ y := by rw [WordCmp.cmpi_ne_eq, WordCmp.ofBool_decide_eq_one_iff]
theorem addi_at {s : Shape} (x y : IVec s 32) (z : s.Idx) : addi x y z = x z + y z := rfl
theorem subi_at {s : Shape} (x y : IVec s 32) (z : s.Idx) : subi x y z = x z - y z := rfl
theorem muli_at {s : Shape} (x y : IVec s 32) (z : s.Idx) : muli x y z = x z * y z := rfl

set_option maxHeartbeats 1600000 in
theorem plan_of_pre (tb : Fin 9 → Tbl F) (ends : S32.Idx → BitVec 32) (x : FVec F Cert.Pre_schedule.S32768x2048 .f32)
    (wg wu : FVec F Cert.Pre_schedule.S2x32x2048x512 .f32) (wd : FVec F Cert.Pre_schedule.S2x32x512x2048 .f32)
    (h : Cert.Pre_schedule.fn (F := F) (tb 0) (tb 1) (tb 2) (tb 3) (tb 4) (tb 5) (tb 6) (tb 7) (tb 8) ends x wg wu wd = fun _ => 1#1) :
    Plan tb ends := by
  have : Subsingleton Cert.Pre_schedule.S_.Idx := ⟨fun x y => funext fun d => d.elim0⟩
  have e := congrFun h (Shape.Idx.first h_S_)
  dsimp only [Cert.Pre_schedule.fn, Cert.Pre_schedule.fn_part1, Cert.Pre_schedule.fn_part2, Cert.Pre_schedule.fn_part3, Cert.Pre_schedule.fn_part4,
    Cert.Pre_schedule.fn_part5, Cert.Pre_schedule.fn_part6, Cert.Pre_schedule.fn_part7, Cert.Pre_schedule.fn_part8, Cert.Pre_schedule.fn_where] at e
  obtain ⟨e, he0⟩ := IntOp.andi_eq_one.1 e
  obtain ⟨e, hso⟩ := IntOp.andi_eq_one.1 e
  obtain ⟨e, how⟩ := IntOp.andi_eq_one.1 e
  obtain ⟨e, hst⟩ := IntOp.andi_eq_one.1 e
  obtain ⟨e, hla⟩ := IntOp.andi_eq_one.1 e
  obtain ⟨hra, hfi⟩ := IntOp.andi_eq_one.1 e
  clear e h
  have hra := fun i => Host.reduce_andi_all _ _ _ _ _ hra (vIdx i)
  have hfi := fun z => Host.reduce_andi_all _ _ _ _ _ hfi z
  have hla := fun z => Host.reduce_andi_all _ _ _ _ _ hla z
  have hst := fun z => Host.reduce_andi_all _ _ _ _ _ hst z
  have how := fun z => Host.reduce_andi_all _ _ _ _ _ how z
  have hso := fun z => Host.reduce_andi_all _ _ _ _ _ hso z
  have he0 := fun z => Host.reduce_andi_all _ _ _ _ _ he0 z
  simp only [WordCmp.broadcastInDim_constantI, WordCmp.andi_at, WordCmp.ori_at, WordCmp.cmpi_at, WordCmp.constantI_at, WordCmp.select_at, addi_at, subi_at, muli_at,
    IntOp.andi_eq_one, IntOp.ori_eq_one, select_bit, sge_iff, slt_iff, sle_iff, eq_iff, ne_iff, row_line, col_line, starts_eq] at hra hfi hla hst how hso he0
  have step : ∀ i j : grid0.Coords, (j 0).val + 1 = (i 0).val → (j 0).val < 159 := fun i j hij => by
    have := (i 0).isLt; change (i 0).val < 160 at this; omega
  clear * - hra hfi hla hst how hso he0 step
  refine ⟨fun i => ?_, fun i hi => ?_, fun i hi => ?_, fun i j hij hn => ?_, fun i j hij hn => ?_, fun i j hij hn => ?_, fun i j hij hn => ?_, fun i e he => ?_, fun e f hef => ?_, fun e he => ?_⟩
  · obtain ⟨⟨⟨⟨⟨a, b⟩, c⟩, d⟩, n⟩, s⟩ := hra i
    exact ⟨a, b, c, d, n, s⟩
  · have q := hfi (fun a => ⟨0, by fin_cases a; exact Nat.one_pos⟩)
    simp only [slOne 0 _ _ i hi] at q
    obtain ⟨⟨⟨⟨a, b⟩, c⟩, d⟩, n⟩ := q
    exact ⟨a, b, c, d, n⟩
  · have q := hla (fun a => ⟨0, by fin_cases a; exact Nat.one_pos⟩)
    simp only [slOne 159 _ _ i hi] at q
    obtain ⟨⟨a, b⟩, c⟩ := q
    exact ⟨a, b, c⟩
  · have q := hst (pairIdx j (step i j hij))
    simp only [sl0, sl1 _ _ i j _ hij] at q
    exact q.1.1 hn
  · have q := hst (pairIdx j (step i j hij))
    simp only [sl0, sl1 _ _ i j _ hij] at q
    obtain ⟨⟨a, b⟩, c⟩ := q.1.2 hn
    exact ⟨a, b, c⟩
  · have q := hst (pairIdx j (step i j hij))
    simp only [sl0, sl1 _ _ i j _ hij] at q
    obtain ⟨⟨⟨a, b⟩, c⟩, d⟩ := q.2.1 hn
    exact ⟨a, b, c, d⟩
  · have q := hst (pairIdx j (step i j hij))
    simp only [sl0, sl1 _ _ i j _ hij] at q
    obtain ⟨⟨a, b⟩, c, d⟩ := q.2.2 hn
    exact ⟨a, b, c, d⟩
  · have q := how (zAt i e)
    rcases q with q | q
    · exact absurd ((row_line (tb 1) (zAt i e)).trans (he.trans (col_line (iotaInDim Cert.Pre_schedule.S32 32 0) (zAt i e)).symm)) q
    · have he' : ix32 (zAt i e 1).val (zAt i e 1).isLt = e := funext fun a => by fin_cases a; rfl
      constructor
      · refine (le_of_eq ?_).trans (q.1.trans_eq (congrArg BitVec.toInt (row_line (fun z => 256#32 * tb 0 z + tb 2 z) (zAt i e))))
        exact congrArg BitVec.toInt ((congrArg (startsOf ends) he').symm.trans ((starts_eq ends _ _ _).symm.trans (col_line _ (zAt i e)).symm))
      · refine (le_of_eq ?_).trans (q.2.trans_eq (congrArg BitVec.toInt ((col_line ends (zAt i e)).trans (congrArg ends he'))))
        exact congrArg BitVec.toInt (row_line (fun z => 256#32 * tb 0 z + tb 3 z) (zAt i e)).symm
  · have he : (e 0).val < 31 := by have := (f 0).isLt; change (f 0).val < 32 at this; omega
    have q := hso (fun a => ⟨(e 0).val, by fin_cases a; exact he⟩)
    rw [extractStridedSlice_apply _ _ _ _ e fun a => by fin_cases a; show (e 0).val = 0 + (e 0).val; omega,
      extractStridedSlice_apply _ _ _ _ f fun a => by fin_cases a; show (f 0).val = 1 + (e 0).val; omega] at q
    exact q
  · have q := he0 (fun a => ⟨0, by fin_cases a; exact Nat.one_pos⟩)
    rw [extractStridedSlice_apply _ _ _ _ e fun a => by fin_cases a; exact he] at q
    exact q
end

theorem bit_word (b : BitVec 1) : IntOp.cmpi .ne (Scalar.extui b) 0#32 = 1#1 ↔ b = 1#1 := by revert b; decide
theorem cond1_word (w : BitVec 32) : k0_cond1 w = 1#1 ↔ w = 1#32 := by
  show IntOp.cmpi .ne (Scalar.extui (IntOp.cmpi .eq w 1#32)) 0#32 = 1#1 ↔ _
  rw [bit_word, eq_iff]
theorem cond4_word (w : BitVec 32) : k0_cond4 w = 1#1 ↔ w = 1#32 := by
  show IntOp.cmpi .ne (Scalar.extui (IntOp.cmpi .eq w 1#32)) 0#32 = 1#1 ↔ _
  rw [bit_word, eq_iff]
theorem cond5_word (w : BitVec 32) : k0_cond5 w = 1#1 ↔ w = 1#32 := by
  show IntOp.cmpi .ne (Scalar.extui (IntOp.cmpi .eq w 1#32)) 0#32 = 1#1 ↔ _
  rw [bit_word, eq_iff]
theorem cond6_word (w : BitVec 32) : k0_cond6 w = 1#1 ↔ w = 0#32 := by
  show IntOp.cmpi .ne (Scalar.extui (IntOp.cmpi .eq w 0#32)) 0#32 = 1#1 ↔ _
  rw [bit_word, eq_iff]
theorem cond3_word (w : BitVec 32) : k0_cond3 w = 1#1 ↔ 0 ≤ w.toInt := by
  show IntOp.cmpi .ne (Scalar.extui (IntOp.cmpi .sge w 0#32)) 0#32 = 1#1 ↔ _
  rw [bit_word, sge_iff]; rfl

theorem toNat_small (w : BitVec 32) (k : ℕ) (hk : k < 2 ^ 31) (h0 : 0 ≤ w.toInt) (h1 : w.toInt < k) : w.toNat < k := by
  rw [BitVec.toInt_eq_toNat_cond] at h0 h1
  have := w.isLt
  split_ifs at h0 h1 <;> omega

theorem sched_of_plan (tb : Fin 9 → Tbl F) (ends : S32.Idx → BitVec 32) (p : Plan tb ends) : Sched tb where
  slot i := by rcases (p.range i).2.2.2.2.2 with h | h <;> rw [h] <;> decide
  exp i := toNat_small _ 32 (by decide) (p.range i).2.2.1 (p.range i).2.2.2.1
  tile i := toNat_small _ 128 (by decide) (p.range i).1 (p.range i).2.1
  next i := by
    rw [cond3_word]
    refine ⟨fun h => toNat_small _ 32 (by decide) h (p.range i).2.2.2.2.1, fun h => ?_⟩
    rw [BitVec.toInt_eq_toNat_cond, if_pos (by omega)]; omega
  start i hi := (cond1_word _).2 (p.first i hi).2.2.2.2
  new i j hij h := p.fetched i j hij ((cond1_word _).1 h)
  keep i j hij h := p.kept i j hij (fun h' => h ((cond1_word _).2 h'))
  last i hi h := by
    have := (p.last i hi).2.2
    rw [BitVec.toInt_eq_toNat_cond, if_pos (by omega)] at this; omega
  fresh i hi := ⟨(cond4_word _).2 (p.first i hi).2.2.1, (cond5_word _).2 (p.first i hi).2.1⟩
  move i j hij h := by
    by_cases hf : wFirst tb i = 1#32
    · exact ⟨(cond4_word _).2 (p.opened i j hij hf).2.2.2, (cond5_word _).2 hf⟩
    · exact absurd (p.stayed i j hij hf).2.1 h

theorem plan_of (m : (ℓ : Loc nD τ sig) → Buf (Elt F) ℓ) [Cert.Pre_schedule.Facts]
    (h : Cert.Pre_schedule.fn (F := F) (m (((0 : Dev nD) : Thread nD τ).loc main_arg0)) (m (((0 : Dev nD) : Thread nD τ).loc main_arg1))
      (m (((0 : Dev nD) : Thread nD τ).loc main_arg2)) (m (((0 : Dev nD) : Thread nD τ).loc main_arg3)) (m (((0 : Dev nD) : Thread nD τ).loc main_arg4))
      (m (((0 : Dev nD) : Thread nD τ).loc main_arg5)) (m (((0 : Dev nD) : Thread nD τ).loc main_arg6)) (m (((0 : Dev nD) : Thread nD τ).loc main_arg7))
      (m (((0 : Dev nD) : Thread nD τ).loc main_arg8)) (m (((0 : Dev nD) : Thread nD τ).loc main_arg9)) (m (((0 : Dev nD) : Thread nD τ).loc main_arg10))
      (m (((0 : Dev nD) : Thread nD τ).loc main_arg11)) (m (((0 : Dev nD) : Thread nD τ).loc main_arg12)) (m (((0 : Dev nD) : Thread nD τ).loc main_arg13)) = fun _ => 1#1) :
    Plan (tbM m) (m (((0 : Dev nD) : Thread nD τ).loc main_arg9)) := plan_of_pre (tbM m) _ _ _ _ _ h

end Cert.Kernel2Ideal.Hand
-- ==== Proof.ExpertsBits.lean ====
/- The experts' program at Bits has the text of the idealized one: the run is taken over from there. -/
module

public import proofs.«01_k».proof.Defs
public import proofs.«01_k».proof.Proof.Gen.Kernel2
public import proofs.«01_k».proof.Proof.ExpertsSchedule

@[expose] public section

noncomputable section

namespace Cert.Kernel2.Hand

open Idealize.ShloMosaic Idealize.SL.Sem

variable [fa : Cert.Kernel2.Facts] [fb : Cert.Kernel2Ideal.Facts]

/-- The two programs call the same bodies. -/
theorem bodies_eq : (@Cert.Kernel2.defs₀ Bits _ fa) = (@Cert.Kernel2Ideal.defs₀ Bits _ fb) := by
  unfold Cert.Kernel2.defs₀ Cert.Kernel2Ideal.defs₀
  refine congrArg Defs.onTc (funext fun l => funext fun x => ?_)
  match l, x with
  | ⟨0, _⟩, (t, s) => rfl

/-- The two programs' tables of bodies and pipelines are the same. -/
theorem defs_eq : (@Cert.Kernel2.defs Bits _ fa) = (@Cert.Kernel2Ideal.defs Bits _ fb) :=
  congrArg (Pipeline.defs (@Cert.Kernel2.pcfgs Bits _ fa)) bodies_eq

/-- The two programs' main functions are the same. -/
theorem main_eq : (@Cert.Kernel2.main Bits _ fa) = (@Cert.Kernel2Ideal.main Bits _ fb) := by
  unfold Cert.Kernel2.main Cert.Kernel2Ideal.main
  rfl

omit fb in
/-- The program at Bits runs to its end, keeps its arguments and leaves every semaphore at zero. -/
theorem frame [Cert.Pre_schedule.Facts] : Cert.quiescent_Kernel2 := by
  intro m g h
  have p := Cert.Kernel2Ideal.Hand.plan_of (F := Bits) m (h 0)
  have e := Cert.Kernel2Ideal.Hand.frame (F := Bits) m g (Cert.Kernel2Ideal.Hand.sched_of_plan _ _ p)
  rw [defs_eq (fb := Cert.Kernel2Ideal.Gen.facts), main_eq (fb := Cert.Kernel2Ideal.Gen.facts)]
  refine (θ_run _ _ _).mono (fun r h => ⟨fun c => ?_, h.2⟩) e
  obtain ⟨h0, h1, h2, h3, h4, h5, h6, h7, h8, h9, h10, h11, h12, h13⟩ := h.1 c
  exact ⟨h0, h1, h2, h3, h4, h5, h6, h7, h8, h9, h10, h11, h12, h13⟩

end Cert.Kernel2.Hand

end
-- ==== Proof.ExpertsRows.lean ====
/- The experts kernel's stores, element by element: a visit puts its rows' products where its mask is set. -/
module

public import proofs.«01_k».proof.Proof.ExpertsSchedule
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe

variable {F : FTy → Type} [FloatOps F]

/-- The mask's row of a chunk's element. -/
abbrev rowM (x : S256x128.Idx) : S256x1.Idx := fun a => match a with
  | ⟨0, _⟩ => ⟨(x 0).val, (x 0).isLt⟩ | ⟨1, _⟩ => ⟨0, Nat.one_pos⟩

/-- An element of chunk `k`, in the rows' products. -/
abbrev colY (k : ℕ) (hk : k < 16) (x : S256x128.Idx) : S256x2048.Idx := fun a => match a with
  | ⟨0, _⟩ => ⟨(x 0).val, (x 0).isLt⟩
  | ⟨1, _⟩ => ⟨128 * k + (x 1).val, by have := (x 1).isLt; change (x 1).val < 128 at this; show 128 * k + (x 1).val < 2048; omega⟩

theorem pick (o k : ℕ) (hk : k < 16) (ho : o = 128 * k) (y : FVec F S256x2048 .f32) (m : IVec S256x1 1) (h : S256x2048.Slices ![0, o] S256x128)
    (hc : S256x1.ShapeCasts S256x1) (hb : S256x1.Broadcasts S256x128) (old : FVec F S256x128 .f32) (x : S256x128.Idx) :
    select (broadcastTo S256x128 (shapeCast S256x1 m hc) hb) (extractStridedSlice S256x128 ![0, o] y h) old x
      = if m (rowM x) = 1#1 then y (colY k hk x) else old x := by
  have e1 : broadcastTo S256x128 (shapeCast S256x1 m hc) hb x = m (rowM x) := by
    rw [shapeCast_self]
    exact broadcastTo_apply _ _ _ _ fun a => by
      fin_cases a
      · show (x 0).val = if (256 : ℕ) = 1 then 0 else (x 0).val; rw [if_neg (by decide)]
      · show 0 = if (1 : ℕ) = 1 then 0 else (x 1).val; rw [if_pos rfl]
  have e2 : extractStridedSlice S256x128 ![0, o] y h x = y (colY k hk x) :=
    extractStridedSlice_apply _ _ _ _ _ fun a => by
      fin_cases a
      · show (x 0).val = 0 + (x 0).val; omega
      · show 128 * k + (x 1).val = o + (x 1).val; omega
  show Scalar.select _ _ _ = _
  rw [e1, e2]
  rfl

theorem modC_apply (k : ℕ) (hk : k < 17) (p : Vec F S256x128 .f32 → Vec F S256x128 .f32) (d : Vec F S4352x128 .f32) (j : S4352x128.Idx) :
    modC k hk p d j = if (j 0).val % 17 = k then p (getC k hk d) (rowOf j) else d j := rfl

theorem modC_ne (k : ℕ) (hk : k < 17) (p : Vec F S256x128 .f32 → Vec F S256x128 .f32) (d : Vec F S4352x128 .f32) (j : S4352x128.Idx) (h : (j 0).val % 17 ≠ k) :
    modC k hk p d j = d j := if_neg h

theorem getC_rowOf (k : ℕ) (hk : k < 17) (d : Vec F S4352x128 .f32) (j : S4352x128.Idx) (h : (j 0).val % 17 = k) : getC k hk d (rowOf j) = d j :=
  congrArg d (funext fun a => by
    fin_cases a
    · exact Fin.ext (show k + 17 * ((j 0).val / 17) = (j 0).val by omega)
    · rfl)

/-- The zero the rows outside a mask get. -/
abbrev zeroW : F .f32 := Scalar.ofBits .f32 0x00000000#32

theorem fst0 (y : FVec F S256x2048 .f32) (m : IVec S256x1 1) (x : S256x128.Idx) :
    k0_pay13 y m x = if m (rowM x) = 1#1 then y (colY 0 (by decide) x) else zeroW := pick 0 0 _ rfl y _ _ _ _ _ x
theorem fst1 (y : FVec F S256x2048 .f32) (m : IVec S256x1 1) (x : S256x128.Idx) :
    k0_pay14 y m x = if m (rowM x) = 1#1 then y (colY 1 (by decide) x) else zeroW := pick 128 1 _ rfl y _ _ _ _ _ x
theorem fst2 (y : FVec F S256x2048 .f32) (m : IVec S256x1 1) (x : S256x128.Idx) :
    k0_pay15 y m x = if m (rowM x) = 1#1 then y (colY 2 (by decide) x) else zeroW := pick 256 2 _ rfl y _ _ _ _ _ x
theorem fst3 (y : FVec F S256x2048 .f32) (m : IVec S256x1 1) (x : S256x128.Idx) :
    k0_pay16 y m x = if m (rowM x) = 1#1 then y (colY 3 (by decide) x) else zeroW := pick 384 3 _ rfl y _ _ _ _ _ x
theorem fst4 (y : FVec F S256x2048 .f32) (m : IVec S256x1 1) (x : S256x128.Idx) :
    k0_pay17 y m x = if m (rowM x) = 1#1 then y (colY 4 (by decide) x) else zeroW := pick 512 4 _ rfl y _ _ _ _ _ x
theorem fst5 (y : FVec F S256x2048 .f32) (m : IVec S256x1 1) (x : S256x128.Idx) :
    k0_pay18 y m x = if m (rowM x) = 1#1 then y (colY 5 (by decide) x) else zeroW := pick 640 5 _ rfl y _ _ _ _ _ x
theorem fst6 (y : FVec F S256x2048 .f32) (m : IVec S256x1 1) (x : S256x128.Idx) :
    k0_pay19 y m x = if m (rowM x) = 1#1 then y (colY 6 (by decide) x) else zeroW := pick 768 6 _ rfl y _ _ _ _ _ x
theorem fst7 (y : FVec F S256x2048 .f32) (m : IVec S256x1 1) (x : S256x128.Idx) :
    k0_pay20 y m x = if m (rowM x) = 1#1 then y (colY 7 (by decide) x) else zeroW := pick 896 7 _ rfl y _ _ _ _ _ x
theorem fst8 (y : FVec F S256x2048 .f32) (m : IVec S256x1 1) (x : S256x128.Idx) :
    k0_pay21 y m x = if m (rowM x) = 1#1 then y (colY 8 (by decide) x) else zeroW := pick 1024 8 _ rfl y _ _ _ _ _ x
theorem fst9 (y : FVec F S256x2048 .f32) (m : IVec S256x1 1) (x : S256x128.Idx) :
    k0_pay22 y m x = if m (rowM x) = 1#1 then y (colY 9 (by decide) x) else zeroW := pick 1152 9 _ rfl y _ _ _ _ _ x
theorem fst10 (y : FVec F S256x2048 .f32) (m : IVec S256x1 1) (x : S256x128.Idx) :
    k0_pay23 y m x = if m (rowM x) = 1#1 then y (colY 10 (by decide) x) else zeroW := pick 1280 10 _ rfl y _ _ _ _ _ x
theorem fst11 (y : FVec F S256x2048 .f32) (m : IVec S256x1 1) (x : S256x128.Idx) :
    k0_pay24 y m x = if m (rowM x) = 1#1 then y (colY 11 (by decide) x) else zeroW := pick 1408 11 _ rfl y _ _ _ _ _ x
theorem fst12 (y : FVec F S256x2048 .f32) (lo hi : BitVec 32) (x : S256x128.Idx) :
    k0_pay7 y lo hi x = if (k0_pay6 (F := F) lo hi) (rowM x) = 1#1 then y (colY 12 (by decide) x) else zeroW := pick 1536 12 _ rfl y _ _ _ _ _ x
theorem fst13 (y : FVec F S256x2048 .f32) (lo hi : BitVec 32) (x : S256x128.Idx) :
    k0_pay8 y lo hi x = if (k0_pay6 (F := F) lo hi) (rowM x) = 1#1 then y (colY 13 (by decide) x) else zeroW := pick 1664 13 _ rfl y _ _ _ _ _ x
theorem fst14 (y : FVec F S256x2048 .f32) (lo hi : BitVec 32) (x : S256x128.Idx) :
    k0_pay9 y lo hi x = if (k0_pay6 (F := F) lo hi) (rowM x) = 1#1 then y (colY 14 (by decide) x) else zeroW := pick 1792 14 _ rfl y _ _ _ _ _ x
theorem fst15 (y : FVec F S256x2048 .f32) (lo hi : BitVec 32) (x : S256x128.Idx) :
    k0_pay10 y lo hi x = if (k0_pay6 (F := F) lo hi) (rowM x) = 1#1 then y (colY 15 (by decide) x) else zeroW := pick 1920 15 _ rfl y _ _ _ _ _ x
theorem lat0 (y : FVec F S256x2048 .f32) (m : IVec S256x1 1) (old : Vec F S256x128 .f32) (x : S256x128.Idx) :
    k0_pay25 y m old x = if m (rowM x) = 1#1 then y (colY 0 (by decide) x) else old x :=
  (pick 0 0 _ rfl y _ _ _ _ _ x).trans (by rw [shapeCast_self])
theorem lat1 (y : FVec F S256x2048 .f32) (m : IVec S256x1 1) (old : Vec F S256x128 .f32) (x : S256x128.Idx) :
    k0_pay26 y m old x = if m (rowM x) = 1#1 then y (colY 1 (by decide) x) else old x :=
  (pick 128 1 _ rfl y _ _ _ _ _ x).trans (by rw [shapeCast_self])
theorem lat2 (y : FVec F S256x2048 .f32) (m : IVec S256x1 1) (old : Vec F S256x128 .f32) (x : S256x128.Idx) :
    k0_pay27 y m old x = if m (rowM x) = 1#1 then y (colY 2 (by decide) x) else old x :=
  (pick 256 2 _ rfl y _ _ _ _ _ x).trans (by rw [shapeCast_self])
theorem lat3 (y : FVec F S256x2048 .f32) (m : IVec S256x1 1) (old : Vec F S256x128 .f32) (x : S256x128.Idx) :
    k0_pay28 y m old x = if m (rowM x) = 1#1 then y (colY 3 (by decide) x) else old x :=
  (pick 384 3 _ rfl y _ _ _ _ _ x).trans (by rw [shapeCast_self])
theorem lat4 (y : FVec F S256x2048 .f32) (m : IVec S256x1 1) (old : Vec F S256x128 .f32) (x : S256x128.Idx) :
    k0_pay29 y m old x = if m (rowM x) = 1#1 then y (colY 4 (by decide) x) else old x :=
  (pick 512 4 _ rfl y _ _ _ _ _ x).trans (by rw [shapeCast_self])
theorem lat5 (y : FVec F S256x2048 .f32) (m : IVec S256x1 1) (old : Vec F S256x128 .f32) (x : S256x128.Idx) :
    k0_pay30 y m old x = if m (rowM x) = 1#1 then y (colY 5 (by decide) x) else old x :=
  (pick 640 5 _ rfl y _ _ _ _ _ x).trans (by rw [shapeCast_self])
theorem lat6 (y : FVec F S256x2048 .f32) (m : IVec S256x1 1) (old : Vec F S256x128 .f32) (x : S256x128.Idx) :
    k0_pay31 y m old x = if m (rowM x) = 1#1 then y (colY 6 (by decide) x) else old x :=
  (pick 768 6 _ rfl y _ _ _ _ _ x).trans (by rw [shapeCast_self])
theorem lat7 (y : FVec F S256x2048 .f32) (m : IVec S256x1 1) (old : Vec F S256x128 .f32) (x : S256x128.Idx) :
    k0_pay32 y m old x = if m (rowM x) = 1#1 then y (colY 7 (by decide) x) else old x :=
  (pick 896 7 _ rfl y _ _ _ _ _ x).trans (by rw [shapeCast_self])
theorem lat8 (y : FVec F S256x2048 .f32) (m : IVec S256x1 1) (old : Vec F S256x128 .f32) (x : S256x128.Idx) :
    k0_pay33 y m old x = if m (rowM x) = 1#1 then y (colY 8 (by decide) x) else old x :=
  (pick 1024 8 _ rfl y _ _ _ _ _ x).trans (by rw [shapeCast_self])
theorem lat9 (y : FVec F S256x2048 .f32) (m : IVec S256x1 1) (old : Vec F S256x128 .f32) (x : S256x128.Idx) :
    k0_pay34 y m old x = if m (rowM x) = 1#1 then y (colY 9 (by decide) x) else old x :=
  (pick 1152 9 _ rfl y _ _ _ _ _ x).trans (by rw [shapeCast_self])
theorem lat10 (y : FVec F S256x2048 .f32) (m : IVec S256x1 1) (old : Vec F S256x128 .f32) (x : S256x128.Idx) :
    k0_pay35 y m old x = if m (rowM x) = 1#1 then y (colY 10 (by decide) x) else old x :=
  (pick 1280 10 _ rfl y _ _ _ _ _ x).trans (by rw [shapeCast_self])
theorem lat11 (y : FVec F S256x2048 .f32) (m : IVec S256x1 1) (old : Vec F S256x128 .f32) (x : S256x128.Idx) :
    k0_pay36 y m old x = if m (rowM x) = 1#1 then y (colY 11 (by decide) x) else old x :=
  (pick 1408 11 _ rfl y _ _ _ _ _ x).trans (by rw [shapeCast_self])
theorem lat12 (y : FVec F S256x2048 .f32) (m : IVec S256x1 1) (old : Vec F S256x128 .f32) (x : S256x128.Idx) :
    k0_pay37 y m old x = if m (rowM x) = 1#1 then y (colY 12 (by decide) x) else old x :=
  (pick 1536 12 _ rfl y _ _ _ _ _ x).trans (by rw [shapeCast_self])
theorem lat13 (y : FVec F S256x2048 .f32) (m : IVec S256x1 1) (old : Vec F S256x128 .f32) (x : S256x128.Idx) :
    k0_pay38 y m old x = if m (rowM x) = 1#1 then y (colY 13 (by decide) x) else old x :=
  (pick 1664 13 _ rfl y _ _ _ _ _ x).trans (by rw [shapeCast_self])
theorem lat14 (y : FVec F S256x2048 .f32) (m : IVec S256x1 1) (old : Vec F S256x128 .f32) (x : S256x128.Idx) :
    k0_pay39 y m old x = if m (rowM x) = 1#1 then y (colY 14 (by decide) x) else old x :=
  (pick 1792 14 _ rfl y _ _ _ _ _ x).trans (by rw [shapeCast_self])
theorem lat15 (y : FVec F S256x2048 .f32) (lo hi : BitVec 32) (old : Vec F S256x128 .f32) (x : S256x128.Idx) :
    k0_pay12 y lo hi old x = if (k0_pay6 (F := F) lo hi) (rowM x) = 1#1 then y (colY 15 (by decide) x) else old x :=
  (pick 1920 15 _ rfl y _ _ _ _ _ x).trans (by rw [shapeCast_self])

theorem first_row (y : FVec F S256x2048 .f32) (lo hi : BitVec 32) (d : Vec F S4352x128 .f32) (j : S4352x128.Idx) (k : ℕ) (hk : k < 16) (h : (j 0).val % 17 = k) :
    firstC y lo hi d j = if k0_pay6 (F := F) lo hi (rowM (rowOf j)) = 1#1 then y (colY k hk (rowOf j)) else zeroW := by
  unfold firstC
  rcases (by omega : k = 0 ∨ k = 1 ∨ k = 2 ∨ k = 3 ∨ k = 4 ∨ k = 5 ∨ k = 6 ∨ k = 7 ∨ k = 8 ∨ k = 9 ∨ k = 10 ∨ k = 11 ∨ k = 12 ∨ k = 13 ∨ k = 14 ∨ k = 15) with e | e | e | e | e | e | e | e | e | e | e | e | e | e | e | e
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst0]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst1]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst2]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst3]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst4]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst5]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst6]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst7]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_neg (by omega), putC_apply, if_pos h, fst8]
  · subst e
    rw [putC_apply, if_neg (by omega), putC_apply, if_neg (by omega), putC_apply, if_neg (by omega), putC_apply, if_neg (by omega), putC_apply, if_neg (by omega), putC_apply, if_neg (by omega), putC_apply, if_neg (by omega), putC_apply, if_pos h, fst9]
  · subst e
    rw [putC_apply, if_neg (by omega), putC_apply, if_neg (by omega), putC_apply, if_neg (by omega), putC_apply, if_neg (by omega), putC_apply, if_neg (by omega), putC_apply, if_neg (by omega), putC_apply, if_pos h, fst10]
  · subst e
    rw [putC_apply, if_neg (by omega), putC_apply, if_neg (by omega), putC_apply, if_neg (by omega), putC_apply, if_neg (by omega), putC_apply, if_neg (by omega), putC_apply, if_pos h, fst11]
  · subst e
    rw [putC_apply, if_neg (by omega), putC_apply, if_neg (by omega), putC_apply, if_neg (by omega), putC_apply, if_neg (by omega), putC_apply, if_pos h, fst12]
  · subst e
    rw [putC_apply, if_neg (by omega), putC_apply, if_neg (by omega), putC_apply, if_neg (by omega), putC_apply, if_pos h, fst13]
  · subst e
    rw [putC_apply, if_neg (by omega), putC_apply, if_neg (by omega), putC_apply, if_pos h, fst14]
  · subst e
    rw [putC_apply, if_neg (by omega), putC_apply, if_pos h, fst15]

theorem first_pad (y : FVec F S256x2048 .f32) (lo hi : BitVec 32) (d : Vec F S4352x128 .f32) (j : S4352x128.Idx) (h : (j 0).val % 17 = 16) :
    firstC y lo hi d j = zeroW := by
  unfold firstC
  rw [putC_apply, if_pos h]; rfl

theorem more_pad (y : FVec F S256x2048 .f32) (lo hi : BitVec 32) (d : Vec F S4352x128 .f32) (j : S4352x128.Idx) (h : (j 0).val % 17 = 16) :
    moreC y lo hi d j = d j := by
  unfold moreC
  rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega)]

theorem more_row (y : FVec F S256x2048 .f32) (lo hi : BitVec 32) (d : Vec F S4352x128 .f32) (j : S4352x128.Idx) (k : ℕ) (hk : k < 16) (h : (j 0).val % 17 = k) :
    moreC y lo hi d j = if k0_pay6 (F := F) lo hi (rowM (rowOf j)) = 1#1 then y (colY k hk (rowOf j)) else d j := by
  unfold moreC
  rcases (by omega : k = 0 ∨ k = 1 ∨ k = 2 ∨ k = 3 ∨ k = 4 ∨ k = 5 ∨ k = 6 ∨ k = 7 ∨ k = 8 ∨ k = 9 ∨ k = 10 ∨ k = 11 ∨ k = 12 ∨ k = 13 ∨ k = 14 ∨ k = 15) with e | e | e | e | e | e | e | e | e | e | e | e | e | e | e | e
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat0, getC_rowOf _ _ _ _ h]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat1, getC_rowOf _ _ _ _ h, modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat2, getC_rowOf _ _ _ _ h, modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat3, getC_rowOf _ _ _ _ h, modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat4, getC_rowOf _ _ _ _ h, modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat5, getC_rowOf _ _ _ _ h, modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat6, getC_rowOf _ _ _ _ h, modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_neg (by omega), modC_apply, if_pos h, lat7, getC_rowOf _ _ _ _ h, modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_neg (by omega), modC_apply, if_pos h, lat8, getC_rowOf _ _ _ _ h, modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_neg (by omega), modC_apply, if_pos h, lat9, getC_rowOf _ _ _ _ h, modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_neg (by omega), modC_apply, if_pos h, lat10, getC_rowOf _ _ _ _ h, modC_ne 9 _ _ _ _ (by omega), modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_neg (by omega), modC_apply, if_pos h, lat11, getC_rowOf _ _ _ _ h, modC_ne 10 _ _ _ _ (by omega), modC_ne 9 _ _ _ _ (by omega), modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_neg (by omega), modC_apply, if_pos h, lat12, getC_rowOf _ _ _ _ h, modC_ne 11 _ _ _ _ (by omega), modC_ne 10 _ _ _ _ (by omega), modC_ne 9 _ _ _ _ (by omega), modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_neg (by omega), modC_apply, if_pos h, lat13, getC_rowOf _ _ _ _ h, modC_ne 12 _ _ _ _ (by omega), modC_ne 11 _ _ _ _ (by omega), modC_ne 10 _ _ _ _ (by omega), modC_ne 9 _ _ _ _ (by omega), modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_neg (by omega), modC_apply, if_pos h, lat14, getC_rowOf _ _ _ _ h, modC_ne 13 _ _ _ _ (by omega), modC_ne 12 _ _ _ _ (by omega), modC_ne 11 _ _ _ _ (by omega), modC_ne 10 _ _ _ _ (by omega), modC_ne 9 _ _ _ _ (by omega), modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]
  · subst e
    rw [modC_apply, if_pos h, lat15, getC_rowOf _ _ _ _ h, modC_ne 14 _ _ _ _ (by omega), modC_ne 13 _ _ _ _ (by omega), modC_ne 12 _ _ _ _ (by omega), modC_ne 11 _ _ _ _ (by omega), modC_ne 10 _ _ _ _ (by omega), modC_ne 9 _ _ _ _ (by omega), modC_ne 8 _ _ _ _ (by omega), modC_ne 7 _ _ _ _ (by omega), modC_ne 6 _ _ _ _ (by omega), modC_ne 5 _ _ _ _ (by omega), modC_ne 4 _ _ _ _ (by omega), modC_ne 3 _ _ _ _ (by omega), modC_ne 2 _ _ _ _ (by omega), modC_ne 1 _ _ _ _ (by omega), modC_ne 0 _ _ _ _ (by omega)]

/-- The mask: the rows from the visit's first to before its last. -/
theorem mask_iff (lo hi : BitVec 32) (x : S256x128.Idx) :
    k0_pay6 (F := F) lo hi (rowM x) = 1#1 ↔ lo.toInt ≤ (x 0).val ∧ ((x 0).val : ℤ) < hi.toInt := by
  have hx : (x 0).val < 256 := (x 0).isLt
  have e : (BitVec.ofNat 32 (x 0).val).toInt = (x 0).val := WordCmp.toInt_ofNat_of_lt (by omega)
  have e0 : iota .tc S256x1 32 [0] iota_S256x1_d0_w32 (rowM x) = BitVec.ofNat 32 (x 0).val := by
    rw [WordCmp.iota_at]; simp
  show IntOp.andi (IntOp.cmpi .sge (iota .tc S256x1 32 [0] iota_S256x1_d0_w32 (rowM x)) lo) (IntOp.cmpi .slt (iota .tc S256x1 32 [0] iota_S256x1_d0_w32 (rowM x)) hi) = 1#1 ↔ _
  rw [IntOp.andi_eq_one, e0, sge_iff, slt_iff, e]

end Cert.Kernel2Ideal.Hand
-- ==== Proof.ExpertsTile.lean ====
/- A tile's rows after each visit: those before the visit's last hold what their experts make of them. -/
module

public import proofs.«01_k».proof.Proof.ExpertsRows

@[expose] public section

set_option maxRecDepth 16384

noncomputable section

namespace Cert.Kernel2Ideal.Hand

open Cert.Kernel2Ideal Cert.Kernel2Ideal.Gen
open Idealize.ShloMosaic Idealize.ShloMosaic.TcCoe

variable {F : FTy → Type} [FloatOps F]

theorem row_word (v w : BitVec 32) (hv : v.toNat < 128) :
    (256 * (v.toNat : ℤ) + w.toInt < 2 ^ 31 ∧ (256#32 * v + w).toInt = 256 * (v.toNat : ℤ) + w.toInt)
      ∨ (2 ^ 31 ≤ 256 * (v.toNat : ℤ) + w.toInt ∧ (256#32 * v + w).toInt < 0) := by
  have e : (256#32 * v).toNat = 256 * v.toNat := by
    rw [BitVec.toNat_mul]; show 256 * v.toNat % 2 ^ 32 = _; exact Nat.mod_eq_of_lt (by omega)
  have e' : (256#32 * v).toInt = 256 * (v.toNat : ℤ) := by
    rw [BitVec.toInt_eq_toNat_cond, e, if_pos (by omega)]; push_cast; rfl
  have l := BitVec.le_toInt w
  have u := BitVec.toInt_lt (x := w)
  rw [BitVec.toInt_add, e', Int.bmod_def]
  norm_num at l u ⊢
  split_ifs <;> omega

section
variable {tb : Fin 9 → Tbl F} {ends : S32.Idx → BitVec 32} (p : Plan tb ends) (hs : Sched tb)
include p

theorem ends_nonneg : ∀ (k : ℕ) (hk : k < 32), 0 ≤ (ends (ix32 k hk)).toInt
  | 0, _ => p.nonneg _ rfl
  | k + 1, hk => (ends_nonneg k (by omega)).trans (p.sorted (ix32 k (by omega)) (ix32 (k + 1) hk) rfl)

theorem starts_nonneg (e : S32.Idx) : 0 ≤ (startsOf ends e).toInt := by
  unfold startsOf
  by_cases h : (e 0).val = 0
  · rw [dif_pos h]; decide
  · rw [dif_neg h]; exact ends_nonneg p _ _

include hs

theorem own (i : grid0.Coords) : (startsOf ends (ix32 (wVe tb i).toNat (hs.exp i))).toInt ≤ (256#32 * wVt tb i + wLo tb i).toInt
    ∧ (256#32 * wVt tb i + wHi tb i).toInt ≤ (ends (ix32 (wVe tb i).toNat (hs.exp i))).toInt :=
  p.owned i (ix32 (wVe tb i).toNat (hs.exp i)) (show wVe tb i = BitVec.ofNat 32 (wVe tb i).toNat by rw [BitVec.ofNat_toNat, BitVec.setWidth_eq])

theorem succ_gi (n : ℕ) (h : n + 1 < 160) : (gi n 0).val + 1 = (gi (n + 1) 0).val := by
  rw [gi_val n (by omega), gi_val (n + 1) h]

/-- A visit's rows end within the words. -/
theorem hi_word : ∀ (d n : ℕ), n + d = 159 →
    (256#32 * wVt tb (gi n) + wHi tb (gi n)).toInt = 256 * ((wVt tb (gi n)).toNat : ℤ) + (wHi tb (gi n)).toInt := by
  have full : ∀ n, wHi tb (gi n) = 256#32 →
      (256#32 * wVt tb (gi n) + wHi tb (gi n)).toInt = 256 * ((wVt tb (gi n)).toNat : ℤ) + (wHi tb (gi n)).toInt := by
    intro n h
    have ht := hs.tile (gi n)
    rcases row_word (wVt tb (gi n)) (wHi tb (gi n)) ht with q | q
    · exact q.2
    · rw [h] at q
      have e : (256#32).toInt = 256 := by decide
      rw [e] at q
      omega
  intro d
  induction d with
  | zero => intro n hn; exact full n (p.last (gi n) (by rw [gi_val n (by omega)]; omega)).2.1
  | succ d ih =>
    intro n hn
    have hij := succ_gi p hs n (by omega)
    by_cases hf : wFirst tb (gi (n + 1)) = 1#32
    · exact full n (p.opened _ _ hij hf).1
    · obtain ⟨-, ht, hv, hi⟩ := p.stayed _ _ hij hf
      by_cases hval : wValid tb (gi (n + 1)) = 1#32
      · rw [← ht, ← hv hval]
        rcases row_word (wVt tb (gi (n + 1))) (wLo tb (gi (n + 1))) (hs.tile _) with q | q
        · exact q.2
        · have := (starts_nonneg p _).trans (own p hs (gi (n + 1))).1
          omega
      · rw [← ht, ← hi hval]; exact ih (n + 1) (by omega)

/-- A visit's rows are its expert's. -/
theorem row_owned (n : ℕ) (hn : n < 160) (r : ℕ) (h0 : (wLo tb (gi n)).toInt ≤ r) (h1 : (r : ℤ) < (wHi tb (gi n)).toInt) :
    (startsOf ends (ix32 (wVe tb (gi n)).toNat (hs.exp (gi n)))).toInt ≤ 256 * ((wVt tb (gi n)).toNat : ℤ) + r
      ∧ 256 * ((wVt tb (gi n)).toNat : ℤ) + r < (ends (ix32 (wVe tb (gi n)).toNat (hs.exp (gi n)))).toInt := by
  obtain ⟨a, b⟩ := own p hs (gi n)
  rw [hi_word p hs (159 - n) n (by omega)] at b
  refine ⟨?_, by omega⟩
  rcases row_word (wVt tb (gi n)) (wLo tb (gi n)) (hs.tile _) with q | q <;> omega

end

/-- The row of a tile's element, in all the rows. -/
abbrev gRow (k : ℕ) (hk : k < 128) (x : S256x2048.Idx) : Cert.Pre_schedule.S32768x2048.Idx := fun a => match a with
  | ⟨0, _⟩ => ⟨256 * k + (x 0).val, by have := (x 0).isLt; change (x 0).val < 256 at this; show 256 * k + (x 0).val < 32768; omega⟩
  | ⟨1, _⟩ => ⟨(x 1).val, (x 1).isLt⟩

/-- A packed row's chunk, in the rows. -/
abbrev pkIdx (j : S557056x128.Idx) (h : (j 0).val % 17 < 16) : Cert.Pre_schedule.S32768x2048.Idx := fun a => match a with
  | ⟨0, _⟩ => ⟨(j 0).val / 17, by have := (j 0).isLt; change (j 0).val < 557056 at this; show (j 0).val / 17 < 32768; omega⟩
  | ⟨1, _⟩ => ⟨128 * ((j 0).val % 17) + (j 1).val, by have := (j 1).isLt; change (j 1).val < 128 at this; show 128 * ((j 0).val % 17) + (j 1).val < 2048; omega⟩

/-- Rows packed: sixteen chunks and one of zeros. -/
def pack (T : Cert.Pre_schedule.S32768x2048.Idx → F .f32) : FVec F S557056x128 .f32 := fun j =>
  if h : (j 0).val % 17 < 16 then T (pkIdx j h) else zeroW

theorem pack_row (T : Cert.Pre_schedule.S32768x2048.Idx → F .f32) (k : ℕ) (hk : k < 128) (j : S4352x128.Idx) (c : ℕ) (hc : c < 16) (h : (j 0).val % 17 = c) :
    xtile (pack T) k j = T (gRow k hk (colY c hc (rowOf j))) := by
  have hj : (j 0).val < 4352 := (j 0).isLt
  have e : (k % 128 * 4352 + (j 0).val) % 17 = (j 0).val % 17 := by omega
  unfold xtile pack
  rw [dif_pos (show (k % 128 * 4352 + (j 0).val) % 17 < 16 by omega)]
  refine congrArg T (funext fun a => ?_)
  fin_cases a
  · exact Fin.ext (show (k % 128 * 4352 + (j 0).val) / 17 = 256 * k + (j 0).val / 17 by omega)
  · exact Fin.ext (show 128 * ((k % 128 * 4352 + (j 0).val) % 17) + (j 1).val = 128 * c + (j 1).val by omega)

theorem pack_pad (T : Cert.Pre_schedule.S32768x2048.Idx → F .f32) (k : ℕ) (j : S4352x128.Idx) (h : (j 0).val % 17 = 16) :
    xtile (pack T) k j = zeroW := by
  unfold xtile pack
  rw [dif_neg (show ¬ (k % 128 * 4352 + (j 0).val) % 17 < 16 by omega)]

section
variable (tb : Fin 9 → Tbl F) (i : grid0.Coords) (y : FVec F S256x2048 .f32) (d : Vec F S4352x128 .f32)

theorem visit_first (hv : wValid tb i = 1#32) (hf : wFirst tb i = 1#32) : visitC tb i y d = firstC y (wLo tb i) (wHi tb i) d := by
  unfold visitC laterC
  rw [if_pos ((cond4_word _).2 hv), if_pos ((cond5_word _).2 hf), if_neg (fun h => absurd (((cond6_word _).1 h).symm.trans hf) (by decide))]

theorem visit_more (hv : wValid tb i = 1#32) (hf : wFirst tb i = 0#32) : visitC tb i y d = moreC y (wLo tb i) (wHi tb i) d := by
  unfold visitC laterC
  rw [if_pos ((cond4_word _).2 hv), if_neg (fun h => absurd (((cond5_word _).1 h).symm.trans hf) (by decide)), if_pos ((cond6_word _).2 hf)]

theorem visit_skip (hv : ¬ wValid tb i = 1#32) : visitC tb i y d = d := by
  unfold visitC
  rw [if_neg (fun h => hv ((cond4_word _).1 h))]
end

section
variable {tb : Fin 9 → Tbl F} {ends : S32.Idx → BitVec 32} (p : Plan tb ends) (hs : Sched tb) (X : FVec F S557056x128 .f32) (c : Dev nD)
  (gG : Buf (Elt F) ((c : Thread nD τ).loc main_arg11)) (gU : Buf (Elt F) ((c : Thread nD τ).loc main_arg12)) (gD : Buf (Elt F) ((c : Thread nD τ).loc main_arg13))
  (T : Cert.Pre_schedule.S32768x2048.Idx → F .f32)

/-- Every row's result is what its expert makes of it. -/
def Makes : Prop := ∀ (i : grid0.Coords) (x : S256x2048.Idx),
  (startsOf ends (ix32 (wVe tb i).toNat (hs.exp i))).toInt ≤ 256 * ((wVt tb i).toNat : ℤ) + (x 0).val →
  256 * ((wVt tb i).toNat : ℤ) + (x 0).val < (ends (ix32 (wVe tb i).toNat (hs.exp i))).toInt →
  yAt tb hs X c gG gU gD i x = T (gRow (wVt tb i).toNat (hs.tile i) x)

variable (hT : Makes (ends := ends) hs X c gG gU gD T)
include p hT

theorem opened_rows (n : ℕ) (hn : n < 160) (hlo : wLo tb (gi n) = 0#32) (d : Vec F S4352x128 .f32) (j : S4352x128.Idx)
    (h : (((j 0).val / 17 : ℕ) : ℤ) < (wHi tb (gi n)).toInt ∨ (j 0).val % 17 = 16) :
    firstC (yAt tb hs X c gG gU gD (gi n)) (wLo tb (gi n)) (wHi tb (gi n)) d j = xtile (pack T) (wVt tb (gi n)).toNat j := by
  by_cases h16 : (j 0).val % 17 = 16
  · rw [first_pad _ _ _ _ _ h16, pack_pad _ _ _ h16]
  · have hc : (j 0).val % 17 < 16 := by omega
    have h := h.resolve_right h16
    have h0 : (wLo tb (gi n)).toInt ≤ ((rowOf j 0).val : ℕ) := by rw [hlo]; show (0 : ℤ) ≤ _; omega
    obtain ⟨a, b⟩ := row_owned p hs n hn (rowOf j 0).val h0 h
    rw [first_row _ _ _ _ _ _ hc rfl, pack_row T _ (hs.tile _) j _ hc rfl, if_pos ((mask_iff _ _ _).2 ⟨h0, h⟩)]
    exact hT _ _ a b

theorem outs_rows : ∀ (n : ℕ), n < 160 → ∀ j : S4352x128.Idx,
    ((((j 0).val / 17 : ℕ) : ℤ) < (wHi tb (gi n)).toInt ∨ (j 0).val % 17 = 16) →
    outs tb hs X c gG gU gD n j = xtile (pack T) (wVt tb (gi n)).toNat j := by
  intro n
  induction n with
  | zero =>
    intro hn j h
    obtain ⟨-, hf, hv, hlo, -⟩ := p.first (gi 0) (gi_val 0 hn)
    show visitC tb (gi 0) _ _ j = _
    rw [visit_first _ _ _ _ hv hf]
    exact opened_rows p hs X c gG gU gD T hT 0 hn hlo _ j h
  | succ n ih =>
    intro hn j h
    have hij := succ_gi p hs n hn
    show visitC tb (gi (n + 1)) _ _ j = _
    by_cases hf : wFirst tb (gi (n + 1)) = 1#32
    · obtain ⟨-, -, hlo, hv⟩ := p.opened _ _ hij hf
      rw [visit_first _ _ _ _ hv hf]
      exact opened_rows p hs X c gG gU gD T hT (n + 1) hn hlo _ j h
    · obtain ⟨hf0, ht, hlo, hhi⟩ := p.stayed _ _ hij hf
      have ih := ih (by omega) j
      by_cases hv : wValid tb (gi (n + 1)) = 1#32
      · rw [visit_more _ _ _ _ hv hf0]
        by_cases h16 : (j 0).val % 17 = 16
        · rw [more_pad _ _ _ _ _ h16, ht]; exact ih (.inr h16)
        · have hc : (j 0).val % 17 < 16 := by omega
          have h := h.resolve_right h16
          rw [more_row _ _ _ _ _ _ hc rfl]
          by_cases hm : k0_pay6 (F := F) (wLo tb (gi (n + 1))) (wHi tb (gi (n + 1))) (rowM (rowOf j)) = 1#1
          · obtain ⟨m0, m1⟩ := (mask_iff _ _ _).1 hm
            obtain ⟨a, b⟩ := row_owned p hs (n + 1) hn (rowOf j 0).val m0 m1
            rw [if_pos hm, pack_row T _ (hs.tile _) j _ hc rfl]
            exact hT _ _ a b
          · rw [if_neg hm, ht]
            refine ih (.inl ?_)
            rw [← hlo hv]
            by_contra hge
            exact hm ((mask_iff _ _ _).2 ⟨by push Not at hge; exact hge, h⟩)
      · rw [visit_skip _ _ _ _ hv, ht]
        exact ih (by rw [← hhi hv]; exact h)

/-- Before the next tile opens, and at the end, a tile is complete. -/
theorem outs_full (n : ℕ) (hn : n < 160) (h : n + 1 = 160 ∨ (n + 1 < 160 ∧ wVt tb (gi (n + 1)) ≠ wVt tb (gi n))) :
    outs tb hs X c gG gU gD n = xtile (pack T) (wVt tb (gi n)).toNat := by
  have hh : wHi tb (gi n) = 256#32 := by
    rcases h with h | ⟨h, h'⟩
    · exact (p.last (gi n) (by rw [gi_val n hn]; omega)).2.1
    · have hij := succ_gi p hs n h
      by_cases hf : wFirst tb (gi (n + 1)) = 1#32
      · exact (p.opened _ _ hij hf).1
      · exact absurd (p.stayed _ _ hij hf).2.1 h'
  funext j
  refine outs_rows p hs X c gG gU gD T hT n hn j (.inl ?_)
  have hj : (j 0).val < 4352 := (j 0).isLt
  have e : (256#32).toInt = 256 := by decide
  rw [hh, e]; omega
end

/-- Every tile is visited. -/
theorem tile_visited {tb : Fin 9 → Tbl F} {ends : S32.Idx → BitVec 32} (p : Plan tb ends) (hs : Sched tb) :
    ∀ n, n < 160 → ∀ k, k ≤ (wVt tb (gi n)).toNat → ∃ q, q ≤ n ∧ (wVt tb (gi q)).toNat = k := by
  intro n
  induction n with
  | zero =>
    intro hn k hk
    have h0 := (p.first (gi 0) (gi_val 0 hn)).1
    refine ⟨0, le_refl _, ?_⟩
    rw [h0] at hk ⊢
    have : (0#32).toNat = 0 := rfl
    omega
  | succ n ih =>
    intro hn k hk
    have hij := succ_gi p hs n hn
    by_cases hle : k ≤ (wVt tb (gi n)).toNat
    · obtain ⟨q, hq, e⟩ := ih (by omega) k hle; exact ⟨q, by omega, e⟩
    · refine ⟨n + 1, le_refl _, ?_⟩
      by_cases hf : wFirst tb (gi (n + 1)) = 1#32
      · have e := (p.opened _ _ hij hf).2.1
        have l := hs.tile (gi n)
        rw [e, BitVec.toNat_add] at hk ⊢
        have : (1#32).toNat = 1 := rfl
        rw [this, Nat.mod_eq_of_lt (by omega)] at hk ⊢
        omega
      · rw [(p.stayed _ _ hij hf).2.1] at hk; omega

end Cert.Kernel2Ideal.Hand
-- ==== Proof.ExpertsArray.lean ====
/- The array the visits leave: every tile complete. -/
module

public import proofs.«01_k».proof.Proof.ExpertsTile
public import proofs.«01_k».proof.Proof.ExpertsLaunch
public import Idealize.ShloMosaic.Lib.Pipeline.Value
public import Idealize.ShloMosaic.Lib.Pipeline.Covers

@[expose] public section

set_option maxRecDepth 16384

noncomputable section

namespace Cert.Kernel2Ideal.Hand

open Cert.Kernel2Ideal Cert.Kernel2Ideal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ) (hs : Sched (tbM m)) (c : Dev nD)

theorem index_1 (t : Fin grid0.N) : ((cfgM m hs).win 1).index t = ![(wVt (tbM m) (gi t.val)).toNat, 0] := by
  show cc0_transform_4 k0_off1_inb numel1_S1 (pfOf (tbM m)) (grid0.coords t) = _
  rw [index_out, coords_gi]

theorem emb_1 (t : Fin grid0.N) (y : S4352x128.Idx) (a : Fin 2) :
    ((show S557056x128.Idx from (((cfgM m hs).win 1).blk t).view.emb y) a).val = (![(wVt (tbM m) (gi t.val)).toNat * 4352 + (y 0).val, (y 1).val] : Fin 2 → ℕ) a := by
  have e : cc0_transform_4 k0_off1_inb numel1_S1 (pfOf (tbM m)) (grid0.coords t) = ![(wVt (tbM m) (gi t.val)).toNat, 0] := by
    rw [index_out, coords_gi]
  fin_cases a
  · show (cc0_transform_4 k0_off1_inb numel1_S1 (pfOf (tbM m)) (grid0.coords t)) 0 * 4352 + 1 * (y 0).val = _
    rw [e]; show (wVt (tbM m) (gi t.val)).toNat * 4352 + 1 * (y 0).val = (wVt (tbM m) (gi t.val)).toNat * 4352 + (y 0).val; omega
  · show (cc0_transform_4 k0_off1_inb numel1_S1 (pfOf (tbM m)) (grid0.coords t)) 1 * 128 + 1 * (y 1).val = _
    rw [e]; show 0 * 128 + 1 * (y 1).val = (y 1).val; omega

theorem xtile_emb (X : FVec F S557056x128 .f32) (t : Fin grid0.N) (y : S4352x128.Idx) :
    xtile X (wVt (tbM m) (gi t.val)).toNat y = X ((((cfgM m hs).win 1).blk t).view.emb y) := by
  unfold xtile
  refine congrArg X (funext fun a => Fin.ext ?_)
  have h := emb_1 m hs t y a
  rw [h]
  have hk := hs.tile (gi t.val)
  fin_cases a
  · show (wVt (tbM m) (gi t.val)).toNat % 128 * 4352 + (y 0).val = (wVt (tbM m) (gi t.val)).toNat * 4352 + (y 0).val
    rw [Nat.mod_eq_of_lt hk]
  · rfl

/-- Some visit writes every element back. -/
theorem covered {ends : S32.Idx → BitVec 32} (p : Plan (tbM m) ends) (i : S557056x128.Idx) :
    ∃ t : Fin (cfgM m hs).N, ((cfgM m hs).win 1).flush t = true ∧ (i : ((cfgM m hs).win 1).arr.view.ty.Idx) ∈ (((cfgM m hs).win 1).blk t).view.set := by
  have hi : (i 0).val < 557056 := (i 0).isLt
  have hl : (wVt (tbM m) (gi 159)).toNat = 127 := by rw [(p.last (gi 159) (gi_val 159 (by decide))).1]; rfl
  obtain ⟨q, hq, e⟩ := tile_visited p hs 159 (by decide) ((i 0).val / 4352) (by omega)
  obtain ⟨t, -, hf, ht⟩ := ((cfgM m hs).win 1).exists_flush_same_index rfl (⟨q, by show q < grid0.N; rw [N_160]; omega⟩ : Fin grid0.N)
  refine ⟨t, hf, ?_⟩
  have hk : (wVt (tbM m) (gi t.val)).toNat = (i 0).val / 4352 := by
    have h : cc0_transform_4 k0_off1_inb numel1_S1 (pfOf (tbM m)) (grid0.coords t) = ![(wVt (tbM m) (gi q)).toNat, 0] := ht.trans (index_1 m hs _)
    rw [index_out, coords_gi] at h
    exact (congrFun h 0).trans e
  refine Finset.mem_map.2 ⟨((fun a => match a with | ⟨0, _⟩ => ⟨(i 0).val % 4352, Nat.mod_lt _ (by decide)⟩ | ⟨1, _⟩ => i 1) : S4352x128.Idx), Finset.mem_univ _, ?_⟩
  refine funext fun (a : Fin 2) => Fin.ext ((emb_1 m hs t _ a).trans ?_)
  fin_cases a
  · show (wVt (tbM m) (gi t.val)).toNat * 4352 + (i 0).val % 4352 = (i 0).val
    rw [hk]; omega
  · rfl

/-- The result array. -/
theorem array_pack {ends : S32.Idx → BitVec 32} (p : Plan (tbM m) ends) (T : Cert.Pre_schedule.S32768x2048.Idx → F .f32)
    (hT : Makes (ends := ends) hs (xs m c) c (V m c main_arg11) (V m c main_arg12) (V m c main_arg13) T) :
    (dats m hs 0 c).arrAt 1 (cfgM m hs).N = (pack T : (⟨S557056x128, .f32⟩ : BufTy).Contents (Elt F)) := by
  funext i
  refine (dats m hs 0 c).arrAt_forall_of_cover 1 (fun i v => v = pack T i) (fun t hf y => ?_) (fun i => covered m hs p i) i
  exact (congrFun (outs_full p hs (xs m c) c _ _ _ T hT t.val (by rw [← N_160]; exact t.isLt) (flush_moves m hs t hf)) y).trans (xtile_emb m hs (pack T) t y)

end Cert.Kernel2Ideal.Hand

end
-- ==== Proof.ExpertsRef.lean ====
/- The plain experts over the extended reals, read entry by entry. -/
module

public import proofs.«01_k».proof.Proof.Gen.Reference2Ideal.Read
public import Idealize.ShloMosaic.Lib.Pointwise
public import Idealize.ShloMosaic.Lib.IdealHost

@[expose] public section

set_option maxRecDepth 16384

noncomputable section

namespace Cert.Reference2Ideal.Hand

open Cert.Reference2Ideal Cert.Reference2Ideal.Gen Cert.Reference2Ideal.Read
open Idealize.ShloMosaic

abbrev AX := (⟨S32768x2048, .f32⟩ : BufTy).Contents (Elt Ideal)
abbrev AW := (⟨S2x32x2048x512, .f32⟩ : BufTy).Contents (Elt Ideal)
abbrev AD := (⟨S2x32x512x2048, .f32⟩ : BufTy).Contents (Elt Ideal)
abbrev AE := (⟨S32, .i32⟩ : BufTy).Contents (Elt Ideal)

/-- A row against a column of an expert's weights. -/
def lin (x : AX) (w : AW) (R : Fin 32768) (e : Fin 32) (f : Fin 512) : EReal :=
  ∑ k : Fin 2048, (x (ix2 R k) : EReal) * w (ix4 0 e k f)

/-- A hidden unit of an expert. -/
def hid (x : AX) (wg wu : AW) (R : Fin 32768) (e : Fin 32) (f : Fin 512) : EReal :=
  lin x wg R e f * Ideal.logistic (lin x wg R e f) * lin x wu R e f

/-- Whether a row is an expert's. -/
def combOf (ends : AE) (R : Fin 32768) (e : Fin 32) : EReal := val_main_v14 (F := Ideal) ends (ix2 R e)

theorem gate_apply (x : AX) (w : AW) (R : Fin 32768) (e : Fin 32) (f : Fin 512) :
    (val_main_v17 (F := Ideal) x w (ix3 R e f) : EReal) = lin x w R e f := by
  have := e.isLt; have := f.isLt
  rw [val_main_v17_apply]
  refine Finset.sum_congr rfl fun k _ => ?_
  have := k.isLt
  rw [val_main_v16_apply, val_main_v15_apply]
  refine congrArg₂ (· * ·) (congrArg x (funext fun a => ?_)) (congrArg w (funext fun a => ?_))
  · fin_cases a <;> rfl
  · apply Fin.ext
    fin_cases a
    · rfl
    · show ((e.val * 2048 + k.val) * 512 + f.val) / 1048576 % 32 = e.val; omega
    · show ((e.val * 2048 + k.val) * 512 + f.val) / 512 % 2048 = k.val; omega
    · show ((e.val * 2048 + k.val) * 512 + f.val) % 512 = f.val; omega

theorem up_apply (x : AX) (w : AW) (R : Fin 32768) (e : Fin 32) (f : Fin 512) :
    (val_main_v20 (F := Ideal) x w (ix3 R e f) : EReal) = lin x w R e f := gate_apply x w R e f

theorem one_bits : Ideal.ofBits .f32 0x3F800000#32 = 1 := Ideal.ofBits_one_f32

theorem hid_apply (ends : AE) (x : AX) (wg wu : AW) (R : Fin 32768) (e : Fin 32) (f : Fin 512) :
    (val_main_v25 (F := Ideal) ends x wg wu (ix3 R e f) : EReal) = hid x wg wu R e f * combOf ends R e := by
  have h2 : (val_main_call0_v5 (F := Ideal) x wg (ix3 R e f) : EReal) = Ideal.logistic (lin x wg R e f) := by
    rw [val_main_call0_v5_apply, val_main_call0_v4_apply, val_main_call0_cst_0_apply, val_main_call0_v3_apply, val_main_call0_v2_apply, val_main_call0_cst_apply, val_main_call0_v1_apply, val_main_call0_v0_apply]
    show Ideal.div (Ideal.ofBits .f32 0x3F800000#32) (Ideal.ofBits .f32 0x3F800000#32 + Ideal.exp (- (val_main_v17 (F := Ideal) x wg (ix3 R e f) : EReal))) = _
    rw [one_bits, gate_apply]; rfl
  rw [val_main_v25_apply, val_main_v22_apply, val_main_v21_apply, val_main_v24_apply, val_main_v23_apply]
  show ((val_main_v17 (F := Ideal) x wg (ix3 R e f) : EReal) * val_main_call0_v5 (F := Ideal) x wg (ix3 R e f) * val_main_v20 (F := Ideal) x wu (ix3 R e f)) * val_main_v14 (F := Ideal) ends _ = _
  rw [gate_apply, h2, up_apply]
  unfold hid combOf
  refine congrArg₂ (· * ·) rfl (congrArg _ (funext fun a => ?_))
  fin_cases a <;> rfl

theorem down_apply (w : AD) (e : Fin 32) (f : Fin 512) (d : Fin 2048) :
    (val_main_v27 (F := Ideal) w (ix3 e f d) : EReal) = w (ix4 0 e f d) := by
  have := e.isLt; have := f.isLt; have := d.isLt
  rw [val_main_v27_apply, val_main_v26_apply]
  refine congrArg w (funext fun a => ?_)
  apply Fin.ext
  fin_cases a
  · rfl
  · show ((e.val * 512 + f.val) * 2048 + d.val) / 1048576 % 32 = e.val; omega
  · show ((e.val * 512 + f.val) * 2048 + d.val) / 2048 % 512 = f.val; omega
  · show ((e.val * 512 + f.val) * 2048 + d.val) % 2048 = d.val; omega

local notation "𝔡" => dot_S32768x32x512_S32x512x2048_S32768x2048_12_01_0_2_n_n

/-- The index of an expert's hidden unit among the contracted. -/
def con (e : Fin 32) (f : Fin 512) : (𝔡).contr.Idx := fun a => match a with
  | ⟨0, _⟩ => e
  | ⟨1, _⟩ => f

theorem con_surj (q : (𝔡).contr.Idx) : ∃ e f, q = con e f :=
  ⟨q ⟨0, by decide⟩, q ⟨1, by decide⟩, funext fun (a : Fin 2) => by fin_cases a <;> rfl⟩

theorem lhs_con (R : Fin 32768) (d : Fin 2048) (e : Fin 32) (f : Fin 512) : (𝔡).lhsIdx (ix2 R d) (con e f) = ix3 R e f := by
  funext a
  apply Fin.ext
  fin_cases a <;> rfl

theorem rhs_con (R : Fin 32768) (d : Fin 2048) (e : Fin 32) (f : Fin 512) : (𝔡).rhsIdx (ix2 R d) (con e f) = ix3 e f d := by
  funext a
  apply Fin.ext
  fin_cases a <;> rfl

/-- A row's result is its one expert's. -/
theorem row_apply (ends : AE) (x : AX) (wg wu : AW) (wd : AD) (R : Fin 32768) (d : Fin 2048) (e : Fin 32)
    (h1 : combOf ends R e = 1) (h0 : ∀ e', e' ≠ e → combOf ends R e' = 0) :
    (val_main_v28 (F := Ideal) ends x wg wu wd (ix2 R d) : EReal) = ∑ f : Fin 512, hid x wg wu R e f * wd (ix4 0 e f d) := by
  unfold val_main_v28
  simp only [Host.dotGeneral]
  rw [Ideal.dotGeneral_apply]
  symm
  refine Fintype.sum_of_injective (con e) (fun f g h => ?_) _ _ (fun q hq => ?_) (fun f => ?_)
  · exact congrFun h ⟨1, by decide⟩
  · obtain ⟨e', f, rfl⟩ := con_surj q
    have hne : e' ≠ e := fun h => hq ⟨f, by rw [h]⟩
    rw [lhs_con, hid_apply, h0 e' hne]
    exact (congrArg (· * _) (mul_zero _)).trans (zero_mul _)
  · rw [lhs_con, rhs_con, hid_apply, down_apply, h1, mul_one]

end Cert.Reference2Ideal.Hand

end
-- ==== Proof.ExpertsValue.lean ====
/- The experts' result over the extended reals is the plain one's. -/
module

public import proofs.«01_k».proof.Proof.ExpertsArray
public import proofs.«01_k».proof.Proof.ExpertsRef
public import Idealize.ShloMosaic.Lib.Pointwise.SelectCore
public import Idealize.ShloMosaic.Lib.IdealHost
public import Idealize.ShloMosaic.Lib.ValueLayout

@[expose] public section

set_option maxRecDepth 16384

noncomputable section

namespace Cert.Kernel2Ideal.Hand

open Cert.Kernel2Ideal Cert.Kernel2Ideal.Gen
open Idealize.ShloMosaic Idealize.ShloMosaic.TcCoe
open Cert.Reference2Ideal.Hand (lin hid combOf)
open Cert.Reference2Ideal.Read

/-! ## Which rows are an expert's -/

theorem starts_v2 (ends : S32.Idx → BitVec 32) (k : S32.Idx) : val_main_v2 (F := Ideal) ends k = startsOf ends k :=
  starts_eq ends _ _ k

theorem row_word_int (R : Fin 32768) : (BitVec.ofNat 32 R.val).toInt = R.val :=
  WordCmp.toInt_ofNat_of_lt (by have := R.isLt; omega)

theorem comb_iff (ends : S32.Idx → BitVec 32) (R : Fin 32768) (e : Fin 32) :
    combOf ends R e = if (startsOf ends (ix32 e.val e.isLt)).toInt ≤ R.val ∧ (R.val : ℤ) < (ends (ix32 e.val e.isLt)).toInt then 1 else 0 := by
  have ea : (val_main_v8 (F := Ideal) ends (ix2 R e) = 1#1) ↔ (startsOf ends (ix32 e.val e.isLt)).toInt ≤ R.val := by
    rw [val_main_v8_apply, sle_iff, val_main_v6_apply, val_main_v5_apply, starts_v2, val_main_v7_apply, val_main_v4_apply, val_main_v3_apply]
    refine Iff.of_eq (congrArg₂ (· ≤ ·) (congrArg (fun k => (startsOf ends k).toInt) (funext fun a => by fin_cases a; rfl)) (row_word_int R))
  have eb : (val_main_v12 (F := Ideal) ends (ix2 R e) = 1#1) ↔ (R.val : ℤ) < (ends (ix32 e.val e.isLt)).toInt := by
    rw [val_main_v12_apply, slt_iff, val_main_v10_apply, val_main_v4_apply, val_main_v3_apply, val_main_v11_apply, val_main_v9_apply]
    refine Iff.of_eq (congrArg₂ (· < ·) (row_word_int R) (congrArg (fun k => (ends k).toInt) (funext fun a => by fin_cases a; rfl)))
  have ec := (IntOp.andi_eq_one (c := val_main_v8 (F := Ideal) ends (ix2 R e)) (d := val_main_v12 (F := Ideal) ends (ix2 R e))).trans (and_congr ea eb)
  unfold combOf
  rw [val_main_v14_apply, val_main_v13_apply]
  by_cases h : (startsOf ends (ix32 e.val e.isLt)).toInt ≤ R.val ∧ (R.val : ℤ) < (ends (ix32 e.val e.isLt)).toInt
  · rw [if_pos h, ec.2 h]
    show (((1#1 : BitVec 1).toNat : ℝ) : EReal) = 1
    norm_num
  · rw [if_neg h]
    have : IntOp.andi (val_main_v8 (F := Ideal) ends (ix2 R e)) (val_main_v12 (F := Ideal) ends (ix2 R e)) = 0#1 := by
      rcases BitVec.eq_zero_or_eq_one (IntOp.andi (val_main_v8 (F := Ideal) ends (ix2 R e)) (val_main_v12 (F := Ideal) ends (ix2 R e))) with q | q
      · exact q
      · exact absurd (ec.1 q) h
    rw [this]
    show (((0#1 : BitVec 1).toNat : ℝ) : EReal) = 0
    norm_num

section
variable {tb : Fin 9 → Tbl Ideal} {ends : S32.Idx → BitVec 32} (p : Plan tb ends)
include p

theorem ends_mono (a : ℕ) : ∀ (d : ℕ) (h : a + d < 32), (ends (ix32 a (by omega))).toInt ≤ (ends (ix32 (a + d) h)).toInt
  | 0, _ => le_refl _
  | d + 1, h => (ends_mono a d (by omega)).trans (p.sorted (ix32 (a + d) (by omega)) (ix32 (a + (d + 1)) h) rfl)

theorem starts_after (a b : ℕ) (hb : b < 32) (h : a < b) : (ends (ix32 a (by omega))).toInt ≤ (startsOf ends (ix32 b hb)).toInt := by
  unfold startsOf
  rw [dif_neg (show ¬ (ix32 b hb 0).val = 0 by show ¬ b = 0; omega)]
  obtain ⟨d, rfl⟩ : ∃ d, b = a + d + 1 := ⟨b - a - 1, by omega⟩
  exact ends_mono p a d (by omega)

/-- A row is one expert's. -/
theorem one_owner (R : Fin 32768) (e : Fin 32) (h : (startsOf ends (ix32 e.val e.isLt)).toInt ≤ R.val ∧ (R.val : ℤ) < (ends (ix32 e.val e.isLt)).toInt) :
    combOf ends R e = 1 ∧ ∀ e', e' ≠ e → combOf ends R e' = 0 := by
  refine ⟨by rw [comb_iff, if_pos h], fun e' hne => ?_⟩
  rw [comb_iff, if_neg]
  rintro ⟨h1, h2⟩
  rcases lt_or_gt_of_ne (fun q => hne (Fin.ext q) : e'.val ≠ e.val) with q | q
  · have := starts_after p e'.val e.val e.isLt q; omega
  · have := starts_after p e.val e'.val e'.isLt q; omega
end

/-! ## A visit's products -/

theorem prod_apply (X : FVec Ideal S256x2048 .f32) (g u : FVec Ideal S2048x512 .bf16) (w : FVec Ideal S512x2048 .bf16) (r : Fin 256) (d : Fin 2048) :
    (k0_pay5 (F := Ideal) X g u w (ix2 r d) : EReal) = ∑ f : Fin 512, ((∑ k : Fin 2048, (X (ix2 r k) : EReal) * g (ix2 k f)) * Ideal.logistic (∑ k : Fin 2048, (X (ix2 r k) : EReal) * g (ix2 k f)) * (∑ k : Fin 2048, (X (ix2 r k) : EReal) * u (ix2 k f))) * w (ix2 f d) := by
  pointwise [k0_pay5]

theorem squeeze_two {a b : ℕ} (h : (⟨2, ![a, b]⟩ : Shape).numel = (⟨4, ![1, 1, a, b]⟩ : Shape).numel) (x : Fin a) (y : Fin b) :
    Shape.reshapeEquiv h (ix2 x y) = ix4 (0 : Fin 1) (0 : Fin 1) x y :=
  ValueIdx.reshapeEquiv_ix2_11ab h x y

/-- An expert's slice, as the kernel keeps it. -/
theorem gate_tile (c : Dev nD) (g : Buf (Elt Ideal) ((c : Thread nD τ).loc main_arg11)) (e : BitVec 32) (he : e.toNat < 32) (k : Fin 2048) (f : Fin 512) :
    (k0_pay1 (tileG c g e he) (ix2 k f) : EReal) = (show FVec Ideal S2x32x2048x512 .f32 from g) (ix4 0 ⟨e.toNat, he⟩ k f) := by
  unfold k0_pay1
  rw [shapeCast_self]
  show tileG c g e he (Shape.reshapeEquiv _ (ix2 k f)) = _
  unfold tileG
  rw [Shape.reshapeEquiv_symm, Shape.reshapeEquiv_reshapeEquiv, Shape.reshapeEquiv_self]
  show g ((Rect.unit (s := S2x32x2048x512) (k0_off6 e) S1x1x2048x512.size (inb_exp e he)).emb (Shape.reshapeEquiv _ (ix2 k f))) = _
  rw [squeeze_two]
  refine congrArg g (funext fun a => Fin.ext ?_)
  fin_cases a
  · rfl
  · show e.toNat + 1 * 0 = e.toNat; omega
  · show 0 + 1 * k.val = k.val; omega
  · show 0 + 1 * f.val = f.val; omega

theorem up_tile (c : Dev nD) (g : Buf (Elt Ideal) ((c : Thread nD τ).loc main_arg12)) (e : BitVec 32) (he : e.toNat < 32) (k : Fin 2048) (f : Fin 512) :
    (k0_pay2 (tileU c g e he) (ix2 k f) : EReal) = (show FVec Ideal S2x32x2048x512 .f32 from g) (ix4 0 ⟨e.toNat, he⟩ k f) := gate_tile c g e he k f

theorem down_tile (c : Dev nD) (g : Buf (Elt Ideal) ((c : Thread nD τ).loc main_arg13)) (e : BitVec 32) (he : e.toNat < 32) (f : Fin 512) (d : Fin 2048) :
    (k0_pay3 (tileD c g e he) (ix2 f d) : EReal) = (show FVec Ideal S2x32x512x2048 .f32 from g) (ix4 0 ⟨e.toNat, he⟩ f d) := by
  unfold k0_pay3
  rw [shapeCast_self]
  show tileD c g e he (Shape.reshapeEquiv _ (ix2 f d)) = _
  unfold tileD
  rw [Shape.reshapeEquiv_symm, Shape.reshapeEquiv_reshapeEquiv, Shape.reshapeEquiv_self]
  show g ((Rect.unit (s := S2x32x512x2048) (k0_off10 e) S1x1x512x2048.size (inb_expD e he)).emb (Shape.reshapeEquiv _ (ix2 f d))) = _
  rw [squeeze_two]
  refine congrArg g (funext fun a => Fin.ext ?_)
  fin_cases a
  · rfl
  · show e.toNat + 1 * 0 = e.toNat; omega
  · show 0 + 1 * f.val = f.val; omega
  · show 0 + 1 * d.val = d.val; omega

/-! ## Packed rows -/

/-- Where the packed lines' entries stand among the rows' seventeen lines. -/
def idxPk (i : S557056x128.Idx) : S32768x17x128.Idx :=
  have h0 : (i 0).val < 557056 := (i 0).isLt
  have h1 : (i 1).val < 128 := (i 1).isLt
  ix3 (⟨((i 0).val * 128 + (i 1).val) / 2176, by omega⟩ : Fin 32768) (⟨((i 0).val * 128 + (i 1).val) / 128 % 17, by omega⟩ : Fin 17) (⟨((i 0).val * 128 + (i 1).val) % 128, by omega⟩ : Fin 128)

/-- Sixteen chunks and one of zeros are the packed rows. -/
theorem pack_eq (T : FVec Ideal S32768x2048 .f32) (h1 : S32768x2048.ShapeCasts S32768x16x128) (h2 : Shape.Concatenates [S32768x16x128, S32768x1x128] S32768x17x128 1)
    (h3 : S32768x17x128.ShapeCasts S557056x128) (z : FVec Ideal S32768x1x128 .f32) (hz : ∀ j, z j = zeroW (F := Ideal)) :
    shapeCast S557056x128 (concatenate S32768x17x128 1 [⟨S32768x16x128, shapeCast S32768x16x128 T h1⟩, ⟨S32768x1x128, z⟩] h2) h3 = pack T := by
  refine funext fun (i : S557056x128.Idx) => ?_
  have hi0 : (i 0).val < 557056 := (i 0).isLt
  have hi1 : (i 1).val < 128 := (i 1).isLt
  refine (shapeCast_apply _ h3 i (idxPk i) (by
    rewrite [Shape.rowMajor_val_three, Shape.rowMajor_val_two]
    show (((i 0).val * 128 + (i 1).val) / 2176 * 17 + ((i 0).val * 128 + (i 1).val) / 128 % 17) * 128 + ((i 0).val * 128 + (i 1).val) % 128 = (i 0).val * 128 + (i 1).val
    omega)).trans ?_
  have e1 : (idxPk i 1).val = (i 0).val % 17 := by show ((i 0).val * 128 + (i 1).val) / 128 % 17 = _; omega
  have e0 : (idxPk i 0).val = (i 0).val / 17 := by show ((i 0).val * 128 + (i 1).val) / 2176 = _; omega
  have e2 : (idxPk i 2).val = (i 1).val := by show ((i 0).val * 128 + (i 1).val) % 128 = _; omega
  unfold pack
  by_cases h : (i 0).val % 17 < 16
  · rw [dif_pos h]
    refine (concatenate_pair_apply_left 1 _ _ h2 _ rfl (ix3 (⟨(i 0).val / 17, by omega⟩ : Fin 32768) (⟨(i 0).val % 17, h⟩ : Fin 16) (⟨(i 1).val, hi1⟩ : Fin 128)) ?_).trans ?_
    · intro b; fin_cases b
      · exact e0.symm
      · exact e1.symm
      · exact e2.symm
    · refine shapeCast_apply T h1 _ (pkIdx i h) ?_
      rewrite [Shape.rowMajor_val_two, Shape.rowMajor_val_three]
      show (i 0).val / 17 * 2048 + (128 * ((i 0).val % 17) + (i 1).val) = ((i 0).val / 17 * 16 + (i 0).val % 17) * 128 + (i 1).val
      omega
  · rw [dif_neg h]
    refine (concatenate_pair_apply_right 1 _ _ h2 _ rfl rfl (ix3 (⟨(i 0).val / 17, by omega⟩ : Fin 32768) (0 : Fin 1) (⟨(i 1).val, hi1⟩ : Fin 128)) ?_ ?_).trans (hz _)
    · intro b hb; fin_cases b
      · exact e0.symm
      · exact absurd rfl hb
      · exact e2.symm
    · show 0 + 16 = (idxPk i 1).val
      rw [e1]; omega

/-- The packed rows without their last lines are the rows. -/
theorem unpack_pack (T : FVec Ideal S32768x2048 .f32) (h1 : S557056x128.ShapeCasts S32768x17x128) (h2 : S32768x17x128.Slices ![0, 0, 0] S32768x16x128)
    (h3 : S32768x16x128.ShapeCasts S32768x2048) :
    shapeCast S32768x2048 (extractStridedSlice S32768x16x128 ![0, 0, 0] (shapeCast S32768x17x128 (pack T) h1) h2) h3 = T := by
  refine funext fun (i : S32768x2048.Idx) => ?_
  have hi0 : (i 0).val < 32768 := (i 0).isLt
  have hi1 : (i 1).val < 2048 := (i 1).isLt
  have hm : (i 1).val % 128 < 128 := Nat.mod_lt _ (by decide)
  refine (shapeCast_apply _ h3 i (ix3 (⟨(i 0).val, hi0⟩ : Fin 32768) (⟨(i 1).val / 128, by omega⟩ : Fin 16) (⟨(i 1).val % 128, hm⟩ : Fin 128)) (by
    rewrite [Shape.rowMajor_val_three, Shape.rowMajor_val_two]
    show ((i 0).val * 16 + (i 1).val / 128) * 128 + (i 1).val % 128 = (i 0).val * 2048 + (i 1).val
    omega)).trans ?_
  refine (extractStridedSlice_apply _ _ h2 _ (ix3 (⟨(i 0).val, hi0⟩ : Fin 32768) (⟨(i 1).val / 128, by omega⟩ : Fin 17) (⟨(i 1).val % 128, hm⟩ : Fin 128)) (fun a => by
    fin_cases a
    · exact (Nat.zero_add _).symm
    · exact (Nat.zero_add _).symm
    · exact (Nat.zero_add _).symm)).trans ?_
  refine (shapeCast_apply _ h1 _ (ix2 (⟨(i 0).val * 17 + (i 1).val / 128, by omega⟩ : Fin 557056) (⟨(i 1).val % 128, hm⟩ : Fin 128)) (by
    rewrite [Shape.rowMajor_val_three, Shape.rowMajor_val_two]
    rfl)).trans ?_
  unfold pack
  have h : ((i 0).val * 17 + (i 1).val / 128) % 17 < 16 := by omega
  refine (dif_pos h).trans (congrArg T (funext fun a => Fin.ext ?_))
  fin_cases a
  · show ((i 0).val * 17 + (i 1).val / 128) / 17 = (i 0).val; omega
  · show 128 * (((i 0).val * 17 + (i 1).val / 128) % 17) + (i 1).val % 128 = (i 1).val; omega

theorem rows_piece (d : Vec Ideal S4352x128 .f32) (r : Fin 256) (q : Fin 2048) :
    rowsOf d (ix2 r q) = getC (q.val / 128) (by have := q.isLt; omega) d (ix2 r (⟨q.val % 128, Nat.mod_lt _ (by decide)⟩ : Fin 128)) := by
  unfold rowsOf k0_pay4 k0_pay40 k0_pay41 k0_pay42 k0_pay43 k0_pay44 k0_pay45 k0_pay46 k0_pay47 k0_pay48 k0_pay49 k0_pay50 k0_pay51 k0_pay52 k0_pay53 k0_pay54
  simp only [shapeCast_self]
  have hq := q.isLt
  refine concatenate_ofFn_apply (s₁ := S256x128) (t := S256x2048) 1 (fun n : Fin 16 => getC n.val (by have := n.isLt; omega) d) concatenates_S256x128_S256x128_S256x128_S256x128_S256x128_S256x128_S256x128_S256x128_S256x128_S256x128_S256x128_S256x128_S256x128_S256x128_S256x128_S256x128_S256x2048_d1 rfl 128 rfl (ix2 r q) ⟨q.val / 128, by omega⟩ rfl _ rfl ?_
  intro b hb
  fin_cases b
  · rfl
  · exact absurd rfl hb

/-- A tile's rows are the rows. -/
theorem rows_apply (T : FVec Ideal S32768x2048 .f32) (k : ℕ) (hk : k < 128) (r : Fin 256) (q : Fin 2048) :
    rowsOf (xtile (pack T) k) (ix2 r q) = T (ix2 (⟨256 * k + r.val, by have := r.isLt; omega⟩ : Fin 32768) q) := by
  have hq := q.isLt
  have hr := r.isLt
  have h128 : q.val % 128 < 128 := Nat.mod_lt _ (by decide)
  rw [rows_piece]
  unfold getC
  refine (pack_row T k hk _ (q.val / 128) (by omega) (show (q.val / 128 + 17 * r.val) % 17 = q.val / 128 by omega)).trans (congrArg T (funext fun a => Fin.ext ?_))
  fin_cases a
  · show 256 * k + (q.val / 128 + 17 * r.val) / 17 = 256 * k + r.val; omega
  · show 128 * (q.val / 128) + q.val % 128 = q.val; omega

/-! ## The result -/

section
variable (m : (ℓ : Loc nD τ sig) → Buf (Elt Ideal) ℓ) (c : Dev nD)

abbrev mEnds : S32.Idx → BitVec 32 := m ((c : Thread nD τ).loc main_arg9)
abbrev mX : FVec Ideal S32768x2048 .f32 := m ((c : Thread nD τ).loc main_arg10)
abbrev mG : FVec Ideal S2x32x2048x512 .f32 := m ((c : Thread nD τ).loc main_arg11)
abbrev mU : FVec Ideal S2x32x2048x512 .f32 := m ((c : Thread nD τ).loc main_arg12)
abbrev mD : FVec Ideal S2x32x512x2048 .f32 := m ((c : Thread nD τ).loc main_arg13)

/-- The rows as the kernel reads them. -/
theorem xs_pack : xs m c = pack (mX m c) := by
  refine Eq.trans ?_ (pack_eq (mX m c) shapeCasts_S32768x2048_S32768x16x128 concatenates_S32768x16x128_S32768x1x128_S32768x17x128_d1 shapeCasts_S32768x17x128_S557056x128
    (broadcastInDim S32768x1x128 ![] bcast_S_S32768x1x128 (constant (F := Ideal) S_ .f32 0x00000000#32)) (fun _ => rfl))
  show StableHlo.after hostOps0 (fun b => m (c, b)) (Proc.devRef .tc main_v3) = _
  after_results_simp; rfl

/-- What the experts make of every row. -/
abbrev rowsT : FVec Ideal S32768x2048 .f32 := val_main_v28 (F := Ideal) (mEnds m c) (mX m c) (mG m c) (mU m c) (mD m c)

theorem makes (hs : Sched (tbM m)) (p : Plan (tbM m) (mEnds m c)) :
    Makes (ends := mEnds m c) hs (xs m c) c (V m c main_arg11) (V m c main_arg12) (V m c main_arg13) (rowsT m c) := by
  intro i x h1 h2
  have hx0 : (x 0).val < 256 := (x 0).isLt
  have hx1 : (x 1).val < 2048 := (x 1).isLt
  have hk := hs.tile i
  have ex : x = ix2 (⟨(x 0).val, hx0⟩ : Fin 256) (⟨(x 1).val, hx1⟩ : Fin 2048) := funext fun a => by fin_cases a <;> rfl
  have eg : gRow (wVt (tbM m) i).toNat hk x = ix2 (⟨256 * (wVt (tbM m) i).toNat + (x 0).val, by omega⟩ : Fin 32768) (⟨(x 1).val, hx1⟩ : Fin 2048) := funext fun a => by fin_cases a <;> rfl
  obtain ⟨c1, c0⟩ := one_owner p (⟨256 * (wVt (tbM m) i).toNat + (x 0).val, by omega⟩ : Fin 32768) ⟨(wVe (tbM m) i).toNat, hs.exp i⟩
    ⟨by push_cast; exact h1, by push_cast; exact h2⟩
  rw [eg]
  refine Eq.trans ?_ (Cert.Reference2Ideal.Hand.row_apply (mEnds m c) (mX m c) (mG m c) (mU m c) (mD m c) _ ⟨(x 1).val, hx1⟩ _ c1 c0).symm
  refine (congrArg (yAt (tbM m) hs (xs m c) c (V m c main_arg11) (V m c main_arg12) (V m c main_arg13) i) ex).trans ?_
  unfold yAt prodC
  rw [prod_apply, V_same m c main_arg11 (by decide), V_same m c main_arg12 (by decide), V_same m c main_arg13 (by decide), xs_pack]
  unfold hid lin
  simp only [gate_tile, up_tile, down_tile, rows_apply _ _ hk]

/-- The result after the run is the plain experts'. -/
theorem result_eq (hs : Sched (tbM m)) (p : Plan (tbM m) (mEnds m c)) : T m hs c main_v7 = (rowsT m c : (⟨S32768x2048, .f32⟩ : BufTy).Contents (Elt Ideal)) := by
  rw [T_result, array_pack m hs c p (rowsT m c) (makes m c hs p)]
  exact unpack_pack (rowsT m c) _ _ _

end

end Cert.Kernel2Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.BitsLaunch
public import proofs.«01_k».proof.Proof.Value
public import proofs.«01_k».proof.Proof.ExpertsBits
public import proofs.«01_k».proof.Proof.ExpertsValue
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_schedule
public import Idealize.ShloMosaic.Adequacy
public import Idealize.ShloMosaic.Init
public import Idealize.ShloMosaic.Lib.ReduceAll

@[expose] public section

noncomputable section

namespace Cert.Proof

open Idealize.ShloMosaic Idealize.SL.Sem Cert.Kernel

/-- A number whose absolute value is below plus infinity is a real number. -/
theorem real_of_abs_lt {x : EReal} (h : max x (-x) < ⊤) : x ≠ ⊤ ∧ x ≠ ⊥ := by
  constructor <;> rintro rfl <;> simp at h

theorem inf_word : Ideal.ofBits .f32 0x7F800000#32 = (⊤ : EReal) := by simp [Ideal.ofBits, Ideal.ieee]

/-- One array's half of the precondition: the comparison that is 1 at an index says that the entry there is real. -/
theorem real_of_cmp [Cert.Pre_finite.Facts] (a : FVec Ideal Cert.Pre_finite.S8x2048x4x128 .f32) (i : Cert.Pre_finite.S8x2048x4x128.Idx)
    (h : cmpf .olt (Host.absf a) (broadcastInDim Cert.Pre_finite.S8x2048x4x128 ![] Cert.Pre_finite.Facts.bcast_S_S8x2048x4x128
      (constant (F := Ideal) Cert.Pre_finite.S_ .f32 0x7F800000#32)) i = 1#1) : (a i : EReal) ≠ ⊤ ∧ (a i : EReal) ≠ ⊥ := by
  have e : BitVec.ofBool (decide (max (a i : EReal) (-(a i : EReal)) < Ideal.ofBits .f32 0x7F800000#32)) = 1#1 := h
  rw [inf_word] at e
  refine real_of_abs_lt ?_
  by_contra hn
  rw [decide_eq_false hn] at e
  exact absurd e (by decide)

/-- The precondition as printed says that every query and every key is a real number. -/
theorem fin_of_pre [Cert.Pre_finite.Facts] (a b v : FVec Ideal Cert.Pre_finite.S8x2048x4x128 .f32)
    (h : Cert.Pre_finite.fn (F := Ideal) a b v = fun _ => 1#1) :
    (∀ i, (a i : EReal) ≠ ⊤ ∧ (a i : EReal) ≠ ⊥) ∧ (∀ i, (b i : EReal) ≠ ⊤ ∧ (b i : EReal) ≠ ⊥) := by
  haveI : Subsingleton Cert.Pre_finite.S_.Idx := ⟨fun x y => funext fun d => d.elim0⟩
  have e := congrFun h (Shape.Idx.first Cert.Pre_finite.Facts.h_S_)
  dsimp only [Cert.Pre_finite.fn] at e
  obtain ⟨ea, eb⟩ := IntOp.andi_eq_one.1 e
  exact ⟨fun i => real_of_cmp a i (Host.reduce_andi_all _ _ _ _ _ ea i), fun i => real_of_cmp b i (Host.reduce_andi_all _ _ _ _ _ eb i)⟩

/-- The reference runs to its end, keeps its arguments, and declares no semaphore. -/
theorem ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel computes the plain attention. -/
theorem attention : Cert.algebraic_KernelIdeal_ReferenceIdeal_pre_finite := by
  intro m g m' g' hpre hag
  refine ⟨fun c => Cert.ReferenceIdeal.Read.val_main_v24 (F := Ideal) (Cert.KernelIdeal.Hand.q0 m c) (Cert.KernelIdeal.Hand.k0 m c) (Cert.KernelIdeal.Hand.v0 m c), ?_, ?_⟩
  · refine (θ_run Cert.KernelIdeal.defs _ _).mono (fun r h c => ⟨?_, h.2 c⟩)
      (θ_run_and (Cert.KernelIdeal.Hand.run_main_quiescent (F := Ideal) m g) (Cert.KernelIdeal.Hand.unchanged (F := Ideal) m g))
    exact ((h.1.1 c).1 3).trans (Cert.KernelIdeal.Hand.array_eq m c (fin_of_pre _ _ _ (hpre c)))
  · refine (θ_run Cert.ReferenceIdeal.defs _ _).mono (fun r h c => ⟨?_, (h c).2⟩) (Cert.ReferenceIdeal.Value.run (F := Ideal) m' g')
    obtain ⟨e0, e1, e2⟩ := hag c
    rw [(h c).1, Cert.ReferenceIdeal.Read.val_main_v24_eq, e0, e1, e2]

/-- The experts' reference runs to its end, keeps its arguments, and declares no semaphore. -/
theorem ref2_frame : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem experts_frame_ideal : Cert.quiescent_Kernel2Ideal := fun m g h =>
  Cert.Kernel2Ideal.Hand.frame m g (Cert.Kernel2Ideal.Hand.sched_of_plan _ _ (Cert.Kernel2Ideal.Hand.plan_of m (h 0)))

/-- The kernel's experts are the plain ones. -/
theorem experts : Cert.algebraic_Kernel2Ideal_Reference2Ideal := by
  intro m g m' g' hpre hag
  have p := Cert.Kernel2Ideal.Hand.plan_of m (hpre 0)
  have hs := Cert.Kernel2Ideal.Hand.sched_of_plan _ _ p
  refine ⟨fun c => Cert.Reference2Ideal.Read.val_main_v28 (F := Ideal) (Cert.Kernel2Ideal.Hand.mEnds m c) (Cert.Kernel2Ideal.Hand.mX m c)
    (Cert.Kernel2Ideal.Hand.mG m c) (Cert.Kernel2Ideal.Hand.mU m c) (Cert.Kernel2Ideal.Hand.mD m c), ?_, ?_⟩
  · refine (θ_run Cert.Kernel2Ideal.defs _ _).mono (fun r h c => ⟨?_, h.2.1 c⟩)
      (θ_run_and (Cert.Kernel2Ideal.Hand.run_main_quiescent (F := Ideal) m g hs) (Cert.Kernel2Ideal.Hand.frame (F := Ideal) m g hs))
    obtain rfl : c = 0 := Subsingleton.elim _ _
    exact ((h.1.1 0).2 Cert.Kernel2Ideal.main_v7 (Cert.Kernel2Ideal.Hand.arg_rest _ (by decide) (by decide))).trans (Cert.Kernel2Ideal.Hand.result_eq m 0 hs p)
  · refine (θ_run Cert.Reference2Ideal.defs _ _).mono (fun r h c => ⟨?_, (h c).2⟩) (Cert.Reference2Ideal.Value.run (F := Ideal) m' g')
    obtain ⟨-, -, -, -, -, -, -, -, -, e9, e10, e11, e12, e13⟩ := hag c
    rw [(h c).1, Cert.Reference2Ideal.Read.val_main_v28_eq, e9, e10, e11, e12, e13]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts, Cert.Pre_schedule.Gen.facts,
  fun m g _ => Cert.Kernel.Hand.frame m g, fun m g _ => Cert.KernelIdeal.Hand.frame m g, fun m g _ => Cert.KernelIdeal.Hand.frame m g,
  ref_frame, fun m g _ => ref_frame m g trivial,
  Cert.Kernel2.Hand.frame, experts_frame_ideal, ref2_frame, fun m g _ => ref2_frame m g trivial,
  IdealRules.named_const.statement Cert.KernelIdeal.κ "mask" .f32 0xF149F2CA#32 ⊥ rfl, attention, trivial, experts⟩

end Cert.Proof

end
